-- ==== Defs.lean ====
def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_RglruRefIdeal (m : (ℓ : Loc Cert.RglruRefIdeal.nD Cert.RglruRefIdeal.τ Cert.RglruRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7)
      ∧ r.2.mem ((c.tc : Thread Cert.Rglru.nD Cert.Rglru.τ).loc Cert.Rglru.main_arg8) = m ((c.tc : Thread Cert.Rglru.nD Cert.Rglru.τ).loc Cert.Rglru.main_arg8))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
      ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8))
      ∧ r.2.sem = fun _ => 0)

def quiescent_RglruRefIdeal [hRglruRefIdeal : Cert.RglruRefIdeal.Facts] : Prop :=
  ∀ (m : (ℓ : Loc Cert.RglruRefIdeal.nD Cert.RglruRefIdeal.τ Cert.RglruRefIdeal.sig) → Buf (Elt Ideal) ℓ) (g : Dev Cert.RglruRefIdeal.nD → PrngReg), Pre_RglruRefIdeal m →
    θ_run (Cert.RglruRefIdeal.defs (F := Ideal)) (onTc (τ := Cert.RglruRefIdeal.τ) (Cert.RglruRefIdeal.main (F := Ideal))) ⟨m, fun _ => 0, g⟩ (fun r => (∀ c : Dev Cert.RglruRefIdeal.nD,
      r.2.mem ((c.tc : Thread Cert.RglruRefIdeal.nD Cert.RglruRefIdeal.τ).loc Cert.RglruRefIdeal.main_arg0) = m ((c.tc : Thread Cert.RglruRefIdeal.nD Cert.RglruRefIdeal.τ).loc Cert.RglruRefIdeal.main_arg0)
      ∧ r.2.mem ((c.tc : Thread Cert.RglruRefIdeal.nD Cert.RglruRefIdeal.τ).loc Cert.RglruRefIdeal.main_arg1) = m ((c.tc : Thread Cert.RglruRefIdeal.nD Cert.RglruRefIdeal.τ).loc Cert.RglruRefIdeal.main_arg1)
      ∧ r.2.mem ((c.tc : Thread Cert.RglruRefIdeal.nD Cert.RglruRefIdeal.τ).loc Cert.RglruRefIdeal.main_arg2) = m ((c.tc : Thread Cert.RglruRefIdeal.nD Cert.RglruRefIdeal.τ).loc Cert.RglruRefIdeal.main_arg2)
      ∧ r.2.mem ((c.tc : Thread Cert.RglruRefIdeal.nD Cert.RglruRefIdeal.τ).loc Cert.RglruRefIdeal.main_arg3) = m ((c.tc : Thread Cert.RglruRefIdeal.nD Cert.RglruRefIdeal.τ).loc Cert.RglruRefIdeal.main_arg3)
      ∧ r.2.mem ((c.tc : Thread Cert.RglruRefIdeal.nD Cert.RglruRefIdeal.τ).loc Cert.RglruRefIdeal.main_arg4) = m ((c.tc : Thread Cert.RglruRefIdeal.nD Cert.RglruRefIdeal.τ).loc Cert.RglruRefIdeal.main_arg4)
      ∧ r.2.mem ((c.tc : Thread Cert.RglruRefIdeal.nD Cert.RglruRefIdeal.τ).loc Cert.RglruRefIdeal.main_arg5) = m ((c.tc : Thread Cert.RglruRefIdeal.nD Cert.RglruRefIdeal.τ).loc Cert.RglruRefIdeal.main_arg5)
      ∧ r.2.mem ((c.tc : Thread Cert.RglruRefIdeal.nD Cert.RglruRefIdeal.τ).loc Cert.RglruRefIdeal.main_arg6) = m ((c.tc : Thread Cert.RglruRefIdeal.nD Cert.RglruRefIdeal.τ).loc Cert.RglruRefIdeal.main_arg6)
      ∧ r.2.mem ((c.tc : Thread Cert.RglruRefIdeal.nD Cert.RglruRefIdeal.τ).loc Cert.RglruRefIdeal.main_arg7) = m ((c.tc : Thread Cert.RglruRefIdeal.nD Cert.RglruRefIdeal.τ).loc Cert.RglruRefIdeal.main_arg7)
      ∧ r.2.mem ((c.tc : Thread Cert.RglruRefIdeal.nD Cert.RglruRefIdeal.τ).loc Cert.RglruRefIdeal.main_arg8) = m ((c.tc : Thread Cert.RglruRefIdeal.nD Cert.RglruRefIdeal.τ).loc Cert.RglruRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Rglru_RglruIdeal : Prop :=
  True

def algebraic_RglruIdeal_RglruRefIdeal [hRglruIdeal : Cert.RglruIdeal.Facts] [hRglruRefIdeal : Cert.RglruRefIdeal.Facts] : Prop :=
  ∀ (m : (ℓ : Loc Cert.RglruIdeal.nD Cert.RglruIdeal.τ Cert.RglruIdeal.sig) → Buf (Elt Ideal) ℓ) (g : Dev Cert.RglruIdeal.nD → PrngReg)
    (m' : (ℓ : Loc Cert.RglruRefIdeal.nD Cert.RglruRefIdeal.τ Cert.RglruRefIdeal.sig) → Buf (Elt Ideal) ℓ) (g' : Dev Cert.RglruRefIdeal.nD → PrngReg), Pre_RglruIdeal m →
    (∀ c : Dev Cert.RglruIdeal.nD,
      m' ((c.tc : Thread Cert.RglruRefIdeal.nD Cert.RglruRefIdeal.τ).loc Cert.RglruRefIdeal.main_arg0) = m ((c.tc : Thread Cert.RglruIdeal.nD Cert.RglruIdeal.τ).loc Cert.RglruIdeal.main_arg0)
      ∧ m' ((c.tc : Thread Cert.RglruRefIdeal.nD Cert.RglruRefIdeal.τ).loc Cert.RglruRefIdeal.main_arg1) = m ((c.tc : Thread Cert.RglruIdeal.nD Cert.RglruIdeal.τ).loc Cert.RglruIdeal.main_arg1)
      ∧ m' ((c.tc : Thread Cert.RglruRefIdeal.nD Cert.RglruRefIdeal.τ).loc Cert.RglruRefIdeal.main_arg2) = m ((c.tc : Thread Cert.RglruIdeal.nD Cert.RglruIdeal.τ).loc Cert.RglruIdeal.main_arg2)
      ∧ m' ((c.tc : Thread Cert.RglruRefIdeal.nD Cert.RglruRefIdeal.τ).loc Cert.RglruRefIdeal.main_arg3) = m ((c.tc : Thread Cert.RglruIdeal.nD Cert.RglruIdeal.τ).loc Cert.RglruIdeal.main_arg3)
      ∧ m' ((c.tc : Thread Cert.RglruRefIdeal.nD Cert.RglruRefIdeal.τ).loc Cert.RglruRefIdeal.main_arg4) = m ((c.tc : Thread Cert.RglruIdeal.nD Cert.RglruIdeal.τ).loc Cert.RglruIdeal.main_arg4)
      ∧ m' ((c.tc : Thread Cert.RglruRefIdeal.nD Cert.RglruRefIdeal.τ).loc Cert.RglruRefIdeal.main_arg5) = m ((c.tc : Thread Cert.RglruIdeal.nD Cert.RglruIdeal.τ).loc Cert.RglruIdeal.main_arg5)
      ∧ m' ((c.tc : Thread Cert.RglruRefIdeal.nD Cert.RglruRefIdeal.τ).loc Cert.RglruRefIdeal.main_arg6) = m ((c.tc : Thread Cert.RglruIdeal.nD Cert.RglruIdeal.τ).loc Cert.RglruIdeal.main_arg6)
      ∧ m' ((c.tc : Thread Cert.RglruRefIdeal.nD Cert.RglruRefIdeal.τ).loc Cert.RglruRefIdeal.main_arg7) = m ((c.tc : Thread Cert.RglruIdeal.nD Cert.RglruIdeal.τ).loc Cert.RglruIdeal.main_arg7)
      ∧ m' ((c.tc : Thread Cert.RglruRefIdeal.nD Cert.RglruRefIdeal.τ).loc Cert.RglruRefIdeal.main_arg8) = m ((c.tc : Thread Cert.RglruIdeal.nD Cert.RglruIdeal.τ).loc Cert.RglruIdeal.main_arg8)) →
    ∃ (v0 : (c : Dev Cert.RglruIdeal.nD) → Buf (Elt Ideal) ((c.tc : Thread Cert.RglruIdeal.nD Cert.RglruIdeal.τ).loc Cert.RglruIdeal.main_v41)),
      θ_run (Cert.RglruIdeal.defs (F := Ideal)) (onTc (τ := Cert.RglruIdeal.τ) (Cert.RglruIdeal.main (F := Ideal))) ⟨m, fun _ => 0, g⟩ (fun r => ∀ c : Dev Cert.RglruIdeal.nD,
          r.2.mem ((c.tc : Thread Cert.RglruIdeal.nD Cert.RglruIdeal.τ).loc Cert.RglruIdeal.main_v41) = v0 c
          ∧ r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
          ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
          ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
          ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
          ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
          ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
          ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
          ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7)
          ∧ r.2.mem ((c.tc : Thread Cert.RglruIdeal.nD Cert.RglruIdeal.τ).loc Cert.RglruIdeal.main_arg8) = m ((c.tc : Thread Cert.RglruIdeal.nD Cert.RglruIdeal.τ).loc Cert.RglruIdeal.main_arg8))
      ∧ θ_run (Cert.RglruRefIdeal.defs (F := Ideal)) (onTc (τ := Cert.RglruRefIdeal.τ) (Cert.RglruRefIdeal.main (F := Ideal))) ⟨m', fun _ => 0, g'⟩ (fun r => ∀ c : Dev Cert.RglruRefIdeal.nD,
          r.2.mem ((c.tc : Thread Cert.RglruRefIdeal.nD Cert.RglruRefIdeal.τ).loc Cert.RglruRefIdeal.main_v117) = v0 c
          ∧ r.2.mem ((c.tc : Thread Cert.RglruRefIdeal.nD Cert.RglruRefIdeal.τ).loc Cert.RglruRefIdeal.main_arg0) = m' ((c.tc : Thread Cert.RglruRefIdeal.nD Cert.RglruRefIdeal.τ).loc Cert.RglruRefIdeal.main_arg0)
          ∧ r.2.mem ((c.tc : Thread Cert.RglruRefIdeal.nD Cert.RglruRefIdeal.τ).loc Cert.RglruRefIdeal.main_arg1) = m' ((c.tc : Thread Cert.RglruRefIdeal.nD Cert.RglruRefIdeal.τ).loc Cert.RglruRefIdeal.main_arg1)
          ∧ r.2.mem ((c.tc : Thread Cert.RglruRefIdeal.nD Cert.RglruRefIdeal.τ).loc Cert.RglruRefIdeal.main_arg2) = m' ((c.tc : Thread Cert.RglruRefIdeal.nD Cert.RglruRefIdeal.τ).loc Cert.RglruRefIdeal.main_arg2)
          ∧ r.2.mem ((c.tc : Thread Cert.RglruRefIdeal.nD Cert.RglruRefIdeal.τ).loc Cert.RglruRefIdeal.main_arg3) = m' ((c.tc : Thread Cert.RglruRefIdeal.nD Cert.RglruRefIdeal.τ).loc Cert.RglruRefIdeal.main_arg3)
          ∧ r.2.mem ((c.tc : Thread Cert.RglruRefIdeal.nD Cert.RglruRefIdeal.τ).loc Cert.RglruRefIdeal.main_arg4) = m' ((c.tc : Thread Cert.RglruRefIdeal.nD Cert.RglruRefIdeal.τ).loc Cert.RglruRefIdeal.main_arg4)
          ∧ r.2.mem ((c.tc : Thread Cert.RglruRefIdeal.nD Cert.RglruRefIdeal.τ).loc Cert.RglruRefIdeal.main_arg5) = m' ((c.tc : Thread Cert.RglruRefIdeal.nD Cert.RglruRefIdeal.τ).loc Cert.RglruRefIdeal.main_arg5)
          ∧ r.2.mem ((c.tc : Thread Cert.RglruRefIdeal.nD Cert.RglruRefIdeal.τ).loc Cert.RglruRefIdeal.main_arg6) = m' ((c.tc : Thread Cert.RglruRefIdeal.nD Cert.RglruRefIdeal.τ).loc Cert.RglruRefIdeal.main_arg6)
          ∧ r.2.mem ((c.tc : Thread Cert.RglruRefIdeal.nD Cert.RglruRefIdeal.τ).loc Cert.RglruRefIdeal.main_arg7) = m' ((c.tc : Thread Cert.RglruRefIdeal.nD Cert.RglruRefIdeal.τ).loc Cert.RglruRefIdeal.main_arg7)
          ∧ r.2.mem ((c.tc : Thread Cert.RglruRefIdeal.nD Cert.RglruRefIdeal.τ).loc Cert.RglruRefIdeal.main_arg8) = m' ((c.tc : Thread Cert.RglruRefIdeal.nD Cert.RglruRefIdeal.τ).loc Cert.RglruRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v63) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v7_0)) (v1 : (c : Dev Cert.OutProjIdeal.nD) → Buf (Elt Ideal) ((c.tc : Thread Cert.OutProjIdeal.nD Cert.OutProjIdeal.τ).loc Cert.OutProjIdeal.main_v7_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7_0) = v0 c
          ∧ r.2.mem ((c.tc : Thread Cert.OutProjIdeal.nD Cert.OutProjIdeal.τ).loc Cert.OutProjIdeal.main_v7_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v19) = v0 c
          ∧ r.2.mem ((c.tc : Thread Cert.OutProjRefIdeal.nD Cert.OutProjRefIdeal.τ).loc Cert.OutProjRefIdeal.main_v34) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_v22) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hRglru : Cert.Rglru.Facts) (hRglruIdeal : Cert.RglruIdeal.Facts) (hRglruRefIdeal : Cert.RglruRefIdeal.Facts) (hFfn : Cert.Ffn.Facts) (hFfnIdeal : Cert.FfnIdeal.Facts) (hFfnRefIdeal : Cert.FfnRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts),
    quiescent_Rglru (hRglru := hRglru)
    ∧ quiescent_RglruIdeal (hRglruIdeal := hRglruIdeal)
    ∧ quiescent_RglruRefIdeal (hRglruRefIdeal := hRglruRefIdeal)
    ∧ quiescent_Ffn (hFfn := hFfn)
    ∧ quiescent_FfnIdeal (hFfnIdeal := hFfnIdeal)
    ∧ quiescent_FfnRefIdeal (hFfnRefIdeal := hFfnRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ preserves_Rglru_RglruIdeal
    ∧ algebraic_RglruIdeal_RglruRefIdeal (hRglruIdeal := hRglruIdeal) (hRglruRefIdeal := hRglruRefIdeal)
    ∧ preserves_Ffn_FfnIdeal
    ∧ algebraic_FfnIdeal_FfnRefIdeal (hFfnIdeal := hFfnIdeal) (hFfnRefIdeal := hFfnRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
-- ==== Rglru.lean ====
abbrev S32768x2176 : Shape := ⟨2, ![32768, 2176]⟩
abbrev S1x4x1024 : Shape := ⟨3, ![1, 4, 1024]⟩
abbrev S1x1024 : Shape := ⟨2, ![1, 1024]⟩
abbrev S1x16x64x64 : Shape := ⟨4, ![1, 16, 64, 64]⟩
abbrev S4x1024 : Shape := ⟨2, ![4, 1024]⟩
abbrev S1024 : Shape := ⟨1, ![1024]⟩
abbrev S16x64x64 : Shape := ⟨3, ![16, 64, 64]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S32768x1024 : Shape := ⟨2, ![32768, 1024]⟩
abbrev S256x1024 : Shape := ⟨2, ![256, 1024]⟩
abbrev S8x1024 : Shape := ⟨2, ![8, 1024]⟩
abbrev S256x256 : Shape := ⟨2, ![256, 256]⟩
abbrev S8x256 : Shape := ⟨2, ![8, 256]⟩
abbrev S4x256 : Shape := ⟨2, ![4, 256]⟩
abbrev S1x256 : Shape := ⟨2, ![1, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 53
  | .vmem => 19
  | .smem => 0
  | _ => 0

abbrev bufTy : (tb : Table) → Fin (tcTables nBuf tb) → BufTy
  | .hbm, ⟨0, _⟩ => ⟨S32768x2176, .f32⟩
  | .hbm, ⟨1, _⟩ => ⟨S1x4x1024, .f32⟩
  | .hbm, ⟨2, _⟩ => ⟨S1x1024, .f32⟩
  | .hbm, ⟨3, _⟩ => ⟨S1x16x64x64, .f32⟩
  | .hbm, ⟨4, _⟩ => ⟨S1x1024, .f32⟩
  | .hbm, ⟨5, _⟩ => ⟨S1x16x64x64, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4x1024, .f32⟩
  | .hbm, ⟨10, _⟩ => ⟨S1024, .f32⟩
  | .hbm, ⟨11, _⟩ => ⟨S1x1024, .f32⟩
  | .hbm, ⟨12, _⟩ => ⟨S16x64x64, .f32⟩
  | .hbm, ⟨13, _⟩ => ⟨S4x4x64x64, .f32⟩
  | .hbm, ⟨14, _⟩ => ⟨S4x4, .i32⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S4x4, .f32⟩
  | .hbm, ⟨21, _⟩ => ⟨S4x4x64x1x64, .f32⟩
  | .hbm, ⟨22, _⟩ => ⟨S1x4x1x4x1, .f32⟩
  | .hbm, ⟨23, _⟩ => ⟨S4x4x64x4x64, .f32⟩
  | .hbm, ⟨24, _⟩ => ⟨S4x4x64x4x64, .f32⟩
  | .hbm, ⟨25, _⟩ => ⟨S4x4x64x4x64, .f32⟩
  | .hbm, ⟨26, _⟩ => ⟨S4x256x256, .f32⟩
  | .hbm, ⟨27, _⟩ => ⟨S4x256x256, .bf16⟩
  | .hbm, ⟨28, _⟩ => ⟨S1024, .f32⟩
  | .hbm, ⟨29, _⟩ => ⟨S1x1024, .f32⟩
  | .hbm, ⟨30, _⟩ => ⟨S16x64x64, .f32⟩
  | .hbm, ⟨31, _⟩ => ⟨S4x4x64x64, .f32⟩
  | .hbm, ⟨32, _⟩ => ⟨S4x4, .i32⟩
  | .hbm, ⟨33, _⟩ => ⟨S4x4, .i32⟩
  | .hbm, ⟨34, _⟩ => ⟨S_, .i32⟩
  | .hbm, ⟨35, _⟩ => ⟨S4x4, .i32⟩
  | .hbm, ⟨36, _⟩ => ⟨S4x4, .i32⟩
  | .hbm, ⟨37, _⟩ => ⟨S4x4, .i1⟩
  | .hbm, ⟨38, _⟩ => ⟨S4x4, .f32⟩
  | .hbm, ⟨39, _⟩ => ⟨S4x4x64x1x64, .f32⟩
  | .hbm, ⟨40, _⟩ => ⟨S1x4x1x4x1, .f32⟩
  | .hbm, ⟨41, _⟩ => ⟨S4x4x64x4x64, .f32⟩
  | .hbm, ⟨42, _⟩ => ⟨S4x4x64x4x64, .f32⟩
  | .hbm, ⟨43, _⟩ => ⟨S4x4x64x4x64, .f32⟩
  | .hbm, ⟨44, _⟩ => ⟨S4x256x256, .f32⟩
  | .hbm, ⟨45, _⟩ => ⟨S4x256x256, .bf16⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S8x1024, .f32⟩
  | .local _ .vmem, ⟨15, _⟩ => ⟨S8x1024, .f32⟩
  | .local _ .vmem, ⟨16, _⟩ => ⟨S256x256, .f32⟩
  | .local _ .vmem, ⟨17, _⟩ => ⟨S256x256, .f32⟩
  | .local _ .vmem, ⟨18, _⟩ => ⟨S256x1024, .f32⟩
  | _, _ => ⟨S32768x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_54 : BitVec 32 := 0#32
  let c32_i32 : BitVec 32 := 32#32
  let v164 : BitVec 32 := Scalar.addi c0_i32_54 c32_i32
  let c1_i32_55 : BitVec 32 := 1#32
  ⟨c0_i32_54, v164, c1_i32_55⟩
def k0_mult1 (k0_t1 : Fin k0_t1_loop.trips) : BitVec 32 :=
  let c0_i32_54 : BitVec 32 := 0#32
  let c1_i32_55 : BitVec 32 := 1#32
  let arg18 : BitVec 32 := Scf.iv c0_i32_54 c1_i32_55 k0_t1
  let c8_i32_264 : BitVec 32 := 8#32
  let v667 : BitVec 32 := Scalar.muli arg18 c8_i32_264
  v667
def k0_off1 (k0_t1 : Fin k0_t1_loop.trips) : Fin 2 → Nat :=
  let c0_i32_54 : BitVec 32 := 0#32
  let c1_i32_55 : BitVec 32 := 1#32
  let arg18 : BitVec 32 := Scf.iv c0_i32_54 c1_i32_55 k0_t1
  let c8_i32_264 : BitVec 32 := 8#32
  let v667 : BitVec 32 := Scalar.muli arg18 c8_i32_264
  let v668 : BitVec 32 := v667
  let v669 : Index := Scalar.indexCast v668
  let c0_265 : Index := 0#32
  ![v669.toNat, 0]
@[reducible] def k0_t2_loop : Scf.Loop 32 :=
  let c0_i32_115 : BitVec 32 := 0#32
  let c32_i32_116 : BitVec 32 := 32#32
  let v318 : BitVec 32 := Scalar.addi c0_i32_115 c32_i32_116
  let c1_i32_117 : BitVec 32 := 1#32
  ⟨c0_i32_115, v318, c1_i32_117⟩
def k0_mult2 (k0_t2 : Fin k0_t2_loop.trips) : BitVec 32 :=
  let c0_i32_115 : BitVec 32 := 0#32
  let c1_i32_117 : BitVec 32 := 1#32
  let arg18 : BitVec 32 := Scf.iv c0_i32_115 c1_i32_117 k0_t2
  let c8_i32_264 : BitVec 32 := 8#32
  let v667 : BitVec 32 := Scalar.muli arg18 c8_i32_264
  v667
def k0_off2 (k0_t2 : Fin k0_t2_loop.trips) : Fin 2 → Nat :=
  let c0_i32_115 : BitVec 32 := 0#32
  let c1_i32_117 : BitVec 32 := 1#32
  let arg18 : BitVec 32 := Scf.iv c0_i32_115 c1_i32_117 k0_t2
  let c8_i32_264 : BitVec 32 := 8#32
  let v667 : BitVec 32 := Scalar.muli arg18 c8_i32_264
  let v668 : BitVec 32 := v667
  let v669 : Index := Scalar.indexCast v668
  let c0_265 : Index := 0#32
  ![v669.toNat, 0]
@[reducible] def k0_t3_loop : Scf.Loop 32 :=
  let c0_i32_177 : BitVec 32 := 0#32
  let c32_i32_178 : BitVec 32 := 32#32
  let v472 : BitVec 32 := Scalar.addi c0_i32_177 c32_i32_178
  let c1_i32_179 : BitVec 32 := 1#32
  ⟨c0_i32_177, v472, c1_i32_179⟩
def k0_mult3 (k0_t3 : Fin k0_t3_loop.trips) : BitVec 32 :=
  let c0_i32_177 : BitVec 32 := 0#32
  let c1_i32_179 : BitVec 32 := 1#32
  let arg18 : BitVec 32 := Scf.iv c0_i32_177 c1_i32_179 k0_t3
  let c8_i32_264 : BitVec 32 := 8#32
  let v667 : BitVec 32 := Scalar.muli arg18 c8_i32_264
  v667
def k0_off3 (k0_t3 : Fin k0_t3_loop.trips) : Fin 2 → Nat :=
  let c0_i32_177 : BitVec 32 := 0#32
  let c1_i32_179 : BitVec 32 := 1#32
  let arg18 : BitVec 32 := Scf.iv c0_i32_177 c1_i32_179 k0_t3
  let c8_i32_264 : BitVec 32 := 8#32
  let v667 : BitVec 32 := Scalar.muli arg18 c8_i32_264
  let v668 : BitVec 32 := v667
  let v669 : Index := Scalar.indexCast v668
  let c0_265 : Index := 0#32
  ![v669.toNat, 0]
@[reducible] def k0_t4_loop : Scf.Loop 32 :=
  let c0_i32_239 : BitVec 32 := 0#32
  let c32_i32_240 : BitVec 32 := 32#32
  let v626 : BitVec 32 := Scalar.addi c0_i32_239 c32_i32_240
  let c1_i32_241 : BitVec 32 := 1#32
  ⟨c0_i32_239, v626, c1_i32_241⟩
def k0_mult4 (k0_t4 : Fin k0_t4_loop.trips) : BitVec 32 :=
  let c0_i32_239 : BitVec 32 := 0#32
  let c1_i32_241 : BitVec 32 := 1#32
  let arg18 : BitVec 32 := Scf.iv c0_i32_239 c1_i32_241 k0_t4
  let c8_i32_264 : BitVec 32 := 8#32
  let v667 : BitVec 32 := Scalar.muli arg18 c8_i32_264
  v667
def k0_off4 (k0_t4 : Fin k0_t4_loop.trips) : Fin 2 → Nat :=
  let c0_i32_239 : BitVec 32 := 0#32
  let c1_i32_241 : BitVec 32 := 1#32
  let arg18 : BitVec 32 := Scf.iv c0_i32_239 c1_i32_241 k0_t4
  let c8_i32_264 : BitVec 32 := 8#32
  let v667 : BitVec 32 := Scalar.muli arg18 c8_i32_264
  let v668 : BitVec 32 := v667
  let v669 : Index := Scalar.indexCast v668
  let c0_265 : Index := 0#32
  ![v669.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RglruRefIdeal.lean ====
abbrev S32768x2176 : Shape := ⟨2, ![32768, 2176]⟩
abbrev S1x4x1024 : Shape := ⟨3, ![1, 4, 1024]⟩
abbrev S1x1024 : Shape := ⟨2, ![1, 1024]⟩
abbrev S1x16x64x64 : Shape := ⟨4, ![1, 16, 64, 64]⟩
abbrev S16x2048x2176 : Shape := ⟨3, ![16, 2048, 2176]⟩
abbrev S16x2048x1024 : Shape := ⟨3, ![16, 2048, 1024]⟩
abbrev S4x1024 : Shape := ⟨2, ![4, 1024]⟩
abbrev S1024 : Shape := ⟨1, ![1024]⟩
abbrev S_ : Shape := ⟨0, ![]⟩
abbrev S16x2051x1024 : Shape := ⟨3, ![16, 2051, 1024]⟩
abbrev S1x1x1024 : Shape := ⟨3, ![1, 1, 1024]⟩
abbrev S16x64x64 : Shape := ⟨3, ![16, 64, 64]⟩
abbrev S16x2048x16x64 : Shape := ⟨4, ![16, 2048, 16, 64]⟩
abbrev S16x64x16x2048 : Shape := ⟨4, ![16, 64, 16, 2048]⟩
abbrev S16x1024 : Shape := ⟨2, ![16, 1024]⟩
abbrev S2048x16x1024 : Shape := ⟨3, ![2048, 16, 1024]⟩
abbrev S1x16x1024 : Shape := ⟨3, ![1, 16, 1024]⟩
abbrev S16x2048 : Shape := ⟨2, ![16, 2048]⟩
abbrev S16x2048x1 : Shape := ⟨3, ![16, 2048, 1]⟩
abbrev S32768x1024 : Shape := ⟨2, ![32768, 1024]⟩

abbrev nBuf : Space → Nat
  | .hbm => 180
  | .vmem => 0
  | .smem => 0
  | _ => 0

abbrev hbmTy0_0 (i : Nat) : BufTy := match i % 128 with
  | 0 => ⟨S32768x2176, .f32⟩
  | 1 => ⟨S1x4x1024, .f32⟩
  | 2 => ⟨S1x1024, .f32⟩
  | 3 => ⟨S1x16x64x64, .f32⟩
  | 4 => ⟨S1x1024, .f32⟩
  | 5 => ⟨S1x16x64x64, .f32⟩
  | 6 => ⟨S1x1024, .f32⟩
  | 7 => ⟨S1x1024, .f32⟩
  | 8 => ⟨S1x1024, .f32⟩
  | 9 => ⟨S16x2048x2176, .f32⟩
  | 10 => ⟨S16x2048x1024, .f32⟩
  | 11 => ⟨S4x1024, .f32⟩
  | 12 => ⟨S1024, .f32⟩
  | 13 => ⟨S_, .i32⟩
  | 14 => ⟨S_, .f32⟩
  | 15 => ⟨S16x2051x1024, .f32⟩
  | 16 => ⟨S1x1024, .f32⟩
  | 17 => ⟨S1024, .f32⟩
  | 18 => ⟨S16x2048x1024, .f32⟩
  | 19 => ⟨S1x1x1024, .f32⟩
  | 20 => ⟨S16x2048x1024, .f32⟩
  | 21 => ⟨S16x2048x1024, .f32⟩
  | 22 => ⟨S1x1024, .f32⟩
  | 23 => ⟨S1024, .f32⟩
  | 24 => ⟨S16x2048x1024, .f32⟩
  | 25 => ⟨S1x1x1024, .f32⟩
  | 26 => ⟨S16x2048x1024, .f32⟩
  | 27 => ⟨S16x2048x1024, .f32⟩
  | 28 => ⟨S16x2048x1024, .f32⟩
  | 29 => ⟨S1x1024, .f32⟩
  | 30 => ⟨S1024, .f32⟩
  | 31 => ⟨S16x2048x1024, .f32⟩
  | 32 => ⟨S1x1x1024, .f32⟩
  | 33 => ⟨S16x2048x1024, .f32⟩
  | 34 => ⟨S16x2048x1024, .f32⟩
  | 35 => ⟨S16x2048x1024, .f32⟩
  | 36 => ⟨S1x1024, .f32⟩
  | 37 => ⟨S1024, .f32⟩
  | 38 => ⟨S16x2048x1024, .f32⟩
  | 39 => ⟨S1x1x1024, .f32⟩
  | 40 => ⟨S16x2048x1024, .f32⟩
  | 41 => ⟨S16x2048x1024, .f32⟩
  | 42 => ⟨S16x2048x1024, .f32⟩
  | 43 => ⟨S1x1x1024, .f32⟩
  | 44 => ⟨S16x2048x1024, .f32⟩
  | 45 => ⟨S16x2048x1024, .f32⟩
  | 46 => ⟨S16x64x64, .f32⟩
  | 47 => ⟨S1024, .f32⟩
  | 48 => ⟨S16x64x64, .f32⟩
  | 49 => ⟨S1024, .f32⟩
  | 50 => ⟨S1024, .f32⟩
  | 51 => ⟨S16x2048x16x64, .f32⟩
  | 52 => ⟨S16x64x16x2048, .f32⟩
  | 53 => ⟨S16x2048x16x64, .f32⟩
  | 54 => ⟨S16x2048x1024, .f32⟩
  | 55 => ⟨S1x1x1024, .f32⟩
  | 56 => ⟨S16x2048x1024, .f32⟩
  | 57 => ⟨S16x2048x1024, .f32⟩
  | 58 => ⟨S16x2048x1024, .f32⟩
  | 59 => ⟨S16x2048x1024, .f32⟩
  | 60 => ⟨S_, .f32⟩
  | 61 => ⟨S16x2048x1024, .f32⟩
  | 62 => ⟨S16x2048x1024, .f32⟩
  | 63 => ⟨S_, .f32⟩
  | 64 => ⟨S16x2048x1024, .f32⟩
  | 65 => ⟨S16x2048x1024, .f32⟩
  | 66 => ⟨S16x64x16x2048, .f32⟩
  | 67 => ⟨S16x2048x16x64, .f32⟩
  | 68 => ⟨S16x2048x1024, .f32⟩
  | 69 => ⟨S1x1x1024, .f32⟩
  | 70 => ⟨S16x2048x1024, .f32⟩
  | 71 => ⟨S16x2048x1024, .f32⟩
  | 72 => ⟨S16x2048x1024, .f32⟩
  | 73 => ⟨S16x2048x1024, .f32⟩
  | 74 => ⟨S_, .f32⟩
  | 75 => ⟨S16x2048x1024, .f32⟩
  | 76 => ⟨S16x2048x1024, .f32⟩
  | 77 => ⟨S_, .f32⟩
  | 78 => ⟨S16x2048x1024, .f32⟩
  | 79 => ⟨S16x2048x1024, .f32⟩
  | 80 => ⟨S1024, .f32⟩
  | 81 => ⟨S_, .f32⟩
  | 82 => ⟨S1024, .f32⟩
  | 83 => ⟨S1024, .f32⟩
  | 84 => ⟨S1024, .f32⟩
  | 85 => ⟨S1024, .f32⟩
  | 86 => ⟨S1024, .i1⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S_, .f32⟩
  | 96 => ⟨S1024, .f32⟩
  | 97 => ⟨S1024, .f32⟩
  | 98 => ⟨S1x1x1024, .f32⟩
  | 99 => ⟨S16x2048x1024, .f32⟩
  | 100 => ⟨S16x2048x1024, .f32⟩
  | 101 => ⟨S16x2048x1024, .f32⟩
  | 102 => ⟨S_, .f32⟩
  | 103 => ⟨S16x2048x1024, .f32⟩
  | 104 => ⟨S16x2048x1024, .f32⟩
  | 105 => ⟨S16x2048x1024, .f32⟩
  | 106 => ⟨S16x2048x1024, .f32⟩
  | 107 => ⟨S16x2048x1024, .f32⟩
  | 108 => ⟨S16x2048x1024, .f32⟩
  | 109 => ⟨S16x2048x1024, .f32⟩
  | 110 => ⟨S_, .f32⟩
  | 111 => ⟨S16x1024, .f32⟩
  | 112 => ⟨S2048x16x1024, .f32⟩
  | 113 => ⟨S2048x16x1024, .f32⟩
  | 114 => ⟨S_, .f32⟩
  | 115 => ⟨S2048x16x1024, .f32⟩
  | 116 => ⟨S_, .i32⟩
  | 117 => ⟨S2048x16x1024, .f32⟩
  | 118 => ⟨S2048x16x1024, .f32⟩
  | 119 => ⟨S_, .i32⟩
  | 120 => ⟨S16x1024, .f32⟩
  | 121 => ⟨S2048x16x1024, .f32⟩
  | 122 => ⟨S_, .i32⟩
  | 123 => ⟨S_, .i1⟩
  | 124 => ⟨S_, .i32⟩
  | 125 => ⟨S_, .i32⟩
  | 126 => ⟨S1x16x1024, .f32⟩
  | 127 => ⟨S16x1024, .f32⟩
  | _ => ⟨S32768x2176, .f32⟩

abbrev hbmTy0_1 (i : Nat) : BufTy := match i % 128 with
  | 0 => ⟨S_, .i32⟩
  | 1 => ⟨S_, .i32⟩
  | 2 => ⟨S1x16x1024, .f32⟩
  | 3 => ⟨S16x1024, .f32⟩
  | 4 => ⟨S16x1024, .f32⟩
  | 5 => ⟨S16x1024, .f32⟩
  | 6 => ⟨S1x16x1024, .f32⟩
  | 7 => ⟨S_, .i32⟩
  | 8 => ⟨S_, .i32⟩
  | 9 => ⟨S2048x16x1024, .f32⟩
  | 10 => ⟨S_, .i32⟩
  | 11 => ⟨S_, .i32⟩
  | 12 => ⟨S16x2048x1024, .f32⟩
  | 13 => ⟨S16x2048x2176, .f32⟩
  | 14 => ⟨S16x2048x1024, .f32⟩
  | 15 => ⟨S16x2048x1024, .f32⟩
  | 16 => ⟨S16x2048x1024, .f32⟩
  | 17 => ⟨S_, .f32⟩
  | 18 => ⟨S16x2048x1024, .f32⟩
  | 19 => ⟨S16x2048x1024, .f32⟩
  | 20 => ⟨S16x2048x1024, .f32⟩
  | 21 => ⟨S_, .f32⟩
  | 22 => ⟨S16x2048x1024, .f32⟩
  | 23 => ⟨S16x2048x1024, .f32⟩
  | 24 => ⟨S16x2048x1024, .f32⟩
  | 25 => ⟨S_, .f32⟩
  | 26 => ⟨S16x2048x1024, .f32⟩
  | 27 => ⟨S16x2048x1024, .f32⟩
  | 28 => ⟨S_, .f32⟩
  | 29 => ⟨S16x2048x1024, .f32⟩
  | 30 => ⟨S16x2048x1024, .f32⟩
  | 31 => ⟨S16x2048x1024, .f32⟩
  | 32 => ⟨S16x2048x1024, .f32⟩
  | 33 => ⟨S1024, .f32⟩
  | 34 => ⟨S16x2048x1024, .f32⟩
  | 35 => ⟨S_, .f32⟩
  | 36 => ⟨S16x2048, .f32⟩
  | 37 => ⟨S16x2048x1, .f32⟩
  | 38 => ⟨S_, .f32⟩
  | 39 => ⟨S16x2048x1, .f32⟩
  | 40 => ⟨S16x2048x1, .f32⟩
  | 41 => ⟨S_, .f32⟩
  | 42 => ⟨S16x2048x1, .f32⟩
  | 43 => ⟨S16x2048x1, .f32⟩
  | 44 => ⟨S16x2048x1, .f32⟩
  | 45 => ⟨S16x2048x1024, .f32⟩
  | 46 => ⟨S16x2048x1024, .f32⟩
  | 47 => ⟨S1x1x1024, .f32⟩
  | 48 => ⟨S16x2048x1024, .f32⟩
  | 49 => ⟨S16x2048x1024, .f32⟩
  | 50 => ⟨S32768x1024, .f32⟩
  | 51 => ⟨S32768x1024, .bf16⟩
  | _ => ⟨S32768x2176, .f32⟩

abbrev hbmTy (i : Nat) : BufTy := match i / 128 with
  | 0 => hbmTy0_0 i
  | 1 => hbmTy0_1 i
  | _ => ⟨S32768x2176, .f32⟩

abbrev bufTy : (tb : Table) → Fin (tcTables nBuf tb) → BufTy
  | .hbm, ⟨i, _⟩ => hbmTy i
  | _, _ => ⟨S32768x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst : Ref sig .tc := ⟨.hbm, 60, rfl⟩
abbrev main_v49 : Ref sig .tc := ⟨.hbm, 61, rfl⟩
abbrev main_v50 : Ref sig .tc := ⟨.hbm, 62, rfl⟩
abbrev main_cst_0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_1 : Ref sig .tc := ⟨.hbm, 74, rfl⟩
abbrev main_v61 : Ref sig .tc := ⟨.hbm, 75, rfl⟩
abbrev main_v62 : Ref sig .tc := ⟨.hbm, 76, rfl⟩
abbrev main_cst_2 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v66 : Ref sig .tc := ⟨.hbm, 94, rfl⟩
abbrev main_cst_3 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_4 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_5 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_6 : Ref sig .tc := ⟨.hbm, 114, rfl⟩
abbrev main_v83 : Ref sig .tc := ⟨.hbm, 115, rfl⟩
abbrev main_c_7 : Ref sig .tc := ⟨.hbm, 116, rfl⟩
abbrev main_v84_0 : Ref sig .tc := ⟨.hbm, 117, rfl⟩
abbrev main_v84_1 : Ref sig .tc := ⟨.hbm, 118, rfl⟩
abbrev main_v84_2 : Ref sig .tc := ⟨.hbm, 119, rfl⟩
abbrev main_v84_3 : Ref sig .tc := ⟨.hbm, 120, rfl⟩
abbrev main_v84_4 : Ref sig .tc := ⟨.hbm, 121, rfl⟩
abbrev main_while0c_c_19 : Ref sig .tc := ⟨.hbm, 122, rfl⟩
abbrev main_while0c_v118 : Ref sig .tc := ⟨.hbm, 123, rfl⟩
abbrev main_while0b_call2_c : Ref sig .tc := ⟨.hbm, 124, rfl⟩
abbrev main_while0b_call2_c_0 : Ref sig .tc := ⟨.hbm, 125, rfl⟩
abbrev main_while0b_call2_v0 : Ref sig .tc := ⟨.hbm, 126, rfl⟩
abbrev main_while0b_v118 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_v0 : Ref sig .tc := ⟨.hbm, 130, rfl⟩
abbrev main_while0b_v119 : Ref sig .tc := ⟨.hbm, 131, rfl⟩
abbrev main_while0b_v120 : Ref sig .tc := ⟨.hbm, 132, rfl⟩
abbrev main_while0b_v121 : Ref sig .tc := ⟨.hbm, 133, rfl⟩
abbrev main_while0b_call4_v0 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_v122 : Ref sig .tc := ⟨.hbm, 137, rfl⟩
abbrev main_while0b_c_19 : Ref sig .tc := ⟨.hbm, 138, rfl⟩
abbrev main_while0b_v123 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_8 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_9 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_10 : Ref sig .tc := ⟨.hbm, 153, rfl⟩
abbrev main_v96 : Ref sig .tc := ⟨.hbm, 154, rfl⟩
abbrev main_v97 : Ref sig .tc := ⟨.hbm, 155, rfl⟩
abbrev main_cst_11 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_12 : Ref sig .tc := ⟨.hbm, 163, rfl⟩
abbrev main_v104 : Ref sig .tc := ⟨.hbm, 164, rfl⟩
abbrev main_v105 : Ref sig .tc := ⟨.hbm, 165, rfl⟩
abbrev main_cst_13 : Ref sig .tc := ⟨.hbm, 166, rfl⟩
abbrev main_v106 : Ref sig .tc := ⟨.hbm, 167, rfl⟩
abbrev main_v107 : Ref sig .tc := ⟨.hbm, 168, rfl⟩
abbrev main_cst_14 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S32768x2048 : Shape := ⟨2, ![32768, 2048]⟩
abbrev S1x2048x5632 : Shape := ⟨3, ![1, 2048, 5632]⟩
abbrev S1x5632x2048 : Shape := ⟨3, ![1, 5632, 2048]⟩
abbrev S1x3x5632 : Shape := ⟨3, ![1, 3, 5632]⟩
abbrev S1x5632 : Shape := ⟨2, ![1, 5632]⟩
abbrev S2048 : Shape := ⟨1, ![2048]⟩
abbrev S2048x5632 : Shape := ⟨2, ![2048, 5632]⟩
abbrev S5632x2048 : Shape := ⟨2, ![5632, 2048]⟩
abbrev S3x5632 : Shape := ⟨2, ![3, 5632]⟩
abbrev S5632 : Shape := ⟨1, ![5632]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S3x512 : Shape := ⟨2, ![3, 512]⟩
abbrev S1x512 : Shape := ⟨2, ![1, 512]⟩
abbrev S11x8x512 : Shape := ⟨3, ![11, 8, 512]⟩
abbrev S1024x512 : Shape := ⟨2, ![1024, 512]⟩
abbrev S8x512 : Shape := ⟨2, ![8, 512]⟩
abbrev S1x8x512 : Shape := ⟨3, ![1, 8, 512]⟩
abbrev S1024 : Shape := ⟨1, ![1024]⟩
abbrev S1024x1 : Shape := ⟨2, ![1024, 1]⟩

abbrev nBuf : Space → Nat
  | .hbm => 19
  | .vmem => 17
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x3x5632, .f32⟩
  | .hbm, ⟨6, _⟩ => ⟨S1x5632, .f32⟩
  | .hbm, ⟨7, _⟩ => ⟨S2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S3x5632, .f32⟩
  | .hbm, ⟨15, _⟩ => ⟨S5632, .f32⟩
  | .hbm, ⟨16, _⟩ => ⟨S1x5632, .f32⟩
  | .hbm, ⟨17, _⟩ => ⟨S1x2048, .f32⟩
  | .hbm, ⟨18, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S11x8x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg0 : BitVec 32 := BitVec.ofNat 32 (i 0).val
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_off1 (i : grid0.Coords) : Fin 3 → Nat :=
  let arg1 : BitVec 32 := BitVec.ofNat 32 (i 1).val
  let v94 : Index := Scalar.indexCast arg1
  let c0_39 : Index := 0#32
  let c0_40 : Index := 0#32
  ![v94.toNat, 0, 0]
def k0_off2 (i : grid0.Coords) : Fin 3 → Nat :=
  let arg1 : BitVec 32 := BitVec.ofNat 32 (i 1).val
  let v18 : Index := Scalar.indexCast arg1
  let c0_8 : Index := 0#32
  let c0_9 : Index := 0#32
  ![v18.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S32768x2048 : Shape := ⟨2, ![32768, 2048]⟩
abbrev S1x2048x5632 : Shape := ⟨3, ![1, 2048, 5632]⟩
abbrev S1x5632x2048 : Shape := ⟨3, ![1, 5632, 2048]⟩
abbrev S1x3x5632 : Shape := ⟨3, ![1, 3, 5632]⟩
abbrev S1x5632 : Shape := ⟨2, ![1, 5632]⟩
abbrev S2048 : Shape := ⟨1, ![2048]⟩
abbrev S16x2048x2048 : Shape := ⟨3, ![16, 2048, 2048]⟩
abbrev S2048x5632 : Shape := ⟨2, ![2048, 5632]⟩
abbrev S16x2048x5632 : Shape := ⟨3, ![16, 2048, 5632]⟩
abbrev S3x5632 : Shape := ⟨2, ![3, 5632]⟩
abbrev S5632 : Shape := ⟨1, ![5632]⟩
abbrev S_ : Shape := ⟨0, ![]⟩
abbrev S16x2050x5632 : Shape := ⟨3, ![16, 2050, 5632]⟩
abbrev S1x1x5632 : Shape := ⟨3, ![1, 1, 5632]⟩
abbrev S5632x2048 : Shape := ⟨2, ![5632, 2048]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x3x5632, .f32⟩
  | .hbm, ⟨6, _⟩ => ⟨S1x5632, .f32⟩
  | .hbm, ⟨7, _⟩ => ⟨S2048, .f32⟩
  | .hbm, ⟨8, _⟩ => ⟨S32768x2048, .f32⟩
  | .hbm, ⟨9, _⟩ => ⟨S16x2048x2048, .f32⟩
  | .hbm, ⟨10, _⟩ => ⟨S16x2048x2048, .f32⟩
  | .hbm, ⟨11, _⟩ => ⟨S2048x5632, .f32⟩
  | .hbm, ⟨12, _⟩ => ⟨S16x2048x5632, .f32⟩
  | .hbm, ⟨13, _⟩ => ⟨S3x5632, .f32⟩
  | .hbm, ⟨14, _⟩ => ⟨S5632, .f32⟩
  | .hbm, ⟨15, _⟩ => ⟨S_, .i32⟩
  | .hbm, ⟨16, _⟩ => ⟨S_, .f32⟩
  | .hbm, ⟨17, _⟩ => ⟨S16x2050x5632, .f32⟩
  | .hbm, ⟨18, _⟩ => ⟨S1x5632, .f32⟩
  | .hbm, ⟨19, _⟩ => ⟨S5632, .f32⟩
  | .hbm, ⟨20, _⟩ => ⟨S16x2048x5632, .f32⟩
  | .hbm, ⟨21, _⟩ => ⟨S1x1x5632, .f32⟩
  | .hbm, ⟨22, _⟩ => ⟨S16x2048x5632, .f32⟩
  | .hbm, ⟨23, _⟩ => ⟨S16x2048x5632, .f32⟩
  | .hbm, ⟨24, _⟩ => ⟨S1x5632, .f32⟩
  | .hbm, ⟨25, _⟩ => ⟨S5632, .f32⟩
  | .hbm, ⟨26, _⟩ => ⟨S16x2048x5632, .f32⟩
  | .hbm, ⟨27, _⟩ => ⟨S1x1x5632, .f32⟩
  | .hbm, ⟨28, _⟩ => ⟨S16x2048x5632, .f32⟩
  | .hbm, ⟨29, _⟩ => ⟨S16x2048x5632, .f32⟩
  | .hbm, ⟨30, _⟩ => ⟨S16x2048x5632, .f32⟩
  | .hbm, ⟨31, _⟩ => ⟨S1x5632, .f32⟩
  | .hbm, ⟨32, _⟩ => ⟨S5632, .f32⟩
  | .hbm, ⟨33, _⟩ => ⟨S16x2048x5632, .f32⟩
  | .hbm, ⟨34, _⟩ => ⟨S1x1x5632, .f32⟩
  | .hbm, ⟨35, _⟩ => ⟨S16x2048x5632, .f32⟩
  | .hbm, ⟨36, _⟩ => ⟨S16x2048x5632, .f32⟩
  | .hbm, ⟨37, _⟩ => ⟨S16x2048x5632, .f32⟩
  | .hbm, ⟨38, _⟩ => ⟨S1x1x5632, .f32⟩
  | .hbm, ⟨39, _⟩ => ⟨S16x2048x5632, .f32⟩
  | .hbm, ⟨40, _⟩ => ⟨S16x2048x5632, .f32⟩
  | .hbm, ⟨41, _⟩ => ⟨S16x2048x5632, .f32⟩
  | .hbm, ⟨42, _⟩ => ⟨S16x2048x5632, .f32⟩
  | .hbm, ⟨43, _⟩ => ⟨S_, .f32⟩
  | .hbm, ⟨44, _⟩ => ⟨S16x2048x5632, .f32⟩
  | .hbm, ⟨45, _⟩ => ⟨S16x2048x5632, .f32⟩
  | .hbm, ⟨46, _⟩ => ⟨S16x2048x5632, .f32⟩
  | .hbm, ⟨47, _⟩ => ⟨S_, .f32⟩
  | .hbm, ⟨48, _⟩ => ⟨S16x2048x5632, .f32⟩
  | .hbm, ⟨49, _⟩ => ⟨S16x2048x5632, .f32⟩
  | .hbm, ⟨50, _⟩ => ⟨S16x2048x5632, .f32⟩
  | .hbm, ⟨51, _⟩ => ⟨S_, .f32⟩
  | .hbm, ⟨52, _⟩ => ⟨S16x2048x5632, .f32⟩
  | .hbm, ⟨53, _⟩ => ⟨S16x2048x5632, .f32⟩
  | .hbm, ⟨54, _⟩ => ⟨S_, .f32⟩
  | .hbm, ⟨55, _⟩ => ⟨S16x2048x5632, .f32⟩
  | .hbm, ⟨56, _⟩ => ⟨S16x2048x5632, .f32⟩
  | .hbm, ⟨57, _⟩ => ⟨S16x2048x5632, .f32⟩
  | .hbm, ⟨58, _⟩ => ⟨S2048x5632, .f32⟩
  | .hbm, ⟨59, _⟩ => ⟨S16x2048x5632, .f32⟩
  | .hbm, ⟨60, _⟩ => ⟨S16x2048x5632, .f32⟩
  | .hbm, ⟨61, _⟩ => ⟨S5632x2048, .f32⟩
  | .hbm, ⟨62, _⟩ => ⟨S16x2048x2048, .f32⟩
  | .hbm, ⟨63, _⟩ => ⟨S16x2048x2048, .f32⟩
  | .hbm, ⟨64, _⟩ => ⟨S16x2048x2048, .f32⟩
  | .hbm, ⟨65, _⟩ => ⟨S_, .f32⟩
  | .hbm, ⟨66, _⟩ => ⟨S16x2048, .f32⟩
  | .hbm, ⟨67, _⟩ => ⟨S16x2048x1, .f32⟩
  | .hbm, ⟨68, _⟩ => ⟨S_, .f32⟩
  | .hbm, ⟨69, _⟩ => ⟨S16x2048x1, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S16x2048x1, .f32⟩
  | .hbm, ⟨75, _⟩ => ⟨S16x2048x2048, .f32⟩
  | .hbm, ⟨76, _⟩ => ⟨S16x2048x2048, .f32⟩
  | .hbm, ⟨77, _⟩ => ⟨S1x1x2048, .f32⟩
  | .hbm, ⟨78, _⟩ => ⟨S16x2048x2048, .f32⟩
  | .hbm, ⟨79, _⟩ => ⟨S16x2048x2048, .f32⟩
  | .hbm, ⟨80, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== OutProj.lean ====
abbrev S32768x1024 : Shape := ⟨2, ![32768, 1024]⟩
abbrev S16x2048x2048 : Shape := ⟨3, ![16, 2048, 2048]⟩
abbrev S1x1024 : Shape := ⟨2, ![1, 1024]⟩
abbrev S1x2048 : Shape := ⟨2, ![1, 2048]⟩
abbrev S1x2048x2048 : Shape := ⟨3, ![1, 2048, 2048]⟩
abbrev S32768x2048 : Shape := ⟨2, ![32768, 2048]⟩
abbrev S1024 : Shape := ⟨1, ![1024]⟩
abbrev S2048 : Shape := ⟨1, ![2048]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S16x2048x2048, .f32⟩
  | .hbm, ⟨3, _⟩ => ⟨S1x1024, .f32⟩
  | .hbm, ⟨4, _⟩ => ⟨S1x2048, .f32⟩
  | .hbm, ⟨5, _⟩ => ⟨S1x2048x2048, .f32⟩
  | .hbm, ⟨6, _⟩ => ⟨S32768x2048, .f32⟩
  | .hbm, ⟨7, _⟩ => ⟨S1024, .f32⟩
  | .hbm, ⟨8, _⟩ => ⟨S1x1024, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S32768x2048, .f32⟩
  | .hbm, ⟨14, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S32768x1024 : Shape := ⟨2, ![32768, 1024]⟩
abbrev S16x2048x2048 : Shape := ⟨3, ![16, 2048, 2048]⟩
abbrev S1x1024 : Shape := ⟨2, ![1, 1024]⟩
abbrev S1x2048 : Shape := ⟨2, ![1, 2048]⟩
abbrev S1x2048x2048 : Shape := ⟨3, ![1, 2048, 2048]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x2048 : Shape := ⟨2, ![32768, 2048]⟩
abbrev S2048x2048 : Shape := ⟨2, ![2048, 2048]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S16x2048x2048, .f32⟩
  | .hbm, ⟨3, _⟩ => ⟨S1x1024, .f32⟩
  | .hbm, ⟨4, _⟩ => ⟨S1x2048, .f32⟩
  | .hbm, ⟨5, _⟩ => ⟨S1x2048x2048, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x2048, .f32⟩
  | .hbm, ⟨25, _⟩ => ⟨S32768x2048, .f32⟩
  | .hbm, ⟨26, _⟩ => ⟨S2048x2048, .f32⟩
  | .hbm, ⟨27, _⟩ => ⟨S32768x2048, .f32⟩
  | .hbm, ⟨28, _⟩ => ⟨S32768x2048, .f32⟩
  | .hbm, ⟨29, _⟩ => ⟨S2048, .f32⟩
  | .hbm, ⟨30, _⟩ => ⟨S32768x2048, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x2048, .f32⟩
  | .hbm, ⟨42, _⟩ => ⟨S32768x2048, .f32⟩
  | .hbm, ⟨43, _⟩ => ⟨S1x2048, .f32⟩
  | .hbm, ⟨44, _⟩ => ⟨S32768x2048, .f32⟩
  | .hbm, ⟨45, _⟩ => ⟨S32768x2048, .f32⟩
  | .hbm, ⟨46, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== InProj.lean ====
abbrev S16x2048x2048 : Shape := ⟨3, ![16, 2048, 2048]⟩
abbrev S1x2048 : Shape := ⟨2, ![1, 2048]⟩
abbrev S1x2048x4656 : Shape := ⟨3, ![1, 2048, 4656]⟩
abbrev S32768x2048 : Shape := ⟨2, ![32768, 2048]⟩
abbrev S2048x4656 : Shape := ⟨2, ![2048, 4656]⟩
abbrev S2048x2560 : Shape := ⟨2, ![2048, 2560]⟩
abbrev S2048x2048 : Shape := ⟨2, ![2048, 2048]⟩
abbrev S2048x48 : Shape := ⟨2, ![2048, 48]⟩
abbrev S_ : Shape := ⟨0, ![]⟩
abbrev S2048x80 : Shape := ⟨2, ![2048, 80]⟩
abbrev S2048x4736 : Shape := ⟨2, ![2048, 4736]⟩
abbrev S2048 : Shape := ⟨1, ![2048]⟩
abbrev S32768x2560 : Shape := ⟨2, ![32768, 2560]⟩
abbrev S32768x2176 : Shape := ⟨2, ![32768, 2176]⟩
abbrev S512x2048 : Shape := ⟨2, ![512, 2048]⟩
abbrev S512x2560 : Shape := ⟨2, ![512, 2560]⟩
abbrev S512x2176 : Shape := ⟨2, ![512, 2176]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S2048x128 : Shape := ⟨2, ![2048, 128]⟩
abbrev S512x128 : Shape := ⟨2, ![512, 128]⟩

abbrev nBuf : Space → Nat
  | .hbm => 16
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x4656, .f32⟩
  | .hbm, ⟨3, _⟩ => ⟨S32768x2048, .f32⟩
  | .hbm, ⟨4, _⟩ => ⟨S2048x4656, .f32⟩
  | .hbm, ⟨5, _⟩ => ⟨S2048x2560, .f32⟩
  | .hbm, ⟨6, _⟩ => ⟨S2048x2048, .f32⟩
  | .hbm, ⟨7, _⟩ => ⟨S2048x48, .f32⟩
  | .hbm, ⟨8, _⟩ => ⟨S_, .f32⟩
  | .hbm, ⟨9, _⟩ => ⟨S2048x80, .f32⟩
  | .hbm, ⟨10, _⟩ => ⟨S2048x4736, .f32⟩
  | .hbm, ⟨11, _⟩ => ⟨S2048x4736, .bf16⟩
  | .hbm, ⟨12, _⟩ => ⟨S2048, .f32⟩
  | .hbm, ⟨13, _⟩ => ⟨S1x2048, .f32⟩
  | .hbm, ⟨14, _⟩ => ⟨S32768x2560, .bf16⟩
  | .hbm, ⟨15, _⟩ => ⟨S32768x2176, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4736, .bf16⟩
  | .local _ .vmem, ⟨4, _⟩ => ⟨S512x2560, .bf16⟩
  | .local _ .vmem, ⟨5, _⟩ => ⟨S512x2560, .bf16⟩
  | .local _ .vmem, ⟨6, _⟩ => ⟨S512x2176, .f32⟩
  | .local _ .vmem, ⟨7, _⟩ => ⟨S512x2176, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S16x2048x2048 : Shape := ⟨3, ![16, 2048, 2048]⟩
abbrev S1x2048 : Shape := ⟨2, ![1, 2048]⟩
abbrev S1x2048x4656 : Shape := ⟨3, ![1, 2048, 4656]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x4656 : Shape := ⟨2, ![2048, 4656]⟩
abbrev S16x2048x4656 : Shape := ⟨3, ![16, 2048, 4656]⟩
abbrev S32768x4656 : Shape := ⟨2, ![32768, 4656]⟩
abbrev S32768x2560 : Shape := ⟨2, ![32768, 2560]⟩
abbrev S32768x48 : Shape := ⟨2, ![32768, 48]⟩
abbrev S32768x2048 : Shape := ⟨2, ![32768, 2048]⟩
abbrev S32768x2096 : Shape := ⟨2, ![32768, 2096]⟩
abbrev S32768x2176 : Shape := ⟨2, ![32768, 2176]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x4656, .f32⟩
  | .hbm, ⟨3, _⟩ => ⟨S2048, .f32⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S1x1x2048, .f32⟩
  | .hbm, ⟨18, _⟩ => ⟨S16x2048x2048, .f32⟩
  | .hbm, ⟨19, _⟩ => ⟨S16x2048x2048, .f32⟩
  | .hbm, ⟨20, _⟩ => ⟨S2048x4656, .f32⟩
  | .hbm, ⟨21, _⟩ => ⟨S16x2048x4656, .f32⟩
  | .hbm, ⟨22, _⟩ => ⟨S32768x4656, .f32⟩
  | .hbm, ⟨23, _⟩ => ⟨S32768x2560, .f32⟩
  | .hbm, ⟨24, _⟩ => ⟨S32768x48, .f32⟩
  | .hbm, ⟨25, _⟩ => ⟨S32768x2048, .f32⟩
  | .hbm, ⟨26, _⟩ => ⟨S32768x2560, .bf16⟩
  | .hbm, ⟨27, _⟩ => ⟨S32768x2096, .f32⟩
  | .hbm, ⟨28, _⟩ => ⟨S_, .i32⟩
  | .hbm, ⟨29, _⟩ => ⟨S_, .f32⟩
  | .hbm, ⟨30, _⟩ => ⟨S32768x2176, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.RglruIdealFrame.lean ====
/- The recurrence call at any numbers: its body runs at every grid point, whatever its scratch buffers hold, and
   leaves every argument as it was. -/
module

public import proofs.«01_k».proof.Proof.Gen.RglruIdeal.Frame
public import proofs.«01_k».proof.Proof.Gen.RglruIdeal.Loops
public import proofs.«01_k».proof.Proof.Gen.RglruIdeal.Skeleton
public import proofs.«01_k».proof.Proof.Gen.RglruIdeal.Points
public import proofs.«01_k».proof.Proof.Gen.RglruIdeal.Launch
public import Idealize.ShloMosaic.Lib.Pipeline.FrameBody
public import Idealize.ShloMosaic.Lib.Tactic
public import Idealize.ShloMosaic.Lib.Claim

@[expose] public section

set_option maxRecDepth 16384

noncomputable section

namespace Cert.RglruIdeal.Keep

open Cert.RglruIdeal Cert.RglruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The body's first block of a sequence: the scratch is cleared. -/
abbrev isFirst (i : grid0.Coords) : Prop :=
  (Scalar.cmpi .ne (Scalar.extui (Scalar.cmpi .eq (BitVec.ofNat 32 (i 1).val) 0#32)) 0#32) = 1#1

set_option maxHeartbeats 4000000 in
/-- The body on whole buffers: the inputs are handed back as they were, the output and the scratch at some contents. -/
theorem run_first (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : isFirst i)
    (x0 : Vec F S256x1024 .f32) (x1 : Vec F S256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (x9 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

set_option maxHeartbeats 4000000 in
/-- The body on whole buffers: the inputs are handed back as they were, the output and the scratch at some contents. -/
theorem run_rest (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : ¬isFirst i)
    (x0 : Vec F S256x1024 .f32) (x1 : Vec F S256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (x9 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

/-- Both cases together. -/
theorem run_body (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole)
    (x0 : Vec F S256x1024 .f32) (x1 : Vec F S256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (x9 : Vec F S1x1024 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases hc : isFirst i
  · exact run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 E K
  · exact run_rest c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 E K

variable (m : (ℓ : Loc nD τ sig) → Buf (Elt F) ℓ) (ρ : Dev nD → PrngReg)

/-- The output window is not described. -/
def forgets0 : Fin 11 → Bool := fun w => w.val == 10

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
abbrev ms0_0 (t : Fin cfg0.N) : Memref sig .tc .vmem S256x1024 .f32 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S4x1024 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S4x256x256 .bf16 := win0_4.stage (cfg0.slots t 4)
abbrev ms0_5 (t : Fin cfg0.N) : Memref sig .tc .vmem S1x1024 .f32 := win0_5.stage (cfg0.slots t 5)
abbrev ms0_6 (t : Fin cfg0.N) : Memref sig .tc .vmem S4x256x256 .bf16 := win0_6.stage (cfg0.slots t 6)
abbrev ms0_7 (t : Fin cfg0.N) : Memref sig .tc .vmem S1x1024 .f32 := win0_7.stage (cfg0.slots t 7)
abbrev ms0_8 (t : Fin cfg0.N) : Memref sig .tc .vmem S1x1024 .f32 := win0_8.stage (cfg0.slots t 8)
abbrev ms0_9 (t : Fin cfg0.N) : Memref sig .tc .vmem S1x1024 .f32 := win0_9.stage (cfg0.slots t 9)
abbrev ms0_10 (t : Fin cfg0.N) : Memref sig .tc .vmem S256x1024 .bf16 := win0_10.stage (cfg0.slots t 10)
abbrev scM0_0 : Memref sig .tc .vmem S8x1024 .f32 := Memref.whole cc0_scratch0
abbrev scM0_1 : Memref sig .tc .vmem S8x1024 .f32 := Memref.whole cc0_scratch1
abbrev scM0_2 : Memref sig .tc .vmem S256x256 .f32 := Memref.whole cc0_scratch2
abbrev scM0_3 : Memref sig .tc .vmem S256x256 .f32 := Memref.whole cc0_scratch3
abbrev scM0_4 : Memref sig .tc .vmem S256x1024 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d))

set_option maxHeartbeats 1600000 in
/-- The body at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    PhiA0_eq, after0_0, after0_1, after0_2, after0_3, after0_4, after0_5, after0_6, after0_7, after0_8, after0_9]
  iintro ⟨⟨⟨HS0, HS1, HS2, HS3, HS4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_body c (grid0.coords t) _ _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hr]
  · isplitr [Hr]; swap; · iexact Hr
    isplitl [HS0]; · iexact HS0
    isplitl [HS1]; · iexact HS1
    isplitl [HS2]; · iexact HS2
    isplitl [HS3]; · iexact HS3
    iexact HS4
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun c w _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 1 rfl).trans ((A_eq m c 1).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

/-- Every run of the program ends, with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.RglruIdeal.Keep

end
-- ==== Proof.RglruClaims.lean ====
/- The frames of the recurrence call and of its reference. -/
module

public import proofs.«01_k».proof.Defs
public import proofs.«01_k».proof.Proof.RglruFrame
public import proofs.«01_k».proof.Proof.RglruIdealFrame
public import proofs.«01_k».proof.Proof.Gen.RglruRefIdeal.Run
public import Idealize.ShloMosaic.Lib.Claim

@[expose] public section

set_option maxRecDepth 16384

noncomputable section

namespace Cert.Proof

open Idealize.ShloMosaic Idealize.ShloMosaic.TcCoe Idealize.SL.Sem

theorem frame_Rglru : Cert.quiescent_Rglru := fun m ρ _ => Cert.Rglru.Hand.frame m ρ
theorem frame_RglruIdeal : Cert.quiescent_RglruIdeal := fun m ρ _ => Cert.RglruIdeal.Keep.frame m ρ
theorem frame_RglruRefIdeal : Cert.quiescent_RglruRefIdeal := fun m ρ _ =>
  (θ_run Cert.RglruRefIdeal.defs _ _).mono (fun r h => ⟨fun c => (h c).2, sem_eq_zero_of_no_sems (by decide) r.2⟩)
    (Cert.RglruRefIdeal.Value.run (F := Ideal) m ρ)

end Cert.Proof

end
-- ==== Proof.ScanLoop.lean ====
/- The four loops of the recurrence call, each over 32 groups of 8 rows: what the buffer of inputs holds after the loop
   and what the loop yields, in closed form. -/
module

public import proofs.«01_k».proof.Proof.Gen.RglruIdeal.Loops
public import proofs.«01_k».proof.Proof.Gen.RglruIdeal.Skeleton
public import Idealize.ShloMosaic.Lib.Pointwise
public import Idealize.ShloMosaic.Lib.WritesUnit

@[expose] public section

set_option maxRecDepth 16384

noncomputable section

namespace Cert.RglruIdeal.Hand

open Cert.RglruIdeal Cert.RglruIdeal.Gen Idealize.ShloMosaic Idealize.ShloMosaic.TcCoe Idealize.SL.Sem

/-- Row `8k + r` of a 256-row block. -/
def grow (k r : ℕ) : Fin 256 := ⟨(8 * k + r) % 256, Nat.mod_lt _ (by decide)⟩

/-- The value carried into group `k`, in each of the eight rows: the init, then row 7 of the group before. -/
def carry (A U : FVec Ideal S256x256 .f32) (init : FVec Ideal S8x256 .f32) : ℕ → Fin 8 → Fin 256 → EReal
  | 0, r, j => init (ix2 r j)
  | k + 1, _, j => U (ix2 (grow k 7) j) + A (ix2 (grow k 7) j) * carry A U init k 7 j

/-- What the loop leaves in row `i`. -/
def scanOut (A U : FVec Ideal S256x256 .f32) (init : FVec Ideal S8x256 .f32) (i j : Fin 256) : EReal :=
  U (ix2 i j) + A (ix2 i j) * carry A U init (i.val / 8) ⟨i.val % 8, Nat.mod_lt _ (by decide)⟩ j

theorem grow_val (k r : ℕ) (h : 8 * k + r < 256) : (grow k r).val = 8 * k + r := Nat.mod_eq_of_lt h

/-- The loop in the abstract: a sequence of a carried value and a list of stored pieces. -/
theorem scan_reads {κ : Kind} {sp : Space} (v : View sig κ sp S256x256 .f32) (G : v.ty.Contents (Elt Ideal))
    (A : FVec Ideal S256x256 .f32) (init : FVec Ideal S8x256 .f32)
    (s : ℕ → FVec Ideal S8x256 .f32 × List (View.Piece (Elt Ideal) S256x256 .f32)) (h0 : s 0 = (init, []))
    (hs : ∀ k, k < 32 → ∃ (off : Fin 2 → ℕ) (inb : ∀ a, off a + S8x256.size a ≤ S256x256.size a)
        (w : (Rect.unit (s := S256x256) off S8x256.size inb).shape.Idx → Elt Ideal .f32),
        off = ![8 * k, 0] ∧ (s (k + 1)).2 = ⟨Rect.unit (s := S256x256) off S8x256.size inb, w⟩ :: (s k).2
        ∧ (∀ (r : Fin 8) (j : Fin 256), w (ix2 r j)
            = (show EReal from v.read (Elt Ideal) (v.writes (Elt Ideal) G (s k).2) (ix2 (grow k r) j)) + A (ix2 (grow k r) j) * (show EReal from (s k).1 (ix2 r j)))
        ∧ (∀ (r : Fin 8) (j : Fin 256), (s (k + 1)).1 (ix2 r j)
            = (show EReal from v.read (Elt Ideal) (v.writes (Elt Ideal) G (s k).2) (ix2 (grow k 7) j)) + A (ix2 (grow k 7) j) * (show EReal from (s k).1 (ix2 7 j)))) :
    ∀ k, k ≤ 32 → (∀ (r : Fin 8) (j : Fin 256), (s k).1 (ix2 r j) = carry A (v.read (Elt Ideal) G) init k r j)
      ∧ ∀ (i j : Fin 256), v.read (Elt Ideal) (v.writes (Elt Ideal) G (s k).2) (ix2 i j)
          = if i.val < 8 * k then scanOut A (v.read (Elt Ideal) G) init i j else v.read (Elt Ideal) G (ix2 i j) := by
  intro k
  induction k with
  | zero =>
    intro _
    refine ⟨fun r j => by rw [h0]; rfl, fun i j => ?_⟩
    rw [h0, if_neg (by omega)]; rfl
  | succ k ih =>
    intro hk
    obtain ⟨ih1, ih2⟩ := ih (by omega)
    obtain ⟨off, inb, w, hoff, hL, hw, hR⟩ := hs k (by omega)
    have hrow : ∀ (r : Fin 8) (j : Fin 256), v.read (Elt Ideal) (v.writes (Elt Ideal) G (s k).2) (ix2 (grow k r) j)
        = v.read (Elt Ideal) G (ix2 (grow k r) j) := fun r j => by
      rw [ih2, if_neg]
      rw [grow_val k r (by omega)]; omega
    refine ⟨fun r j => ?_, fun i j => ?_⟩
    · have h7 : v.read (Elt Ideal) (v.writes (Elt Ideal) G (s k).2) (ix2 (grow k 7) j)
          = v.read (Elt Ideal) G (ix2 (grow k 7) j) := hrow 7 j
      rw [hR r j, h7, ih1 7 j]; rfl
    · rw [hL]
      by_cases hin : 8 * k ≤ i.val ∧ i.val < 8 * k + 8
      · have hg : grow k ((⟨i.val - 8 * k, by omega⟩ : Fin 8) : ℕ) = i :=
          Fin.ext (by rw [grow_val _ _ (by show 8 * k + (i.val - 8 * k) < 256; omega)]; show 8 * k + (i.val - 8 * k) = i.val; omega)
        refine (View.read_writes_cons_rows_of_mem v G inb w _ (ix2 i j) (ix2 (⟨i.val - 8 * k, by omega⟩ : Fin 8) j) hoff
          (by show i.val = 8 * k + (i.val - 8 * k); omega) rfl).trans ?_
        rw [hw, hrow, hg, ih1, if_pos (by omega)]
        unfold scanOut
        have e1 : i.val / 8 = k := by omega
        have e2 : (⟨i.val % 8, Nat.mod_lt _ (by decide)⟩ : Fin 8) = ⟨i.val - 8 * k, by omega⟩ := Fin.ext (by show i.val % 8 = i.val - 8 * k; omega)
        rw [e1, e2]
      · refine (View.read_writes_cons_rows_of_not_mem v G inb w _ (ix2 i j) (W := 8) hoff rfl
          (by show i.val < 8 * k ∨ 8 * k + 8 ≤ i.val; omega)).trans ?_
        rw [ih2]
        have : (i.val < 8 * k) = (i.val < 8 * (k + 1)) := by
          apply propext; constructor <;> intro h <;> omega
        simp only [this]

set_option maxHeartbeats 4000000 in
/-- Loop 1 of the body: what it yields, and what it leaves in the buffer. -/
theorem loop1 (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (v19 : IVec S256x256 32) (v120 : FVec Ideal S256x256 .f32) (v127 : FVec Ideal S256x256 .f32) (v128 : FVec Ideal S256x256 .f32) (X_arg15 : BufTy.Contents (Elt Ideal) arg15.view.ty) (G_arg16 : BufTy.Contents (Elt Ideal) arg16.view.ty) (init : Vec Ideal S8x256 .f32) :
    (∀ (r : Fin 8) (j : Fin 256), (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v120 v127 v128 X_arg15 G_arg16 init 32).1 (ix2 r j) = carry (arg15.view.read (Elt Ideal) X_arg15) (arg16.view.read (Elt Ideal) G_arg16) init 32 r j)
      ∧ ∀ (a b : Fin 256), arg16.view.read (Elt Ideal) (arg16.view.writes (Elt Ideal) G_arg16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v120 v127 v128 X_arg15 G_arg16 init 32).2) (ix2 a b)
          = scanOut (arg15.view.read (Elt Ideal) X_arg15) (arg16.view.read (Elt Ideal) G_arg16) init a b := by
  have key := scan_reads arg16.view G_arg16 (arg15.view.read (Elt Ideal) X_arg15) init (fun k => (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v120 v127 v128 X_arg15 G_arg16 init k)) rfl ?_ 32 le_rfl
  · exact ⟨key.1, fun i j => (key.2 i j).trans (if_pos (by omega))⟩
  · intro k hk
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v120 v127 v128 X_arg15 G_arg16 init ⟨k, hk⟩
    unfold tripR_k0_t1 tripL_k0_t1 trip_k0_t1 at e
    dsimp only at e
    have hr : ∀ r : Fin 8, 8 * k + r.val < 256 := fun r => by omega
    have rd : ∀ {κ : Kind} {sp : Space} (v : View sig κ sp S256x256 .f32) (f : v.ty.Contents (Elt Ideal)) (r : Fin 8) (j : Fin 256),
        View.readAt (Elt Ideal) v (Rect.unit (s := S256x256) (k0_off1 ⟨k, hk⟩) S8x256.size (k0_off1_inb ⟨k, hk⟩)).toLoadRect f (ix2 r j)
          = v.read (Elt Ideal) f (ix2 (grow k r) j) := fun v f r j => by
      refine congrArg (v.read (Elt Ideal) f) (funext fun a => Fin.ext ?_)
      have h0 : k0_off1 ⟨k, hk⟩ = ![8 * k, 0] := k0_off1_eq ⟨k, hk⟩
      match a with
      | ⟨0, _⟩ =>
        show k0_off1 ⟨k, hk⟩ 0 + 1 * r.val = (8 * k + r.val) % 256
        rw [h0, Nat.mod_eq_of_lt (hr r)]; show 8 * k + 1 * r.val = _; omega
      | ⟨1, _⟩ =>
        show k0_off1 ⟨k, hk⟩ 1 + 1 * j.val = j.val
        rw [h0]; show 0 + 1 * j.val = _; omega
    refine ⟨_, k0_off1_inb ⟨k, hk⟩, _, k0_off1_eq ⟨k, hk⟩, congrArg Prod.snd e, fun r j => ?_, fun r j => ?_⟩
    · pointwise [k0_pay25, k0_pay24]
      rw [rd, rd]
    · refine (congrFun (congrArg Prod.fst e) (ix2 r j)).trans ?_
      dsimp only
      pointwise [k0_pay26, k0_pay24]
      rw [rd, rd]; rfl

set_option maxHeartbeats 4000000 in
/-- Loop 2 of the body: what it yields, and what it leaves in the buffer. -/
theorem loop2 (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (v19 : IVec S256x256 32) (v290 : FVec Ideal S256x256 .f32) (v292 : FVec Ideal S256x256 .f32) (v294 : IVec S256x256 1) (c2_i32_104 : BitVec 32) (X_arg15 : BufTy.Contents (Elt Ideal) arg15.view.ty) (G_arg16 : BufTy.Contents (Elt Ideal) arg16.view.ty) (init : Vec Ideal S8x256 .f32) :
    (∀ (r : Fin 8) (j : Fin 256), (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v290 v292 v294 c2_i32_104 X_arg15 G_arg16 init 32).1 (ix2 r j) = carry (arg15.view.read (Elt Ideal) X_arg15) (arg16.view.read (Elt Ideal) G_arg16) init 32 r j)
      ∧ ∀ (a b : Fin 256), arg16.view.read (Elt Ideal) (arg16.view.writes (Elt Ideal) G_arg16 (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v290 v292 v294 c2_i32_104 X_arg15 G_arg16 init 32).2) (ix2 a b)
          = scanOut (arg15.view.read (Elt Ideal) X_arg15) (arg16.view.read (Elt Ideal) G_arg16) init a b := by
  have key := scan_reads arg16.view G_arg16 (arg15.view.read (Elt Ideal) X_arg15) init (fun k => (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v290 v292 v294 c2_i32_104 X_arg15 G_arg16 init k)) rfl ?_ 32 le_rfl
  · exact ⟨key.1, fun i j => (key.2 i j).trans (if_pos (by omega))⟩
  · intro k hk
    have e := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v19 v290 v292 v294 c2_i32_104 X_arg15 G_arg16 init ⟨k, hk⟩
    unfold tripR_k0_t2 tripL_k0_t2 trip_k0_t2 at e
    dsimp only at e
    have hr : ∀ r : Fin 8, 8 * k + r.val < 256 := fun r => by omega
    have rd : ∀ {κ : Kind} {sp : Space} (v : View sig κ sp S256x256 .f32) (f : v.ty.Contents (Elt Ideal)) (r : Fin 8) (j : Fin 256),
        View.readAt (Elt Ideal) v (Rect.unit (s := S256x256) (k0_off2 ⟨k, hk⟩) S8x256.size (k0_off2_inb ⟨k, hk⟩)).toLoadRect f (ix2 r j)
          = v.read (Elt Ideal) f (ix2 (grow k r) j) := fun v f r j => by
      refine congrArg (v.read (Elt Ideal) f) (funext fun a => Fin.ext ?_)
      have h0 : k0_off2 ⟨k, hk⟩ = ![8 * k, 0] := k0_off2_eq ⟨k, hk⟩
      match a with
      | ⟨0, _⟩ =>
        show k0_off2 ⟨k, hk⟩ 0 + 1 * r.val = (8 * k + r.val) % 256
        rw [h0, Nat.mod_eq_of_lt (hr r)]; show 8 * k + 1 * r.val = _; omega
      | ⟨1, _⟩ =>
        show k0_off2 ⟨k, hk⟩ 1 + 1 * j.val = j.val
        rw [h0]; show 0 + 1 * j.val = _; omega
    refine ⟨_, k0_off2_inb ⟨k, hk⟩, _, k0_off2_eq ⟨k, hk⟩, congrArg Prod.snd e, fun r j => ?_, fun r j => ?_⟩
    · pointwise [k0_pay45, k0_pay44]
      rw [rd, rd]
    · refine (congrFun (congrArg Prod.fst e) (ix2 r j)).trans ?_
      dsimp only
      pointwise [k0_pay46, k0_pay44]
      rw [rd, rd]; rfl

set_option maxHeartbeats 4000000 in
/-- Loop 3 of the body: what it yields, and what it leaves in the buffer. -/
theorem loop3 (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (v453 : FVec Ideal S256x256 .f32) (v455 : FVec Ideal S256x256 .f32) (v457 : IVec S256x256 1) (v458 : FVec Ideal S256x256 .f32) (v461 : FVec Ideal S256x256 .f32) (X_arg15 : BufTy.Contents (Elt Ideal) arg15.view.ty) (G_arg16 : BufTy.Contents (Elt Ideal) arg16.view.ty) (init : Vec Ideal S8x256 .f32) :
    (∀ (r : Fin 8) (j : Fin 256), (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v453 v455 v457 v458 v461 X_arg15 G_arg16 init 32).1 (ix2 r j) = carry (arg15.view.read (Elt Ideal) X_arg15) (arg16.view.read (Elt Ideal) G_arg16) init 32 r j)
      ∧ ∀ (a b : Fin 256), arg16.view.read (Elt Ideal) (arg16.view.writes (Elt Ideal) G_arg16 (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v453 v455 v457 v458 v461 X_arg15 G_arg16 init 32).2) (ix2 a b)
          = scanOut (arg15.view.read (Elt Ideal) X_arg15) (arg16.view.read (Elt Ideal) G_arg16) init a b := by
  have key := scan_reads arg16.view G_arg16 (arg15.view.read (Elt Ideal) X_arg15) init (fun k => (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v453 v455 v457 v458 v461 X_arg15 G_arg16 init k)) rfl ?_ 32 le_rfl
  · exact ⟨key.1, fun i j => (key.2 i j).trans (if_pos (by omega))⟩
  · intro k hk
    have e := st_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v453 v455 v457 v458 v461 X_arg15 G_arg16 init ⟨k, hk⟩
    unfold tripR_k0_t3 tripL_k0_t3 trip_k0_t3 at e
    dsimp only at e
    have hr : ∀ r : Fin 8, 8 * k + r.val < 256 := fun r => by omega
    have rd : ∀ {κ : Kind} {sp : Space} (v : View sig κ sp S256x256 .f32) (f : v.ty.Contents (Elt Ideal)) (r : Fin 8) (j : Fin 256),
        View.readAt (Elt Ideal) v (Rect.unit (s := S256x256) (k0_off3 ⟨k, hk⟩) S8x256.size (k0_off3_inb ⟨k, hk⟩)).toLoadRect f (ix2 r j)
          = v.read (Elt Ideal) f (ix2 (grow k r) j) := fun v f r j => by
      refine congrArg (v.read (Elt Ideal) f) (funext fun a => Fin.ext ?_)
      have h0 : k0_off3 ⟨k, hk⟩ = ![8 * k, 0] := k0_off3_eq ⟨k, hk⟩
      match a with
      | ⟨0, _⟩ =>
        show k0_off3 ⟨k, hk⟩ 0 + 1 * r.val = (8 * k + r.val) % 256
        rw [h0, Nat.mod_eq_of_lt (hr r)]; show 8 * k + 1 * r.val = _; omega
      | ⟨1, _⟩ =>
        show k0_off3 ⟨k, hk⟩ 1 + 1 * j.val = j.val
        rw [h0]; show 0 + 1 * j.val = _; omega
    refine ⟨_, k0_off3_inb ⟨k, hk⟩, _, k0_off3_eq ⟨k, hk⟩, congrArg Prod.snd e, fun r j => ?_, fun r j => ?_⟩
    · pointwise [k0_pay71, k0_pay70]
      rw [rd, rd]
    · refine (congrFun (congrArg Prod.fst e) (ix2 r j)).trans ?_
      dsimp only
      pointwise [k0_pay72, k0_pay70]
      rw [rd, rd]; rfl

set_option maxHeartbeats 4000000 in
/-- Loop 4 of the body: what it yields, and what it leaves in the buffer. -/
theorem loop4 (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (X_arg15 : BufTy.Contents (Elt Ideal) arg15.view.ty) (G_arg16 : BufTy.Contents (Elt Ideal) arg16.view.ty) (init : Vec Ideal S8x256 .f32) :
    (∀ (r : Fin 8) (j : Fin 256), (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg15 G_arg16 init 32).1 (ix2 r j) = carry (arg15.view.read (Elt Ideal) X_arg15) (arg16.view.read (Elt Ideal) G_arg16) init 32 r j)
      ∧ ∀ (a b : Fin 256), arg16.view.read (Elt Ideal) (arg16.view.writes (Elt Ideal) G_arg16 (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg15 G_arg16 init 32).2) (ix2 a b)
          = scanOut (arg15.view.read (Elt Ideal) X_arg15) (arg16.view.read (Elt Ideal) G_arg16) init a b := by
  have key := scan_reads arg16.view G_arg16 (arg15.view.read (Elt Ideal) X_arg15) init (fun k => (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg15 G_arg16 init k)) rfl ?_ 32 le_rfl
  · exact ⟨key.1, fun i j => (key.2 i j).trans (if_pos (by omega))⟩
  · intro k hk
    have e := st_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg15 G_arg16 init ⟨k, hk⟩
    unfold tripR_k0_t4 tripL_k0_t4 trip_k0_t4 at e
    dsimp only at e
    have hr : ∀ r : Fin 8, 8 * k + r.val < 256 := fun r => by omega
    have rd : ∀ {κ : Kind} {sp : Space} (v : View sig κ sp S256x256 .f32) (f : v.ty.Contents (Elt Ideal)) (r : Fin 8) (j : Fin 256),
        View.readAt (Elt Ideal) v (Rect.unit (s := S256x256) (k0_off4 ⟨k, hk⟩) S8x256.size (k0_off4_inb ⟨k, hk⟩)).toLoadRect f (ix2 r j)
          = v.read (Elt Ideal) f (ix2 (grow k r) j) := fun v f r j => by
      refine congrArg (v.read (Elt Ideal) f) (funext fun a => Fin.ext ?_)
      have h0 : k0_off4 ⟨k, hk⟩ = ![8 * k, 0] := k0_off4_eq ⟨k, hk⟩
      match a with
      | ⟨0, _⟩ =>
        show k0_off4 ⟨k, hk⟩ 0 + 1 * r.val = (8 * k + r.val) % 256
        rw [h0, Nat.mod_eq_of_lt (hr r)]; show 8 * k + 1 * r.val = _; omega
      | ⟨1, _⟩ =>
        show k0_off4 ⟨k, hk⟩ 1 + 1 * j.val = j.val
        rw [h0]; show 0 + 1 * j.val = _; omega
    refine ⟨_, k0_off4_inb ⟨k, hk⟩, _, k0_off4_eq ⟨k, hk⟩, congrArg Prod.snd e, fun r j => ?_, fun r j => ?_⟩
    · pointwise [k0_pay92, k0_pay91]
      rw [rd, rd]
    · refine (congrFun (congrArg Prod.fst e) (ix2 r j)).trans ?_
      dsimp only
      pointwise [k0_pay93, k0_pay91]
      rw [rd, rd]; rfl

end Cert.RglruIdeal.Hand

end
-- ==== Proof.RglruRunRest.lean ====
/- The recurrence call's body, run at a grid point that continues a sequence: what its stores leave in the output block and in
   the two carried scratch buffers. -/
module

public import proofs.«01_k».proof.Proof.Gen.RglruIdeal.Frame
public import proofs.«01_k».proof.Proof.Gen.RglruIdeal.Loops
public import proofs.«01_k».proof.Proof.Gen.RglruIdeal.Skeleton
public import proofs.«01_k».proof.Proof.Gen.RglruIdeal.Points
public import proofs.«01_k».proof.Proof.Gen.RglruIdeal.Launch
public import Idealize.ShloMosaic.Lib.Pipeline.FrameBody
public import Idealize.ShloMosaic.Lib.Ring
public import Idealize.ShloMosaic.Lib.Tactic

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

set_option maxHeartbeats 8000000 in
/-- The pieces the body leaves in the output block and in the two carried buffers, with the run that leaves them. -/
noncomputable def runRest (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : ¬((Scalar.cmpi .ne (Scalar.extui (Scalar.cmpi .eq (BitVec.ofNat 32 (i 1).val) 0#32)) 0#32) = 1#1))
    (x0 : Vec F S256x1024 .f32) (x1 : Vec F S256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (x9 : Vec F S1x1024 .f32) (T : Vec F S8x1024 .f32) (H : Vec F S8x1024 .f32) :
    Σ' (L12 : List (View.Piece (Elt F) S256x1024 .bf16)) (L13 : List (View.Piece (Elt F) S8x1024 .f32)), { L14 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare T ∗ owns (c : Thread nD τ) arg14 fullShare H ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.RglruIdeal.Hand

end
-- ==== Proof.RglruBlock.lean ====
/- The four column blocks of the recurrence call's body run the same operations on a block's columns; the stored
   values are named here once, and each block's words are shown to be them. -/
module

public import proofs.«01_k».proof.Proof.RglruRunRest

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic Idealize.SL.Sem

variable {F : FTy → Type} [FloatOps F]

/-- The row number of each entry of a 256-by-256 block. -/
def rowNo : IVec S256x256 32 := iota .tc S256x256 32 [0] iota_S256x256_d0_w32

/-- The convolution over the four rows that end at a row, of one block's columns. -/
def convB (x : Vec F S256x256 .f32) (T : Vec F S8x256 .f32) (cw : Vec F S4x256 .f32) (cb : Vec F S1x256 .f32) :
    FVec F S256x256 .f32 :=
  k0_pay11 rowNo T (k0_pay8 cw) (k0_pay9 rowNo x T cw cb) (k0_pay10 rowNo x T) 1#32

/-- A gate of one block: the logistic function of a product with the block's weights, plus its bias. -/
def gateB (xr : FVec F S256x256 .f32) (w : Vec F S1x256x256 .bf16) (b : Vec F S1x256 .f32) : FVec F S256x256 .f32 :=
  logistic (addf (matmul dot_S256x256_S256x256_S256x256_1_0_0_1_n_n none (truncf .bf16 xr bitsLt_bf16_f32)
    (shapeCast S256x256 w shapeCasts_S1x256x256_S256x256) (constant S256x256 .f32 0x00000000#32))
    (broadcastTo S256x256 (shapeCast S1x256 b shapeCasts_S1x256_S1x256) broadcasts_S1x256_S256x256))

/-- The logarithm of the decay of one block. -/
def logB (s : FVec F S1x256 .f32) (g : FVec F S256x256 .f32) : FVec F S256x256 .f32 :=
  mulf (broadcastTo S256x256 s broadcasts_S1x256_S256x256) g

/-- The factor of the gated input: the square root of the complement of the decay's square. -/
def sqrtB (l : FVec F S256x256 .f32) : FVec F S256x256 .f32 :=
  sqrt (divf (mulf (broadcast S256x256 (Scalar.ofBits .f32 0xC0000000#32)) (tanh l))
    (subf (broadcast S256x256 (Scalar.ofBits .f32 0x3F800000#32)) (tanh l)))

/-- The decays of one block, composed within each group of eight rows. -/
def aB (l : FVec F S256x256 .f32) : FVec F S256x256 .f32 := k0_pay22 k0_pay4 (exp l)

/-- The inputs of one block, composed within each group of eight rows. -/
def uB (l : FVec F S256x256 .f32) (g : FVec F S256x256 .f32) (xr : FVec F S256x256 .f32) : FVec F S256x256 .f32 :=
  k0_pay23 k0_pay4 (exp l) (sqrtB l) (mulf g xr)

/-- The decays the first block stores. -/
theorem a_0 (x : Vec F S256x256 .f32) (T : Vec F S8x256 .f32) (cw : Vec F S4x256 .f32) (cb : Vec F S1x256 .f32) (r : FVec F S1x1024 .f32) (wa : Vec F S1x256x256 .bf16) (ba : Vec F S1x256 .f32) (wx : Vec F S1x256x256 .bf16) (bx : Vec F S1x256 .f32) :
    k0_pay22 k0_pay4 (k0_pay14 rowNo r T (k0_pay8 cw) (k0_pay9 rowNo x T cw cb) (k0_pay10 rowNo x T) 1#32 wa ba) = aB (logB (extractStridedSlice S1x256 ![0, 0] r slices_S1x1024_o0_0_S1x256) (gateB (convB x T cw cb) wa ba)) := by
  rfl

/-- The inputs the first block stores. -/
theorem u_0 (x : Vec F S256x256 .f32) (T : Vec F S8x256 .f32) (cw : Vec F S4x256 .f32) (cb : Vec F S1x256 .f32) (r : FVec F S1x1024 .f32) (wa : Vec F S1x256x256 .bf16) (ba : Vec F S1x256 .f32) (wx : Vec F S1x256x256 .bf16) (bx : Vec F S1x256 .f32) :
    k0_pay23 k0_pay4 (k0_pay14 rowNo r T (k0_pay8 cw) (k0_pay9 rowNo x T cw cb) (k0_pay10 rowNo x T) 1#32 wa ba) (k0_pay15 rowNo r T (k0_pay8 cw) (k0_pay9 rowNo x T cw cb) (k0_pay10 rowNo x T) 1#32 wa ba) (k0_pay16 rowNo T (k0_pay8 cw) (k0_pay9 rowNo x T cw cb) (k0_pay10 rowNo x T) 1#32 wx bx) = uB (logB (extractStridedSlice S1x256 ![0, 0] r slices_S1x1024_o0_0_S1x256) (gateB (convB x T cw cb) wa ba)) (gateB (convB x T cw cb) wx bx) (convB x T cw cb) := by
  rfl

/-- The decays the second block stores. -/
theorem a_1 (x : Vec F S256x256 .f32) (T : Vec F S8x256 .f32) (cw : Vec F S4x256 .f32) (cb : Vec F S1x256 .f32) (r : FVec F S1x1024 .f32) (wa : Vec F S1x256x256 .bf16) (ba : Vec F S1x256 .f32) (wx : Vec F S1x256x256 .bf16) (bx : Vec F S1x256 .f32) :
    k0_pay42 k0_pay4 (k0_pay38 k0_pay4 r (k0_pay32 rowNo x T (k0_pay30 cw) (k0_pay31 x cw cb)) wa ba) (k0_pay39 k0_pay4) 2#32 = aB (logB (extractStridedSlice S1x256 ![0, 256] r slices_S1x1024_o0_256_S1x256) (gateB (convB x T cw cb) wa ba)) := by
  rfl

/-- The inputs the second block stores. -/
theorem u_1 (x : Vec F S256x256 .f32) (T : Vec F S8x256 .f32) (cw : Vec F S4x256 .f32) (cb : Vec F S1x256 .f32) (r : FVec F S1x1024 .f32) (wa : Vec F S1x256x256 .bf16) (ba : Vec F S1x256 .f32) (wx : Vec F S1x256x256 .bf16) (bx : Vec F S1x256 .f32) :
    k0_pay43 k0_pay4 (k0_pay37 k0_pay4 r (k0_pay32 rowNo x T (k0_pay30 cw) (k0_pay31 x cw cb)) wa ba wx bx) (k0_pay38 k0_pay4 r (k0_pay32 rowNo x T (k0_pay30 cw) (k0_pay31 x cw cb)) wa ba) (k0_pay39 k0_pay4) 2#32 = uB (logB (extractStridedSlice S1x256 ![0, 256] r slices_S1x1024_o0_256_S1x256) (gateB (convB x T cw cb) wa ba)) (gateB (convB x T cw cb) wx bx) (convB x T cw cb) := by
  rfl

/-- The decays the third block stores. -/
theorem a_2 (x : Vec F S256x256 .f32) (T : Vec F S8x256 .f32) (cw : Vec F S4x256 .f32) (cb : Vec F S1x256 .f32) (r : FVec F S1x1024 .f32) (wa : Vec F S1x256x256 .bf16) (ba : Vec F S1x256 .f32) (wx : Vec F S1x256x256 .bf16) (bx : Vec F S1x256 .f32) :
    k0_pay68 (k0_pay64 k0_pay4 r (k0_pay57 rowNo x T (k0_pay51 cw) (k0_pay52 rowNo x T cw cb) (k0_pay53 x) k0_pay54 wa ba)) (k0_pay65 k0_pay4) (k0_pay66 k0_pay4 r (k0_pay57 rowNo x T (k0_pay51 cw) (k0_pay52 rowNo x T cw cb) (k0_pay53 x) k0_pay54 wa ba)) = aB (logB (extractStridedSlice S1x256 ![0, 512] r slices_S1x1024_o0_512_S1x256) (gateB (convB x T cw cb) wa ba)) := by
  rfl

/-- The inputs the third block stores. -/
theorem u_2 (x : Vec F S256x256 .f32) (T : Vec F S8x256 .f32) (cw : Vec F S4x256 .f32) (cb : Vec F S1x256 .f32) (r : FVec F S1x1024 .f32) (wa : Vec F S1x256x256 .bf16) (ba : Vec F S1x256 .f32) (wx : Vec F S1x256x256 .bf16) (bx : Vec F S1x256 .f32) :
    k0_pay69 (k0_pay63 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (k0_pay65 k0_pay4) (k0_pay67 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) = uB (logB (extractStridedSlice S1x256 ![0, 512] r slices_S1x1024_o0_512_S1x256) (gateB (convB x T cw cb) wa ba)) (gateB (convB x T cw cb) wx bx) (convB x T cw cb) := by
  rfl

/-- The decays the fourth block stores. -/
theorem a_3 (x : Vec F S256x256 .f32) (T : Vec F S8x256 .f32) (cw : Vec F S4x256 .f32) (cb : Vec F S1x256 .f32) (r : FVec F S1x1024 .f32) (wa : Vec F S1x256x256 .bf16) (ba : Vec F S1x256 .f32) (wx : Vec F S1x256x256 .bf16) (bx : Vec F S1x256 .f32) :
    k0_pay89 k0_pay4 (k0_pay82 rowNo r x T (k0_pay76 cw) (k0_pay77 rowNo x T cw cb) 3#32 wa ba) = aB (logB (extractStridedSlice S1x256 ![0, 768] r slices_S1x1024_o0_768_S1x256) (gateB (convB x T cw cb) wa ba)) := by
  rfl

/-- The inputs the fourth block stores. -/
theorem u_3 (x : Vec F S256x256 .f32) (T : Vec F S8x256 .f32) (cw : Vec F S4x256 .f32) (cb : Vec F S1x256 .f32) (r : FVec F S1x1024 .f32) (wa : Vec F S1x256x256 .bf16) (ba : Vec F S1x256 .f32) (wx : Vec F S1x256x256 .bf16) (bx : Vec F S1x256 .f32) :
    k0_pay90 k0_pay4 (k0_pay78 rowNo x T (k0_pay76 cw) (k0_pay77 rowNo x T cw cb) 3#32) (k0_pay80 rowNo x T (k0_pay76 cw) (k0_pay77 rowNo x T cw cb) 3#32 wx bx) (k0_pay82 rowNo r x T (k0_pay76 cw) (k0_pay77 rowNo x T cw cb) 3#32 wa ba) (k0_pay83 rowNo r x T (k0_pay76 cw) (k0_pay77 rowNo x T cw cb) 3#32 wa ba) = uB (logB (extractStridedSlice S1x256 ![0, 768] r slices_S1x1024_o0_768_S1x256) (gateB (convB x T cw cb) wa ba)) (gateB (convB x T cw cb) wx bx) (convB x T cw cb) := by
  rfl

/-- The gated output of the second block. -/
theorem o_1 (h y : Vec F S256x256 .f32) :
    k0_pay49 h y (k0_pay48 y) (Scalar.ofBits .f32 0x3F4C422A#32) = k0_pay28 h y := by
  rfl

/-- The gated output of the third block. -/
theorem o_2 (h y : Vec F S256x256 .f32) :
    k0_pay74 h y = k0_pay28 h y := by
  rfl

/-- The gated output of the fourth block. -/
theorem o_3 (h y : Vec F S256x256 .f32) :
    k0_pay95 h y = k0_pay28 h y := by
  rfl

end Cert.RglruIdeal.Hand
-- ==== Proof.RglruPoint.lean ====
/- The block values of the recurrence call's body, entry by entry over the reals: the convolution, the gates, and the
   composition within groups of eight rows, which together with the loop over the groups is the recurrence row by row. -/
module

public import proofs.«01_k».proof.Proof.RglruBlock
public import proofs.«01_k».proof.Proof.ScanLoop
public import Idealize.ShloMosaic.Lib.Pipeline.ValueKit
public import Idealize.ShloMosaic.Lib.Pointwise
public import Idealize.ShloMosaic.Lib.KernelVsHost

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic Idealize.SL.Sem

/-- The entry `d` rows before row `s` of a block, from the eight rows before the block where it lies there. -/
def back (x : FVec Ideal S256x256 .f32) (T : FVec Ideal S8x256 .f32) (d : ℕ) (hd : d < 8) (s : Fin 256) (j : Fin 256) : EReal :=
  if h : d ≤ s.val then x (ix2 ⟨s.val - d, by omega⟩ j) else T (ix2 ⟨8 + s.val - d, by omega⟩ j)

theorem sel_eq {α : Type} (s k : ℕ) (hs : s < 2 ^ 32) (hk : k < 2 ^ 32) (a b : α) :
    Scalar.select (IntOp.cmpi CmpIPredicate.eq (BitVec.ofNat 32 s) (BitVec.ofNat 32 k)) a b = if s = k then a else b := by
  rw [WordCmp.cmpi_eq_ofNat hs hk]
  by_cases h : s = k <;> simp [h, Scalar.select]

theorem sel_ge {α : Type} (s k : ℕ) (hs : s < 2 ^ 31) (hk : k < 2 ^ 31) (a b : α) :
    Scalar.select (IntOp.cmpi CmpIPredicate.sge (BitVec.ofNat 32 s) (BitVec.ofNat 32 k)) a b = if k ≤ s then a else b := by
  rw [WordCmp.cmpi_sge_ofNat hs hk]
  by_cases h : k ≤ s <;> simp [h, Scalar.select]

theorem back1 (x : FVec Ideal S256x256 .f32) (T : FVec Ideal S8x256 .f32) (s j : Fin 256) :
    (if s.val = 0 then T (ix2 7 j) else x (ix2 ⟨(s.val + 256 - 1) % 256, by omega⟩ j)) = back x T 1 (by decide) s j := by
  unfold back
  by_cases h : s.val = 0
  · rw [if_pos h, dif_neg (by omega)]; congr 2; exact Fin.ext (by show 7 = 8 + s.val - 1; omega)
  · rw [if_neg h, dif_pos (by omega)]; congr 2; exact Fin.ext (by show (s.val + 256 - 1) % 256 = s.val - 1; omega)

theorem back2 (x : FVec Ideal S256x256 .f32) (T : FVec Ideal S8x256 .f32) (s j : Fin 256) :
    (if s.val = 1 then T (ix2 7 j) else if s.val = 0 then T (ix2 6 j) else x (ix2 ⟨(s.val + 256 - 2) % 256, by omega⟩ j)) = back x T 2 (by decide) s j := by
  unfold back
  by_cases h1 : s.val = 1
  · rw [if_pos h1, dif_neg (by omega)]; congr 2; exact Fin.ext (by show 7 = 8 + s.val - 2; omega)
  by_cases h : s.val = 0
  · rw [if_neg h1, if_pos h, dif_neg (by omega)]; congr 2; exact Fin.ext (by show 6 = 8 + s.val - 2; omega)
  · rw [if_neg h1, if_neg h, dif_pos (by omega)]; congr 2; exact Fin.ext (by show (s.val + 256 - 2) % 256 = s.val - 2; omega)

theorem back3 (x : FVec Ideal S256x256 .f32) (T : FVec Ideal S8x256 .f32) (s j : Fin 256) :
    (if s.val = 2 then T (ix2 7 j) else if s.val = 1 then T (ix2 6 j) else if s.val = 0 then T (ix2 5 j) else x (ix2 ⟨(s.val + 256 - 3) % 256, by omega⟩ j)) = back x T 3 (by decide) s j := by
  unfold back
  by_cases h2 : s.val = 2
  · rw [if_pos h2, dif_neg (by omega)]; congr 2; exact Fin.ext (by show 7 = 8 + s.val - 3; omega)
  by_cases h1 : s.val = 1
  · rw [if_neg h2, if_pos h1, dif_neg (by omega)]; congr 2; exact Fin.ext (by show 6 = 8 + s.val - 3; omega)
  by_cases h : s.val = 0
  · rw [if_neg h2, if_neg h1, if_pos h, dif_neg (by omega)]; congr 2; exact Fin.ext (by show 5 = 8 + s.val - 3; omega)
  · rw [if_neg h2, if_neg h1, if_neg h, dif_pos (by omega)]; congr 2; exact Fin.ext (by show (s.val + 256 - 3) % 256 = s.val - 3; omega)

set_option maxHeartbeats 2000000 in
theorem conv_at (x : FVec Ideal S256x256 .f32) (T : FVec Ideal S8x256 .f32) (cw : FVec Ideal S4x256 .f32) (cb : FVec Ideal S1x256 .f32) (s j : Fin 256) :
    convB (F := Ideal) x T cw cb (ix2 s j) = (((cw (ix2 3 j) * x (ix2 s j) + cb (ix2 0 j)) + cw (ix2 2 j) * back x T 1 (by decide) s j)
      + cw (ix2 1 j) * back x T 2 (by decide) s j) + cw (ix2 0 j) * back x T 3 (by decide) s j := by
  pointwise [convB, rowNo, k0_pay11, k0_pay8, k0_pay9, k0_pay10]
  have hs := s.isLt
  rw [sel_eq s.val 0 (by omega) (by omega), sel_eq s.val 1 (by omega) (by omega), sel_eq s.val 0 (by omega) (by omega),
    sel_eq s.val 2 (by omega) (by omega), sel_eq s.val 1 (by omega) (by omega), sel_eq s.val 0 (by omega) (by omega),
    back1, back2, back3]

set_option maxHeartbeats 2000000 in
theorem gate_at (xr : FVec Ideal S256x256 .f32) (w : FVec Ideal S1x256x256 .bf16) (b : FVec Ideal S1x256 .f32) (s j : Fin 256) :
    gateB (F := Ideal) xr w b (ix2 s j) = Ideal.logistic ((∑ k : Fin 256, xr (ix2 s k) * w (ix3 0 k j)) + b (ix2 0 j)) := by
  pointwise [gateB]

theorem log_at (v : FVec Ideal S1x256 .f32) (g : FVec Ideal S256x256 .f32) (s j : Fin 256) :
    logB (F := Ideal) v g (ix2 s j) = v (ix2 0 j) * g (ix2 s j) := by
  pointwise [logB]

theorem sqrt_at (l : FVec Ideal S256x256 .f32) (s j : Fin 256) : sqrtB (F := Ideal) l (ix2 s j)
    = Ideal.sqrt (Ideal.div (Ideal.ofBits .f32 0xC0000000#32 * Ideal.tanh (l (ix2 s j))) (Ideal.ofBits .f32 0x3F800000#32 - Ideal.tanh (l (ix2 s j)))) := by
  pointwise [sqrtB]

theorem pay4_at (s j : Fin 256) : k0_pay4 (ix2 s j) = BitVec.ofNat 32 (s.val % 8) := by
  revert s
  pointwise [k0_pay4]
  decide +kernel

/-- One round of composition: each row at least `d` into its group takes in the row `d` before. -/
def rndA (d : ℕ) (A : Fin 256 → EReal) (s : Fin 256) : EReal :=
  if d ≤ s.val % 8 then A s * A ⟨(s.val + 256 - d) % 256, Nat.mod_lt _ (by decide)⟩ else A s
def rndU (d : ℕ) (A U : Fin 256 → EReal) (s : Fin 256) : EReal :=
  if d ≤ s.val % 8 then A s * U ⟨(s.val + 256 - d) % 256, Nat.mod_lt _ (by decide)⟩ + U s else U s

theorem sel8_1 {α : Type} (n : ℕ) (a b : α) : Scalar.select (IntOp.cmpi CmpIPredicate.sge (BitVec.ofNat 32 (n % 8)) 1#32) a b = if 1 ≤ n % 8 then a else b :=
  sel_ge (n % 8) 1 (by omega) (by decide) a b
theorem sel8_2 {α : Type} (n : ℕ) (a b : α) : Scalar.select (IntOp.cmpi CmpIPredicate.sge (BitVec.ofNat 32 (n % 8)) 2#32) a b = if 2 ≤ n % 8 then a else b :=
  sel_ge (n % 8) 2 (by omega) (by decide) a b
theorem sel8_4 {α : Type} (n : ℕ) (a b : α) : Scalar.select (IntOp.cmpi CmpIPredicate.sge (BitVec.ofNat 32 (n % 8)) 4#32) a b = if 4 ≤ n % 8 then a else b :=
  sel_ge (n % 8) 4 (by omega) (by decide) a b

set_option maxHeartbeats 2000000 in
theorem aB_at (l : FVec Ideal S256x256 .f32) (s j : Fin 256) : aB (F := Ideal) l (ix2 s j)
    = rndA 4 (rndA 2 (rndA 1 (fun s => Ideal.exp (l (ix2 s j))))) s := by
  pointwise [aB, k0_pay22, k0_pay21, k0_pay20, k0_pay19, k0_pay18, k0_pay17, pay4_at]
  simp only [sel8_1, sel8_2, sel8_4, rndA]

set_option maxHeartbeats 4000000 in
theorem uB_at (l g xr : FVec Ideal S256x256 .f32) (s j : Fin 256) : uB (F := Ideal) l g xr (ix2 s j)
    = rndU 4 (rndA 2 (rndA 1 (fun s => Ideal.exp (l (ix2 s j))))) (rndU 2 (rndA 1 (fun s => Ideal.exp (l (ix2 s j))))
        (rndU 1 (fun s => Ideal.exp (l (ix2 s j))) (fun s => sqrtB (F := Ideal) l (ix2 s j) * (g (ix2 s j) * xr (ix2 s j))))) s := by
  pointwise [uB, k0_pay23, k0_pay21, k0_pay20, k0_pay19, k0_pay18, k0_pay17, pay4_at]
  simp only [sel8_1, sel8_2, sel8_4, rndA, rndU]

/-- A real number that is not negative. -/
def Pos (x : EReal) : Prop := ∃ r : ℝ, 0 ≤ r ∧ x = (r : EReal)
theorem Pos.mul {x y : EReal} (hx : Pos x) (hy : Pos y) : Pos (x * y) := by
  obtain ⟨a, ha, rfl⟩ := hx; obtain ⟨b, hb, rfl⟩ := hy
  exact ⟨a * b, mul_nonneg ha hb, (EReal.coe_mul a b).symm⟩
theorem Pos.dist {x : EReal} (hx : Pos x) (y z : EReal) : x * (y + z) = x * y + x * z := by
  obtain ⟨a, ha, rfl⟩ := hx
  exact EReal.left_distrib_of_nonneg_of_ne_top (by exact_mod_cast ha) (EReal.coe_ne_top a) y z
theorem pos_exp {x : EReal} (h : x ≤ 0) : Pos (Ideal.exp x) := by
  induction x with
  | bot => exact ⟨0, le_rfl, Ideal.exp_bot⟩
  | coe r => exact ⟨Real.exp r, (Real.exp_pos r).le, rfl⟩
  | top => simp at h

/-- A round keeps the meaning of the composed maps: they take the state before the rows they cover to the state after. -/
theorem round {A U : Fin 256 → EReal} {hr : ℕ → EReal} (d : ℕ) (hd : d = 1 ∨ d = 2 ∨ d = 4) (hA : ∀ s, Pos (A s))
    (h : ∀ s : Fin 256, A s * hr (8 * (s.val / 8) + (s.val % 8 - (d - 1))) + U s = hr (s.val + 1)) :
    (∀ s, Pos (rndA d A s)) ∧ ∀ s : Fin 256, rndA d A s * hr (8 * (s.val / 8) + (s.val % 8 - (2 * d - 1))) + rndU d A U s = hr (s.val + 1) := by
  refine ⟨fun s => ?_, fun s => ?_⟩
  · unfold rndA; split
    · exact (hA _).mul (hA _)
    · exact hA _
  · have hs := s.isLt
    unfold rndA rndU
    by_cases hc : d ≤ s.val % 8
    · rw [if_pos hc, if_pos hc]
      have e := h ⟨(s.val + 256 - d) % 256, Nat.mod_lt _ (by decide)⟩
      have e0 : ((s.val + 256 - d) % 256) = s.val - d := by omega
      simp only [e0] at e ⊢
      rw [show 8 * ((s.val - d) / 8) + ((s.val - d) % 8 - (d - 1)) = 8 * (s.val / 8) + (s.val % 8 - (2 * d - 1)) by omega,
        show s.val - d + 1 = 8 * (s.val / 8) + (s.val % 8 - (d - 1)) by omega] at e
      rw [← h s, ← e, (hA s).dist, mul_assoc, add_assoc]
    · rw [if_neg hc, if_neg hc, ← h s]
      rw [show s.val % 8 - (2 * d - 1) = s.val % 8 - (d - 1) by omega]

/-- After the three rounds a row's map takes the state before its group to the state after the row. -/
theorem group_at (l g xr : FVec Ideal S256x256 .f32) (j : Fin 256) (hl : ∀ s, l (ix2 s j) ≤ 0) (hr : ℕ → EReal)
    (h : ∀ s : Fin 256, hr (s.val + 1) = Ideal.exp (l (ix2 s j)) * hr s.val + sqrtB (F := Ideal) l (ix2 s j) * (g (ix2 s j) * xr (ix2 s j)))
    (s : Fin 256) : uB (F := Ideal) l g xr (ix2 s j) + aB (F := Ideal) l (ix2 s j) * hr (8 * (s.val / 8)) = hr (s.val + 1) := by
  rw [aB_at, uB_at]
  have r0 := round (A := fun s => Ideal.exp (l (ix2 s j))) (U := fun s => sqrtB (F := Ideal) l (ix2 s j) * (g (ix2 s j) * xr (ix2 s j)))
    (hr := hr) 1 (.inl rfl) (fun s => pos_exp (hl s)) (fun s => by
      rw [h s, show 8 * (s.val / 8) + (s.val % 8 - (1 - 1)) = s.val by omega])
  have r1 := round 2 (.inr (.inl rfl)) r0.1 r0.2
  have r2 := round 4 (.inr (.inr rfl)) r1.1 r1.2
  have e := r2.2 s
  rw [show 8 * (s.val / 8) + (s.val % 8 - (2 * 4 - 1)) = 8 * (s.val / 8) by omega] at e
  rw [← e, add_comm]

section
variable (l g xr : FVec Ideal S256x256 .f32) (j : Fin 256) (hl : ∀ s, l (ix2 s j) ≤ 0) (hr : ℕ → EReal)
    (h : ∀ s : Fin 256, hr (s.val + 1) = Ideal.exp (l (ix2 s j)) * hr s.val + sqrtB (F := Ideal) l (ix2 s j) * (g (ix2 s j) * xr (ix2 s j)))
    (init : FVec Ideal S8x256 .f32) (hi : ∀ r, init (ix2 r j) = hr 0)
include hl h hi

theorem carry_at (k : ℕ) (hk : k ≤ 32) (r : Fin 8) : carry (aB (F := Ideal) l) (uB (F := Ideal) l g xr) init k r j = hr (8 * k) := by
  induction k generalizing r with
  | zero => exact hi r
  | succ k ih =>
    have e := group_at l g xr j hl hr h (grow k 7)
    have v := grow_val k 7 (by omega)
    rw [v] at e
    show uB (F := Ideal) l g xr (ix2 (grow k 7) j) + aB (F := Ideal) l (ix2 (grow k 7) j) * carry (aB (F := Ideal) l) (uB (F := Ideal) l g xr) init k 7 j = _
    rw [ih (by omega), show 8 * (k + 1) = 8 * k + 7 + 1 by omega, ← e, show 8 * ((8 * k + 7) / 8) = 8 * k by omega]

theorem scan_at (s : Fin 256) : scanOut (aB (F := Ideal) l) (uB (F := Ideal) l g xr) init s j = hr (s.val + 1) := by
  unfold scanOut
  have hs := s.isLt
  rw [carry_at l g xr j hl hr h init hi _ (by omega), ← group_at l g xr j hl hr h s]

end

end Cert.RglruIdeal.Hand
-- ==== Proof.RglruRefRun.lean ====
/- The recurrence reference's run: its result is read off the loop's 2048th state. -/
module

public import proofs.«01_k».proof.Proof.Gen.RglruRefIdeal.Run
public import proofs.«01_k».proof.Proof.Gen.RglruRefIdeal.Step

@[expose] public section

set_option maxRecDepth 65536

noncomputable section

namespace Cert.RglruRefIdeal.Hand

open Idealize.ShloMosaic Idealize.ShloMosaic.TcCoe Idealize.SL.Sem Idealize.ShloMosaic.StableHlo
open Cert.RglruRefIdeal Cert.RglruRefIdeal.Gen Cert.RglruRefIdeal.Value
open Cert.RglruRefIdeal.Step (State step init)

variable {F : FTy → Type} [FloatOps F]

/-- The buffers the loop carries hold the state `s`, and its counter the number `j`. -/
def At (V0 : Valuation τ sig (Elt F)) (s : State F) (j : ℕ) : Prop :=
  (V0 (Proc.devRef .tc main_v84_3) = s.main_v84_3 ∧ V0 (Proc.devRef .tc main_v84_4) = s.main_v84_4)
    ∧ (V0 (Proc.devRef .tc main_v84_0) = s.main_v84_0 ∧ V0 (Proc.devRef .tc main_v84_1) = s.main_v84_1)
    ∧ V0 (Proc.devRef .tc main_v84_2) = constantI S_ 32 (BitVec.ofNat 32 j)

variable {V0 : Valuation τ sig (Elt F)} {s : State F} {j : ℕ}

theorem new_h (h : At V0 s j) : res_main_while0b_v121 V0 = Cert.RglruRefIdeal.Step.b9 j s := by
  obtain ⟨⟨e3, e4⟩, ⟨e0, e1⟩, e2⟩ := h
  unfold res_main_while0b_v121
  rw [e0, e1, e2, e3]
  rfl

theorem new_stack (h : At V0 s j) : step_main_v84_4 V0 = Cert.RglruRefIdeal.Step.b13 j s := by
  have hb := new_h h
  obtain ⟨⟨e3, e4⟩, ⟨e0, e1⟩, e2⟩ := h
  unfold step_main_v84_4
  rw [hb, e4, e2]
  rfl

/-- One trip of the loop steps the state. -/
theorem at_step (h : At V0 s j) : At (STEP V0) (step j s) (j + 1) := by
  refine ⟨⟨(STEP_main_v84_3 V0).trans (new_h h), (STEP_main_v84_4 V0).trans (new_stack h)⟩, ⟨(STEP_main_v84_0 V0).trans h.2.1.1, (STEP_main_v84_1 V0).trans h.2.1.2⟩,
    (STEP_main_v84_2 V0).trans ?_⟩
  unfold step_main_v84_2
  rw [h.2.2]
  funext i
  show BitVec.ofNat 32 j + 1#32 = BitVec.ofNat 32 (j + 1)
  rw [BitVec.ofNat_add]

variable (m : (ℓ : Loc nD τ sig) → Buf (Elt F) ℓ)

/-- The loop's state before its `k`-th trip. -/
def state (c : Dev nD) : ℕ → State F
  | 0 => init (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
  | k + 1 => step k (state c k)

set_option maxHeartbeats 1000000 in
theorem at_entry (c : Dev nD) : At (entryContents preI m c) (state m c 0) 0 := by
  refine ⟨⟨?_, ?_⟩, ⟨?_, ?_⟩, ?_⟩ <;> (simp only [entryContents, afterL_cons, afterL_nil]; after_reads_simp) <;> rfl

theorem at_trip (c : Dev nD) (k : ℕ) : At (STEP^[k] (entryContents preI m c)) (state m c k) k := by
  induction k with
  | zero => exact at_entry m c
  | succ k ih =>
    rw [Function.iterate_succ_apply']
    exact at_step ih

theorem result_eq (h : At V0 s j) {a0 : (⟨S32768x2176, .f32⟩ : BufTy).Contents (Elt F)} (h0 : V0 (Proc.devRef .tc main_arg0) = a0)
    {a8 : (⟨S1x1024, .f32⟩ : BufTy).Contents (Elt F)} (h8 : V0 (Proc.devRef .tc main_arg8) = a8) :
    out_main_v117 V0 = Cert.RglruRefIdeal.Step.R_main_v117 s a0 a8 := by
  unfold out_main_v117
  rw [h.1.2, h0, h8]
  rfl

/-- The result the loop's last state gives. -/
def result (c : Dev nD) : (⟨S32768x1024, .bf16⟩ : BufTy).Contents (Elt F) :=
  Cert.RglruRefIdeal.Step.R_main_v117 (state m c 2048) (m ((c.tc : Thread nD τ).loc main_arg0)) (m ((c.tc : Thread nD τ).loc main_arg8))

theorem run_result (c : Dev nD) : out_main_v117 (STEP^[2048] (entryContents preI m c)) = result m c :=
  result_eq (at_trip m c 2048) (iter_main_arg0 m c 2048) (iter_main_arg8 m c 2048)

end Cert.RglruRefIdeal.Hand

end
-- ==== Proof.RglruSpec.lean ====
/- The recurrence over the reals as functions of the arguments, row by row, and the reference's arrays read as them. -/
module

public import proofs.«01_k».proof.Proof.RglruRefRun
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.RglruRefIdeal.Hand

open Cert.RglruRefIdeal Cert.RglruRefIdeal.Step
open Idealize.ShloMosaic Idealize.ShloMosaic.TcCoe Idealize.SL.Sem

section
variable (X : FVec Ideal S32768x2176 .f32) (W : FVec Ideal S1x4x1024 .f32) (B : FVec Ideal S1x1024 .f32)
  (WA : FVec Ideal S1x16x64x64 .f32) (BA : FVec Ideal S1x1024 .f32) (WX : FVec Ideal S1x16x64x64 .f32) (BX : FVec Ideal S1x1024 .f32)
  (LAM : FVec Ideal S1x1024 .f32) (G : FVec Ideal S1x1024 .f32)

/-- Row `n` of sequence `b` among all the rows. -/
def row (b : Fin 16) (n : ℕ) : Fin 32768 := ⟨(2048 * b.val + n) % 32768, Nat.mod_lt _ (by decide)⟩

/-- The input `d` rows back, zero before the sequence's start. -/
def tap (b : Fin 16) (n d : ℕ) (J : Fin 1024) : EReal := if d ≤ n then X (ix2 (row b (n - d)) ⟨J.val, by omega⟩) else 0

/-- The causal convolution of a sequence's input. -/
def conv (b : Fin 16) (n : ℕ) (J : Fin 1024) : EReal :=
  (((W (ix3 0 0 J) * tap X b n 3 J + W (ix3 0 1 J) * tap X b n 2 J) + W (ix3 0 2 J) * tap X b n 1 J) + W (ix3 0 3 J) * tap X b n 0 J) + B (ix2 0 J)

/-- A gate: the logistic function of the product with the head's weights. -/
def gate (b : Fin 16) (n : ℕ) (J : Fin 1024) : EReal :=
  Ideal.logistic ((∑ i : Fin 64, WA (ix4 0 ⟨J.val / 64, by omega⟩ i ⟨J.val % 64, by omega⟩) * conv X W B b n ⟨J.val / 64 * 64 + i.val, by omega⟩) + BA (ix2 0 J))

/-- The slope of the decay's logarithm. -/
def slope (J : Fin 1024) : EReal :=
  Ideal.ofBits .f32 0xC1000000#32 * (max (-(LAM (ix2 0 J))) 0 + Ideal.log1p (Ideal.exp (-((FloatOps.absf (-(LAM (ix2 0 J)) : Ideal .f32) : EReal)))))

/-- The decay's logarithm. -/
def lg (b : Fin 16) (n : ℕ) (J : Fin 1024) : EReal := slope LAM J * gate X W B WA BA b n J

/-- The gated input. -/
def inp (b : Fin 16) (n : ℕ) (J : Fin 1024) : EReal :=
  Ideal.sqrt (-(Ideal.exp (Ideal.ofBits .f32 0x40000000#32 * lg X W B WA BA LAM b n J) - 1)) * (gate X W B WX BX b n J * conv X W B b n J)

/-- The state before row `n`. -/
def st (b : Fin 16) (J : Fin 1024) : ℕ → EReal
  | 0 => 0
  | n + 1 => Ideal.exp (lg X W B WA BA LAM b n J) * st b J n + inp X W B WA BA WX BX LAM b n J

theorem tap_at (b : Fin 16) (n k d : ℕ) (hn : n < 2048) (hkd : k + d = 3) (J : Fin 1024) (z : EReal) (hz : z = 0) :
    (if h : 3 ≤ k + n ∧ k + n - 3 < 2048 then X (ix2 ⟨b.val * 2048 + (k + n - 3), by omega⟩ ⟨J.val, by omega⟩) else z) = tap X b n d J := by
  unfold tap row
  by_cases h : d ≤ n
  · rw [if_pos h, dif_pos (by omega)]; congr 2; exact Fin.ext (by show b.val * 2048 + (k + n - 3) = (2048 * b.val + (n - d)) % 32768; omega)
  · rw [if_neg h, dif_neg (by omega), hz]

set_option maxHeartbeats 4000000 in
theorem v34_at (b : Fin 16) (n : Fin 2048) (J : Fin 1024) :
    A_main_v34 (F := Ideal) X W B WA BA WX BX LAM (ix3 b n J) = conv X W B b n.val J := by
  pointwise [A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v2, A_main_v1, A_main_v0, K_main_call0_v0, K_main_c]
  have hz : (FloatOps.sitofp FTy.f32 0#32 : Ideal FTy.f32) = 0 := sitofp_zero (φ := FTy.f32)
  have t3 := tap_at X b n.val 0 3 n.isLt rfl J _ hz
  have t2 := tap_at X b n.val 1 2 n.isLt rfl J _ hz
  have t1 := tap_at X b n.val 2 1 n.isLt rfl J _ hz
  have t0 := tap_at X b n.val 3 0 n.isLt rfl J _ hz
  simp only [Nat.zero_add] at t3
  rw [dif_pos (by omega)] at t0
  unfold conv
  rw [← t3, ← t2, ← t1, ← t0]
  congr 5
  all_goals exact Fin.ext (by show b.val * 2048 + n.val = b.val * 2048 + (3 + n.val - 3); omega)

set_option maxHeartbeats 4000000 in
theorem v52_at (b : Fin 16) (n : Fin 2048) (J : Fin 1024) :
    A_main_v52 (F := Ideal) X W B WA BA WX BX LAM (ix3 b n J) = gate X W B WA BA b n.val J := by
  pointwise [A_main_v52, A_main_v50, A_main_v48, A_main_v47, A_main_v46, A_main_v45, A_main_v44, A_main_v43, A_main_v42, A_main_v41, A_main_v40, A_main_v36, A_main_v35, v34_at, K_main_v49, K_main_cst, K_main_v51, K_main_cst_0]
  rfl

set_option maxHeartbeats 4000000 in
theorem v64_at (b : Fin 16) (n : Fin 2048) (J : Fin 1024) :
    A_main_v64 (F := Ideal) X W B WA BA WX BX LAM (ix3 b n J) = gate X W B WX BX b n.val J := by
  pointwise [A_main_v64, A_main_v62, A_main_v60, A_main_v59, A_main_v58, A_main_v57, A_main_v56, A_main_v55, A_main_v54, A_main_v53, A_main_v40, A_main_v38, A_main_v37, v34_at, K_main_v61, K_main_cst_1, K_main_v63, K_main_cst_2]
  rfl

set_option maxHeartbeats 4000000 in
theorem v68_at (J : Fin 1024) :
    A_main_v68 (F := Ideal) X W B WA BA WX BX LAM (ix1 J) = slope LAM J := by
  pointwise [A_main_v68, A_main_v66, A_main_v65, A_main_v39, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst, K_main_v67, K_main_cst_3]
  rw [if_neg (by simp)]
  rfl

set_option maxHeartbeats 4000000 in
theorem v81_at (b : Fin 16) (n : Fin 2048) (J : Fin 1024) :
    A_main_v81 (F := Ideal) X W B WA BA WX BX LAM (ix3 n b J) = Ideal.exp (lg X W B WA BA LAM b n.val J) := by
  pointwise [A_main_v81, A_main_v72, A_main_v71, A_main_v70, A_main_v69, v52_at, v68_at]
  rfl

set_option maxHeartbeats 4000000 in
theorem v82_at (b : Fin 16) (n : Fin 2048) (J : Fin 1024) :
    A_main_v82 (F := Ideal) X W B WA BA WX BX LAM (ix3 n b J) = inp X W B WA BA WX BX LAM b n.val J := by
  pointwise [A_main_v82, A_main_v79, A_main_v78, A_main_v77, A_main_v76, A_main_v75, A_main_v74, A_main_v71, A_main_v70, A_main_v69, v52_at, v68_at, v64_at, v34_at, K_main_v73, K_main_cst_4]
  rfl

/-- The carried state and the trips' rows of the loop. -/
def LS (k : ℕ) : State Ideal := Nat.rec (init X W B WA BA WX BX LAM) (fun k s => step k s) k

theorem LS_0 (k : ℕ) : (LS X W B WA BA WX BX LAM k).main_v84_0 = A_main_v81 (F := Ideal) X W B WA BA WX BX LAM := by
  induction k with
  | zero => rfl
  | succ k ih => exact ih
theorem LS_1 (k : ℕ) : (LS X W B WA BA WX BX LAM k).main_v84_1 = A_main_v82 (F := Ideal) X W B WA BA WX BX LAM := by
  induction k with
  | zero => rfl
  | succ k ih => exact ih

theorem start_0 (ht : S1x16x1024.rank = S2048x16x1024.rank) (j : ℕ) (hj : j < 2048) : Host.clampedStart S2048x16x1024 S1x16x1024 ht
    (fun k => BitVec.toInt ((![constantI S_ 32 (BitVec.ofNat 32 j), constantI S_ 32 0#32, constantI S_ 32 0#32] : Fin 3 → IVec S_ 32) k (Shape.Idx.first Gen.h_S_))) 0 = j := by
  refine Host.clampedStart_of_le ht _ 0 j ?_ ?_
  · show (BitVec.ofNat 32 j).toInt = (j : ℤ)
    have e : (BitVec.ofNat 32 j).toNat = j := by rw [BitVec.toNat_ofNat]; omega
    rw [BitVec.toInt_eq_toNat_of_lt (by rw [e]; omega), e]
  · show j + 1 ≤ 2048
    omega
theorem start_1 (ht : S1x16x1024.rank = S2048x16x1024.rank) (j : ℕ) : Host.clampedStart S2048x16x1024 S1x16x1024 ht
    (fun k => BitVec.toInt ((![constantI S_ 32 (BitVec.ofNat 32 j), constantI S_ 32 0#32, constantI S_ 32 0#32] : Fin 3 → IVec S_ 32) k (Shape.Idx.first Gen.h_S_))) 1 = 0 := by
  refine Host.clampedStart_of_le ht _ 1 0 ?_ (show 0 + 16 ≤ 16 by decide)
  rfl
theorem start_2 (ht : S1x16x1024.rank = S2048x16x1024.rank) (j : ℕ) : Host.clampedStart S2048x16x1024 S1x16x1024 ht
    (fun k => BitVec.toInt ((![constantI S_ 32 (BitVec.ofNat 32 j), constantI S_ 32 0#32, constantI S_ 32 0#32] : Fin 3 → IVec S_ 32) k (Shape.Idx.first Gen.h_S_))) 2 = 0 := by
  refine Host.clampedStart_of_le ht _ 2 0 ?_ (show 0 + 1024 ≤ 1024 by decide)
  rfl

set_option maxHeartbeats 4000000 in
theorem b9_at (s : State Ideal) (j : ℕ) (hj : j < 2048) (b : Fin 16) (J : Fin 1024) : b9 (F := Ideal) j s (ix2 b J)
    = s.main_v84_0 (ix3 ⟨j, hj⟩ b J) * s.main_v84_3 (ix2 b J) + s.main_v84_1 (ix3 ⟨j, hj⟩ b J) := by
  pointwise [b9, b8, b7, b6, b5, b4, b3, b2, b1, b0]
  simp only [start_0 _ j hj, start_1, start_2, Nat.zero_add]

set_option maxHeartbeats 4000000 in
theorem b13_at (s : State Ideal) (j : ℕ) (hj : j < 2048) (n : Fin 2048) (b : Fin 16) (J : Fin 1024) : b13 (F := Ideal) j s (ix3 n b J)
    = if n.val = j then b9 (F := Ideal) j s (ix2 b J) else s.main_v84_4 (ix3 n b J) := by
  pointwise [b13, b12, b11, b10]
  simp only [start_0 _ j hj, start_1, start_2, Nat.sub_zero, Nat.zero_le, and_true]
  by_cases h : n.val = j
  · rw [dif_pos (by omega), if_pos h]
  · rw [dif_neg (by omega), if_neg h]

theorem LS_3 (k : ℕ) (hk : k ≤ 2048) (b : Fin 16) (J : Fin 1024) :
    (LS X W B WA BA WX BX LAM k).main_v84_3 (ix2 b J) = st X W B WA BA WX BX LAM b J k := by
  induction k with
  | zero =>
    show K_main_v80 (F := Ideal) (ix2 b J) = 0
    pointwise [K_main_v80, K_main_cst_5]
  | succ k ih =>
    show b9 (F := Ideal) k (LS X W B WA BA WX BX LAM k) (ix2 b J) = _
    rw [b9_at _ k (by omega), LS_0, LS_1, ih (by omega), v81_at, v82_at]
    rfl

theorem LS_4 (k : ℕ) (hk : k ≤ 2048) (n : Fin 2048) (hn : n.val < k) (b : Fin 16) (J : Fin 1024) :
    (LS X W B WA BA WX BX LAM k).main_v84_4 (ix3 n b J) = st X W B WA BA WX BX LAM b J (n.val + 1) := by
  induction k with
  | zero => omega
  | succ k ih =>
    show b13 (F := Ideal) k (LS X W B WA BA WX BX LAM k) (ix3 n b J) = _
    rw [b13_at _ k (by omega)]
    by_cases h : n.val = k
    · rw [if_pos h, h]
      exact LS_3 X W B WA BA WX BX LAM (k + 1) hk b J
    · rw [if_neg h]
      exact ih (by omega) (by omega)

/-- The gated state. -/
def gy (b : Fin 16) (n : ℕ) (J : Fin 1024) : EReal :=
  st X W B WA BA WX BX LAM b J (n + 1) * (X (ix2 (row b n) ⟨1024 + J.val, by omega⟩) * (Ideal.ofBits .f32 0x3F000000#32 * (1 + Ideal.tanh (Ideal.ofBits .f32 0x3F4C422A#32
    * (X (ix2 (row b n) ⟨1024 + J.val, by omega⟩) + Ideal.ofBits .f32 0x3D372713#32 * (X (ix2 (row b n) ⟨1024 + J.val, by omega⟩)
      * X (ix2 (row b n) ⟨1024 + J.val, by omega⟩) * X (ix2 (row b n) ⟨1024 + J.val, by omega⟩)))))))

/-- The call's result. -/
def res (b : Fin 16) (n : ℕ) (J : Fin 1024) : EReal :=
  gy X W B WA BA WX BX LAM b n J * Ideal.rsqrt (Ideal.div (∑ k : Fin 1024, gy X W B WA BA WX BX LAM b n k * gy X W B WA BA WX BX LAM b n k) (Ideal.ofBits .f32 0x44800000#32)
    + Ideal.ofBits .f32 0x358637BD#32) * G (ix2 0 J)

set_option maxHeartbeats 8000000 in
theorem ref_at (i : Fin 32768) (J : Fin 1024) : R_main_v117 (F := Ideal) (LS X W B WA BA WX BX LAM 2048) X G (ix2 i J)
    = res X W B WA BA WX BX LAM G ⟨i.val / 2048, by omega⟩ (i.val % 2048) J := by
  have hi := i.isLt
  have e : row ⟨i.val / 2048, by omega⟩ (i.val % 2048) = i := Fin.ext (by show (2048 * (i.val / 2048) + i.val % 2048) % 32768 = i.val; omega)
  have h4 := fun J => LS_4 X W B WA BA WX BX LAM 2048 le_rfl ⟨i.val % 2048, by omega⟩ (show i.val % 2048 < 2048 by omega) ⟨i.val / 2048, by omega⟩ J
  unfold res gy
  simp only [e, ← h4]
  pointwise [R_main_v117]

end

/-- The loop's state as the run has it. -/
theorem state_eq (m : (ℓ : Loc nD τ sig) → Buf (Elt Ideal) ℓ) (c : Dev nD) (k : ℕ) : state m c k
    = LS (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) k := by
  induction k with
  | zero => rfl
  | succ k ih => exact congrArg (step k) ih

end Cert.RglruRefIdeal.Hand
-- ==== Proof.RglruStep.lean ====
/- One column block of the recurrence call's body at one grid point is the recurrence over the block's rows. -/
module

public import proofs.«01_k».proof.Proof.RglruPoint
public import proofs.«01_k».proof.Proof.RglruSpec

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic Idealize.SL.Sem
open Cert.RglruRefIdeal.Hand (row tap conv gate lg inp st gy res)

theorem two : Ideal.ofBits .f32 0x40000000#32 = ((2 : ℝ) : EReal) := by
  rw [Ideal.ofBits, Ideal.ieee]; norm_num [Nat.shiftRight_eq_div_pow, BitVec.extractLsb']; try rfl
theorem mtwo : Ideal.ofBits .f32 0xC0000000#32 = ((-2 : ℝ) : EReal) := by
  rw [Ideal.ofBits, Ideal.ieee]; norm_num [Nat.shiftRight_eq_div_pow, BitVec.extractLsb']; try rfl
theorem one : Ideal.ofBits .f32 0x3F800000#32 = ((1 : ℝ) : EReal) := by
  rw [Ideal.ofBits, Ideal.ieee]; norm_num [Nat.shiftRight_eq_div_pow, BitVec.extractLsb']; try rfl
theorem meight : Ideal.ofBits .f32 0xC1000000#32 = ((-8 : ℝ) : EReal) := by
  rw [Ideal.ofBits, Ideal.ieee]; norm_num [Nat.shiftRight_eq_div_pow, BitVec.extractLsb']; try rfl

/-- The kernel's form of the gated input's factor is the reference's. -/
theorem sqrt_form (x : EReal) (hx : x ≤ 0) :
    Ideal.sqrt (Ideal.div (Ideal.ofBits .f32 0xC0000000#32 * Ideal.tanh x) (Ideal.ofBits .f32 0x3F800000#32 - Ideal.tanh x))
      = Ideal.sqrt (-(Ideal.exp (Ideal.ofBits .f32 0x40000000#32 * x) - 1)) := by
  congr 1
  rw [two, mtwo, one]
  induction x with
  | top => simp at hx
  | bot =>
    rw [EReal.coe_mul_bot_of_pos (by norm_num : (0:ℝ) < 2), Ideal.exp_bot, show Ideal.tanh ⊥ = ((-1 : ℝ) : EReal) from by rfl]
    rw [← EReal.coe_mul, ← EReal.coe_sub, Ideal.div, if_neg (by norm_cast <;> norm_num), ← EReal.coe_inv, ← EReal.coe_mul]
    norm_num
  | coe r =>
    rw [show Ideal.tanh (r : EReal) = ((Real.tanh r : ℝ) : EReal) from rfl, ← EReal.coe_mul, ← EReal.coe_mul, ← EReal.coe_sub,
      show Ideal.exp ((2 * r : ℝ) : EReal) = ((Real.exp (2 * r) : ℝ) : EReal) from rfl]
    have h1 : Real.tanh r < 1 := Real.tanh_lt_one r
    rw [Ideal.div, if_neg (by norm_cast; linarith), ← EReal.coe_inv, ← EReal.coe_mul, ← EReal.coe_one, ← EReal.coe_sub, ← EReal.coe_neg]
    congr 1
    have hc := Real.cosh_pos r
    have e2 : Real.exp (2 * r) = Real.exp r * Real.exp r := by rw [← Real.exp_add]; ring_nf
    have en : Real.exp (-r) * Real.exp r = 1 := by rw [← Real.exp_add]; simp
    rw [e2, Real.tanh_eq_sinh_div_cosh]
    have hd : (1 : ℝ) - Real.sinh r / Real.cosh r = Real.exp (-r) / Real.cosh r := by
      rw [← Real.cosh_sub_sinh]; field_simp
    rw [hd, inv_div]
    have hne := (Real.exp_pos (-r)).ne'
    field_simp
    rw [Real.sinh_eq]
    linear_combination (Real.exp r) * en

theorem logistic_nonneg (x : EReal) : 0 ≤ Ideal.logistic x := by
  induction x with
  | top => rw [Ideal.logistic_top]; exact zero_le_one
  | bot => rw [Ideal.logistic_bot]
  | coe r => rw [Ideal.logistic_coe]; exact_mod_cast (inv_pos.mpr (add_pos one_pos (Real.exp_pos _))).le

theorem log1p_exp_nonneg (x : EReal) : 0 ≤ Ideal.log1p (Ideal.exp x) := by
  unfold Ideal.log1p
  induction x with
  | top => rw [Ideal.exp_top, show (1 : EReal) + ⊤ = ⊤ from rfl]; exact le_top
  | bot =>
    rw [Ideal.exp_bot, add_zero, ← EReal.coe_one, show Ideal.log ((1 : ℝ) : EReal) = if (1 : ℝ) ≤ 0 then ⊥ else ((Real.log 1 : ℝ) : EReal) from rfl, if_neg (by norm_num), Real.log_one]
    exact le_rfl
  | coe r =>
    rw [show Ideal.exp (r : EReal) = ((Real.exp r : ℝ) : EReal) from rfl, ← EReal.coe_one, ← EReal.coe_add]
    have := Real.exp_pos r
    rw [show Ideal.log ((1 + Real.exp r : ℝ) : EReal) = if 1 + Real.exp r ≤ 0 then ⊥ else ((Real.log (1 + Real.exp r) : ℝ) : EReal) from rfl, if_neg (by linarith)]
    exact_mod_cast Real.log_nonneg (by linarith)

theorem slope_nonpos (LAM : FVec Ideal S1x1024 .f32) (J : Fin 1024) : Cert.RglruRefIdeal.Hand.slope LAM J ≤ 0 := by
  unfold Cert.RglruRefIdeal.Hand.slope
  rw [meight]
  refine mul_nonpos_of_nonpos_of_nonneg ?_ ?_
  · exact_mod_cast (by norm_num : (-8 : ℝ) ≤ 0)
  · exact add_nonneg (le_max_right _ _) (log1p_exp_nonneg _)

variable (X : FVec Ideal S32768x2176 .f32) (W : FVec Ideal S1x4x1024 .f32) (B : FVec Ideal S1x1024 .f32)
  (WA : FVec Ideal S1x16x64x64 .f32) (BA : FVec Ideal S1x1024 .f32) (WX : FVec Ideal S1x16x64x64 .f32) (BX : FVec Ideal S1x1024 .f32)
  (LAM : FVec Ideal S1x1024 .f32) (G : FVec Ideal S1x1024 .f32)

theorem lg_nonpos (b : Fin 16) (n : ℕ) (J : Fin 1024) : lg X W B WA BA LAM b n J ≤ 0 :=
  mul_nonpos_of_nonpos_of_nonneg (slope_nonpos LAM J) (logistic_nonneg _)

theorem pay5_at (lam : FVec Ideal S1x1024 .f32) (J : Fin 1024) : k0_pay5 (F := Ideal) lam (ix2 0 J) = Cert.RglruRefIdeal.Hand.slope lam J := by
  pointwise [k0_pay5]
  simp only [Cert.RglruRefIdeal.Hand.slope, zero_sub]

/-- A column of column block `q`. -/
abbrev col (q : Fin 4) (j : Fin 256) : Fin 1024 := ⟨256 * q.val + j.val, by omega⟩

/-- A column of the first half of the call's input. -/
abbrev colX (J : Fin 1024) : Fin 2176 := ⟨J.val, by omega⟩

/-- The same column of its second half. -/
abbrev colY (J : Fin 1024) : Fin 2176 := ⟨1024 + J.val, by omega⟩

/-- The head that a column of a column block belongs to. -/
abbrev headOf (q : Fin 4) (j : Fin 256) : Fin 16 := ⟨4 * q.val + j.val / 64, by omega⟩

/-- A column's place within its head. -/
abbrev inHead (j : Fin 256) : Fin 64 := ⟨j.val % 64, by omega⟩

section
variable (b : Fin 16) (cc : Fin 8) (q : Fin 4)
  (x : FVec Ideal S256x256 .f32) (hx : ∀ s j, x (ix2 s j) = X (ix2 (row b (256 * cc.val + s.val)) ⟨256 * q.val + j.val, by omega⟩))
  (T : FVec Ideal S8x256 .f32) (hT : ∀ (r : Fin 8) j, T (ix2 r j) = if cc.val = 0 then 0 else X (ix2 (row b (256 * cc.val - 8 + r.val)) ⟨256 * q.val + j.val, by omega⟩))
  (cw : FVec Ideal S4x256 .f32) (hcw : ∀ k j, cw (ix2 k j) = W (ix3 0 k (col q j)))
  (cb : FVec Ideal S1x256 .f32) (hcb : ∀ j, cb (ix2 0 j) = B (ix2 0 (col q j)))
include hx hT

theorem back_at (d : ℕ) (hd : d < 8) (s j : Fin 256) : back x T d hd s j = tap X b (256 * cc.val + s.val) d (col q j) := by
  unfold back tap
  by_cases h : d ≤ s.val
  · rw [dif_pos h, if_pos (by omega), hx]
    congr 3
    show 256 * cc.val + (s.val - d) = 256 * cc.val + s.val - d
    omega
  · rw [dif_neg h, hT]
    by_cases hc : cc.val = 0
    · rw [if_pos hc, if_neg (by omega)]
    · rw [if_neg hc, if_pos (by omega)]
      congr 3
      show 256 * cc.val - 8 + (8 + s.val - d) = 256 * cc.val + s.val - d
      omega

include hcw hcb

theorem conv_val (s j : Fin 256) : convB (F := Ideal) x T cw cb (ix2 s j) = conv X W B b (256 * cc.val + s.val) (col q j) := by
  rw [conv_at, back_at X b cc q x hx T hT, back_at X b cc q x hx T hT, back_at X b cc q x hx T hT, hcw, hcw, hcw, hcw, hcb]
  unfold conv
  rw [show x (ix2 s j) = tap X b (256 * cc.val + s.val) 0 (col q j) from (hx s j).trans (by unfold tap; rw [if_pos (Nat.zero_le _)]; rfl)]
  ac_rfl

/-- The block-diagonal product keeps the head's terms. -/
theorem gate_val (w : FVec Ideal S1x256x256 .bf16) (V : FVec Ideal S1x16x64x64 .f32)
    (hw : ∀ k j : Fin 256, w (ix3 0 k j) = if k.val / 64 = j.val / 64 then V (ix4 0 ⟨4 * q.val + j.val / 64, by omega⟩ ⟨k.val % 64, by omega⟩ ⟨j.val % 64, by omega⟩) else 0)
    (bb : FVec Ideal S1x256 .f32) (BB : FVec Ideal S1x1024 .f32) (hb : ∀ j, bb (ix2 0 j) = BB (ix2 0 (col q j))) (s j : Fin 256) :
    gateB (F := Ideal) (convB (F := Ideal) x T cw cb) w bb (ix2 s j) = gate X W B V BB b (256 * cc.val + s.val) (col q j) := by
  rw [gate_at, hb]
  unfold gate
  congr 2
  simp only [conv_val X W B b cc q x hx T hT cw hcw cb hcb, hw]
  rw [Fin.sum_univ_tiles 4 64 (by decide), Finset.sum_eq_single (⟨j.val / 64, by omega⟩ : Fin 4)]
  · refine Finset.sum_congr rfl fun i _ => ?_
    rw [if_pos (show (j.val / 64 * 64 + i.val) / 64 = j.val / 64 by omega), mul_comm]
    have h1 : (256 * q.val + j.val) / 64 = 4 * q.val + j.val / 64 := by omega
    have h2 : (256 * q.val + j.val) % 64 = j.val % 64 := by omega
    have h3 : (j.val / 64 * 64 + i.val) % 64 = i.val := by omega
    have h4 : 256 * q.val + (j.val / 64 * 64 + i.val) = (256 * q.val + j.val) / 64 * 64 + i.val := by omega
    simp only [h1, h2, h3, h4]
    simp only [← h1]
    exact congrArg₂ (fun a b : EReal => a * b) rfl (congrArg (conv X W B b _) (Fin.ext h4))
  · intro p _ hp
    refine Finset.sum_eq_zero fun i _ => ?_
    rw [if_neg, mul_zero]
    intro h
    apply hp
    apply Fin.ext
    show p.val = j.val / 64
    have := i.isLt
    have h' : (p.val * 64 + i.val) / 64 = j.val / 64 := h
    omega
  · exact fun h => absurd (Finset.mem_univ _) h

end

/-- The log-gate of a column block, as the body computes it. -/
abbrev logQ (q : Fin 4) (sl : FVec Ideal S1x256 .f32) (x : FVec Ideal S256x256 .f32) (T : FVec Ideal S8x256 .f32)
    (cw : FVec Ideal S4x256 .f32) (cb : FVec Ideal S1x256 .f32) (wa : FVec Ideal S1x256x256 .bf16) (ba : FVec Ideal S1x256 .f32) : FVec Ideal S256x256 .f32 :=
  logB (F := Ideal) sl (gateB (F := Ideal) (convB (F := Ideal) x T cw cb) wa ba)

/-- What a column block's loads are, as entries of the call's arrays. -/
structure Loads (b : Fin 16) (cc : Fin 8) (q : Fin 4) (x : FVec Ideal S256x256 .f32) (T : FVec Ideal S8x256 .f32)
    (cw : FVec Ideal S4x256 .f32) (cb : FVec Ideal S1x256 .f32) (sl : FVec Ideal S1x256 .f32) (wa : FVec Ideal S1x256x256 .bf16) (ba : FVec Ideal S1x256 .f32)
    (wx : FVec Ideal S1x256x256 .bf16) (bx : FVec Ideal S1x256 .f32) : Prop where
  x : ∀ s j, x (ix2 s j) = X (ix2 (row b (256 * cc.val + s.val)) (colX (col q j)))
  T : ∀ (r : Fin 8) j, T (ix2 r j) = if cc.val = 0 then 0 else X (ix2 (row b (256 * cc.val - 8 + r.val)) (colX (col q j)))
  cw : ∀ k j, cw (ix2 k j) = W (ix3 0 k (col q j))
  cb : ∀ j, cb (ix2 0 j) = B (ix2 0 (col q j))
  sl : ∀ j, sl (ix2 0 j) = Cert.RglruRefIdeal.Hand.slope LAM (col q j)
  wa : ∀ k j : Fin 256, wa (ix3 0 k j) = if k.val / 64 = j.val / 64 then WA (ix4 0 (headOf q j) (inHead k) (inHead j)) else 0
  ba : ∀ j, ba (ix2 0 j) = BA (ix2 0 (col q j))
  wx : ∀ k j : Fin 256, wx (ix3 0 k j) = if k.val / 64 = j.val / 64 then WX (ix4 0 (headOf q j) (inHead k) (inHead j)) else 0
  bx : ∀ j, bx (ix2 0 j) = BX (ix2 0 (col q j))

section
variable {b : Fin 16} {cc : Fin 8} {q : Fin 4} {x : FVec Ideal S256x256 .f32} {T : FVec Ideal S8x256 .f32}
    {cw : FVec Ideal S4x256 .f32} {cb : FVec Ideal S1x256 .f32} {sl : FVec Ideal S1x256 .f32} {wa : FVec Ideal S1x256x256 .bf16} {ba : FVec Ideal S1x256 .f32}
    {wx : FVec Ideal S1x256x256 .bf16} {bx : FVec Ideal S1x256 .f32} (L : Loads X W B WA BA WX BX LAM b cc q x T cw cb sl wa ba wx bx)
include L

theorem log_val (s j : Fin 256) : logQ q sl x T cw cb wa ba (ix2 s j) = lg X W B WA BA LAM b (256 * cc.val + s.val) (col q j) := by
  unfold logQ
  rw [log_at, L.sl, gate_val X W B b cc q x L.x T L.T cw L.cw cb L.cb wa WA L.wa ba BA L.ba]
  rfl

theorem step_val (s j : Fin 256) : st X W B WA BA WX BX LAM b (col q j) (256 * cc.val + (s.val + 1))
    = Ideal.exp (logQ q sl x T cw cb wa ba (ix2 s j)) * st X W B WA BA WX BX LAM b (col q j) (256 * cc.val + s.val)
      + sqrtB (F := Ideal) (logQ q sl x T cw cb wa ba) (ix2 s j)
        * (gateB (F := Ideal) (convB (F := Ideal) x T cw cb) wx bx (ix2 s j) * convB (F := Ideal) x T cw cb (ix2 s j)) := by
  rw [sqrt_at, log_val X W B WA BA WX BX LAM L, sqrt_form _ (lg_nonpos X W B WA BA LAM b _ _),
    gate_val X W B b cc q x L.x T L.T cw L.cw cb L.cb wx WX L.wx bx BX L.bx, conv_val X W B b cc q x L.x T L.T cw L.cw cb L.cb]
  rfl

/-- The block's state after the last row of the chunk. -/
theorem carry_val (init : FVec Ideal S8x256 .f32) (hi : ∀ r j, init (ix2 r j) = st X W B WA BA WX BX LAM b (col q j) (256 * cc.val)) (r : Fin 8) (j : Fin 256) :
    carry (aB (F := Ideal) (logQ q sl x T cw cb wa ba))
      (uB (F := Ideal) (logQ q sl x T cw cb wa ba) (gateB (F := Ideal) (convB (F := Ideal) x T cw cb) wx bx) (convB (F := Ideal) x T cw cb)) init 32 r j
      = st X W B WA BA WX BX LAM b (col q j) (256 * cc.val + 256) :=
  carry_at _ _ _ j (fun s => by rw [log_val X W B WA BA WX BX LAM L]; exact lg_nonpos X W B WA BA LAM b _ _)
    (fun n => st X W B WA BA WX BX LAM b (col q j) (256 * cc.val + n)) (fun s => step_val X W B WA BA WX BX LAM L s j) init (fun r => hi r j) 32 le_rfl r

/-- The states the block stores. -/
theorem scan_val (init : FVec Ideal S8x256 .f32) (hi : ∀ r j, init (ix2 r j) = st X W B WA BA WX BX LAM b (col q j) (256 * cc.val)) (s : Fin 256) (j : Fin 256) :
    scanOut (aB (F := Ideal) (logQ q sl x T cw cb wa ba))
      (uB (F := Ideal) (logQ q sl x T cw cb wa ba) (gateB (F := Ideal) (convB (F := Ideal) x T cw cb) wx bx) (convB (F := Ideal) x T cw cb)) init s j
      = st X W B WA BA WX BX LAM b (col q j) (256 * cc.val + s.val + 1) :=
  scan_at _ _ _ j (fun s => by rw [log_val X W B WA BA WX BX LAM L]; exact lg_nonpos X W B WA BA LAM b _ _)
    (fun n => st X W B WA BA WX BX LAM b (col q j) (256 * cc.val + n)) (fun s => step_val X W B WA BA WX BX LAM L s j) init (fun r => hi r j) s

end

end Cert.RglruIdeal.Hand
-- ==== Proof.RglruReads.lean ====
/- Each column block of the recurrence call's body, as the run leaves it: the stored states are the recurrence over the
   block's rows. Also the loads a block makes from the input blocks, and a buffer stored as four column blocks. -/
module

public import proofs.«01_k».proof.Proof.ScanLoop
public import proofs.«01_k».proof.Proof.RglruBlock
public import proofs.«01_k».proof.Proof.RglruStep
public import Idealize.ShloMosaic.Lib.VecWindow
public import Idealize.ShloMosaic.Lib.WritesUnit
public import Idealize.ShloMosaic.Lib.WholeRead

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic Idealize.SL.Sem
open Cert.RglruRefIdeal.Hand (row tap conv gate lg inp st gy res)

/-- A load of a whole buffer. -/
theorem ld_full {s : Shape} {e : EltTy} {arg : Memref sig .tc .vmem s e} (harg : arg.IsWhole) (x : Vec Ideal s e) {off : Fin s.rank → ℕ} (inb : ∀ a, off a + s.size a ≤ s.size a) :
    View.readAt (Elt Ideal) arg.view (Rect.unit off s.size inb).toLoadRect (harg.unread x) = x :=
  (View.readAt_full arg.view _ inb).trans (harg.read_unread x)

/-- An entry of a load of a rank-two buffer at a column offset. -/
theorem ld_col {R C w o : ℕ} {e : EltTy} {arg : Memref sig .tc .vmem ⟨2, ![R, C]⟩ e} (harg : arg.IsWhole) (x : Vec Ideal ⟨2, ![R, C]⟩ e)
    (inb : ∀ a, (![0, o] : Fin 2 → ℕ) a + (![R, w] : Fin 2 → ℕ) a ≤ (![R, C] : Fin 2 → ℕ) a) (r : Fin R) (j : Fin w) (h : o + j.val < C) :
    View.readAt (Elt Ideal) arg.view (Rect.unit (s := ⟨2, ![R, C]⟩) ![0, o] ![R, w] inb).toLoadRect (harg.unread x) (ix2 r j) = x (ix2 r ⟨o + j.val, h⟩) := by
  rw [harg.readAt_unread]
  refine congrArg x (funext fun a => Fin.ext ?_)
  match a with
  | ⟨0, _⟩ => show 0 + 1 * r.val = r.val; omega
  | ⟨1, _⟩ => show o + 1 * j.val = o + j.val; omega

/-- An entry of a load of one block of a rank-three buffer. -/
theorem ld_blk {N R C o : ℕ} {e : EltTy} {arg : Memref sig .tc .vmem ⟨3, ![N, R, C]⟩ e} (harg : arg.IsWhole) (x : Vec Ideal ⟨3, ![N, R, C]⟩ e)
    (inb : ∀ a, (![o, 0, 0] : Fin 3 → ℕ) a + (![1, R, C] : Fin 3 → ℕ) a ≤ (![N, R, C] : Fin 3 → ℕ) a) (r : Fin R) (j : Fin C) (h : o < N) :
    View.readAt (Elt Ideal) arg.view (Rect.unit (s := ⟨3, ![N, R, C]⟩) ![o, 0, 0] ![1, R, C] inb).toLoadRect (harg.unread x) (ix3 0 r j) = x (ix3 ⟨o, h⟩ r j) := by
  rw [harg.readAt_unread]
  refine congrArg x (funext fun a => Fin.ext ?_)
  match a with
  | ⟨0, _⟩ => show o + 1 * 0 = o; omega
  | ⟨1, _⟩ => show 0 + 1 * r.val = r.val; omega
  | ⟨2, _⟩ => show 0 + 1 * j.val = j.val; omega

/-- A buffer stored as four column blocks, newest last block first. -/
theorem four_cols {R : ℕ} {e : EltTy} (v : View sig .tc .vmem ⟨2, ![R, 1024]⟩ e) (f : v.ty.Contents (Elt Ideal))
    (i0 : ∀ a, (![0, 0] : Fin 2 → ℕ) a + (![R, 256] : Fin 2 → ℕ) a ≤ (![R, 1024] : Fin 2 → ℕ) a)
    (i1 : ∀ a, (![0, 256] : Fin 2 → ℕ) a + (![R, 256] : Fin 2 → ℕ) a ≤ (![R, 1024] : Fin 2 → ℕ) a)
    (i2 : ∀ a, (![0, 512] : Fin 2 → ℕ) a + (![R, 256] : Fin 2 → ℕ) a ≤ (![R, 1024] : Fin 2 → ℕ) a)
    (i3 : ∀ a, (![0, 768] : Fin 2 → ℕ) a + (![R, 256] : Fin 2 → ℕ) a ≤ (![R, 1024] : Fin 2 → ℕ) a)
    (p0 p1 p2 p3 : Vec Ideal ⟨2, ![R, 256]⟩ e) (L : List (View.Piece (Elt Ideal) ⟨2, ![R, 1024]⟩ e)) (g : Fin R → Fin 1024 → Elt Ideal e)
    (h0 : ∀ s j, p0 (ix2 s j) = g s (col 0 j)) (h1 : ∀ s j, p1 (ix2 s j) = g s (col 1 j)) (h2 : ∀ s j, p2 (ix2 s j) = g s (col 2 j)) (h3 : ∀ s j, p3 (ix2 s j) = g s (col 3 j))
    (s : Fin R) (J : Fin 1024) :
    v.read (Elt Ideal) (v.writes (Elt Ideal) f (⟨Rect.unit (s := ⟨2, ![R, 1024]⟩) ![0, 768] ![R, 256] i3, p3⟩ :: ⟨Rect.unit (s := ⟨2, ![R, 1024]⟩) ![0, 512] ![R, 256] i2, p2⟩
      :: ⟨Rect.unit (s := ⟨2, ![R, 1024]⟩) ![0, 256] ![R, 256] i1, p1⟩ :: ⟨Rect.unit (s := ⟨2, ![R, 1024]⟩) ![0, 0] ![R, 256] i0, p0⟩ :: L)) (ix2 s J) = g s J := by
  have miss : ∀ (o : ℕ) (inb : ∀ a, (![0, o] : Fin 2 → ℕ) a + (![R, 256] : Fin 2 → ℕ) a ≤ (![R, 1024] : Fin 2 → ℕ) a) (p : Vec Ideal ⟨2, ![R, 256]⟩ e) (L : List (View.Piece (Elt Ideal) ⟨2, ![R, 1024]⟩ e)), J.val < o →
      v.read (Elt Ideal) (v.writes (Elt Ideal) f (⟨Rect.unit (s := ⟨2, ![R, 1024]⟩) ![0, o] ![R, 256] inb, p⟩ :: L)) (ix2 s J) = v.read (Elt Ideal) (v.writes (Elt Ideal) f L) (ix2 s J) :=
    fun o inb p L h => View.read_writes_cons_unit_of_not_mem v f inb p L _ rfl (1 : Fin 2) (Or.inl h)
  have hit : ∀ (o : ℕ) (inb : ∀ a, (![0, o] : Fin 2 → ℕ) a + (![R, 256] : Fin 2 → ℕ) a ≤ (![R, 1024] : Fin 2 → ℕ) a) (p : Vec Ideal ⟨2, ![R, 256]⟩ e) (L : List (View.Piece (Elt Ideal) ⟨2, ![R, 1024]⟩ e)) (j : Fin 256), J.val = o + j.val →
      v.read (Elt Ideal) (v.writes (Elt Ideal) f (⟨Rect.unit (s := ⟨2, ![R, 1024]⟩) ![0, o] ![R, 256] inb, p⟩ :: L)) (ix2 s J) = p (ix2 s j) :=
    fun o inb p L j h => View.read_writes_cons_unit_of_mem v f inb p L _ (ix2 s j) rfl fun a => by
      match a with
      | ⟨0, _⟩ => show s.val = 0 + s.val; omega
      | ⟨1, _⟩ => exact h
  have hJ := J.isLt
  by_cases c3 : 768 ≤ J.val
  · have e : J.val = 768 + (J.val - 768) := by omega
    refine (hit 768 i3 p3 _ ⟨J.val - 768, by omega⟩ e).trans ((h3 _ _).trans (congrArg (g s) (Fin.ext e.symm)))
  rw [miss 768 i3 p3 _ (by omega)]
  by_cases c2 : 512 ≤ J.val
  · have e : J.val = 512 + (J.val - 512) := by omega
    refine (hit 512 i2 p2 _ ⟨J.val - 512, by omega⟩ e).trans ((h2 _ _).trans (congrArg (g s) (Fin.ext e.symm)))
  rw [miss 512 i2 p2 _ (by omega)]
  by_cases c1 : 256 ≤ J.val
  · have e : J.val = 256 + (J.val - 256) := by omega
    refine (hit 256 i1 p1 _ ⟨J.val - 256, by omega⟩ e).trans ((h1 _ _).trans (congrArg (g s) (Fin.ext e.symm)))
  rw [miss 256 i1 p1 _ (by omega)]
  have e : J.val = 0 + J.val := by omega
  refine (hit 0 i0 p0 _ ⟨J.val, by omega⟩ e).trans ((h0 _ _).trans (congrArg (g s) (Fin.ext e.symm)))

/-- A load of a column block that the newest store misses, being at an earlier column. -/
theorem miss_cov {o o' : ℕ} (v : View sig .tc .vmem ⟨2, ![8, 1024]⟩ .f32) (hlt : o + 256 ≤ o')
    (inb : ∀ a, (![0, o] : Fin 2 → ℕ) a + (![8, 256] : Fin 2 → ℕ) a ≤ (![8, 1024] : Fin 2 → ℕ) a)
    (inb' : ∀ a, (![0, o'] : Fin 2 → ℕ) a + (![8, 256] : Fin 2 → ℕ) a ≤ (![8, 1024] : Fin 2 → ℕ) a)
    (p : Vec Ideal ⟨2, ![8, 256]⟩ .f32) (L : List (View.Piece (Elt Ideal) ⟨2, ![8, 1024]⟩ .f32)) :
    v.readCov (⟨Rect.unit (s := ⟨2, ![8, 1024]⟩) ![0, o] ![8, 256] inb, p⟩ :: L) (Rect.unit (s := ⟨2, ![8, 1024]⟩) ![0, o'] ![8, 256] inb').toLoadRect
      = v.readCov L (Rect.unit (s := ⟨2, ![8, 1024]⟩) ![0, o'] ![8, 256] inb').toLoadRect :=
  funext fun x => View.read_writes_cons_unit_of_not_mem v v.junk inb p L _ rfl (1 : Fin 2) (Or.inr (by
    show o + 256 ≤ o' + 1 * (x 1).val
    omega))

/-- A load of a buffer just filled with one value. -/
theorem fill_cov {o' : ℕ} (v : View sig .tc .vmem ⟨2, ![8, 1024]⟩ .f32) (z : EReal)
    (inb : ∀ a, (![0, 0] : Fin 2 → ℕ) a + (![8, 1024] : Fin 2 → ℕ) a ≤ (![8, 1024] : Fin 2 → ℕ) a)
    (inb' : ∀ a, (![0, o'] : Fin 2 → ℕ) a + (![8, 256] : Fin 2 → ℕ) a ≤ (![8, 1024] : Fin 2 → ℕ) a)
    (p : Vec Ideal ⟨2, ![8, 1024]⟩ .f32) (hp : ∀ y, p y = z) (y) :
    v.readCov [⟨Rect.unit (s := ⟨2, ![8, 1024]⟩) ![0, 0] ![8, 1024] inb, p⟩] (Rect.unit (s := ⟨2, ![8, 1024]⟩) ![0, o'] ![8, 256] inb').toLoadRect y = z :=
  (congrFun (View.read_writes_full (s := ⟨2, ![8, 1024]⟩) v v.junk inb p []) _).trans (hp _)

variable (X : FVec Ideal S32768x2176 .f32) (W : FVec Ideal S1x4x1024 .f32) (B : FVec Ideal S1x1024 .f32)
  (WA : FVec Ideal S1x16x64x64 .f32) (BA : FVec Ideal S1x1024 .f32) (WX : FVec Ideal S1x16x64x64 .f32) (BX : FVec Ideal S1x1024 .f32)
  (LAM : FVec Ideal S1x1024 .f32) (G : FVec Ideal S1x1024 .f32)

set_option maxHeartbeats 1000000 in
/-- Column block 0: the states it stores, and the state it carries on. -/
theorem blk0 (b : Fin 16) (cc : Fin 8) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole)
    (x : Vec Ideal S256x256 .f32) (T : Vec Ideal S8x256 .f32) (cw : Vec Ideal S4x256 .f32) (cb : Vec Ideal S1x256 .f32) (r : FVec Ideal S1x1024 .f32)
    (wa : Vec Ideal S1x256x256 .bf16) (ba : Vec Ideal S1x256 .f32) (wx : Vec Ideal S1x256x256 .bf16) (bx : Vec Ideal S1x256 .f32)
    (L : Loads X W B WA BA WX BX LAM b cc 0 x T cw cb (extractStridedSlice S1x256 ![0, 0] r slices_S1x1024_o0_0_S1x256) wa ba wx bx)
    (init : Vec Ideal S8x256 .f32) (hi : ∀ a j, init (ix2 a j) = st X W B WA BA WX BX LAM b (col 0 j) (256 * cc.val))
    (n : ℕ) (hn : n = 32) (inA inU inR) (LA LU) :
    (∀ (s j : Fin 256), arg16.view.readCov (Val := Elt Ideal) ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay4 (k0_pay14 rowNo r T (k0_pay8 cw) (k0_pay9 rowNo x T cw cb) (k0_pay10 rowNo x T) 1#32 wa ba) (k0_pay15 rowNo r T (k0_pay8 cw) (k0_pay9 rowNo x T cw cb) (k0_pay10 rowNo x T) 1#32 wa ba) (k0_pay16 rowNo T (k0_pay8 cw) (k0_pay9 rowNo x T cw cb) (k0_pay10 rowNo x T) 1#32 wx bx) (arg15.view.writes (Elt Ideal) arg15.view.junk (⟨Rect.unit (s := S256x256) ![0, 0] S256x256.size inA, k0_pay22 k0_pay4 (k0_pay14 rowNo r T (k0_pay8 cw) (k0_pay9 rowNo x T cw cb) (k0_pay10 rowNo x T) 1#32 wa ba)⟩ :: LA)) (arg16.view.writes (Elt Ideal) arg16.view.junk (⟨Rect.unit (s := S256x256) ![0, 0] S256x256.size inU, k0_pay23 k0_pay4 (k0_pay14 rowNo r T (k0_pay8 cw) (k0_pay9 rowNo x T cw cb) (k0_pay10 rowNo x T) 1#32 wa ba) (k0_pay15 rowNo r T (k0_pay8 cw) (k0_pay9 rowNo x T cw cb) (k0_pay10 rowNo x T) 1#32 wa ba) (k0_pay16 rowNo T (k0_pay8 cw) (k0_pay9 rowNo x T cw cb) (k0_pay10 rowNo x T) 1#32 wx bx)⟩ :: LU)) init n).2 ++ (⟨Rect.unit (s := S256x256) ![0, 0] S256x256.size inU, k0_pay23 k0_pay4 (k0_pay14 rowNo r T (k0_pay8 cw) (k0_pay9 rowNo x T cw cb) (k0_pay10 rowNo x T) 1#32 wa ba) (k0_pay15 rowNo r T (k0_pay8 cw) (k0_pay9 rowNo x T cw cb) (k0_pay10 rowNo x T) 1#32 wa ba) (k0_pay16 rowNo T (k0_pay8 cw) (k0_pay9 rowNo x T cw cb) (k0_pay10 rowNo x T) 1#32 wx bx)⟩ :: LU)) (Rect.unit (s := S256x256) ![0, 0] S256x256.size inR).toLoadRect (ix2 s j)
        = st X W B WA BA WX BX LAM b (col 0 j) (256 * cc.val + s.val + 1))
      ∧ ∀ (a : Fin 8) (j : Fin 256), (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay4 (k0_pay14 rowNo r T (k0_pay8 cw) (k0_pay9 rowNo x T cw cb) (k0_pay10 rowNo x T) 1#32 wa ba) (k0_pay15 rowNo r T (k0_pay8 cw) (k0_pay9 rowNo x T cw cb) (k0_pay10 rowNo x T) 1#32 wa ba) (k0_pay16 rowNo T (k0_pay8 cw) (k0_pay9 rowNo x T cw cb) (k0_pay10 rowNo x T) 1#32 wx bx) (arg15.view.writes (Elt Ideal) arg15.view.junk (⟨Rect.unit (s := S256x256) ![0, 0] S256x256.size inA, k0_pay22 k0_pay4 (k0_pay14 rowNo r T (k0_pay8 cw) (k0_pay9 rowNo x T cw cb) (k0_pay10 rowNo x T) 1#32 wa ba)⟩ :: LA)) (arg16.view.writes (Elt Ideal) arg16.view.junk (⟨Rect.unit (s := S256x256) ![0, 0] S256x256.size inU, k0_pay23 k0_pay4 (k0_pay14 rowNo r T (k0_pay8 cw) (k0_pay9 rowNo x T cw cb) (k0_pay10 rowNo x T) 1#32 wa ba) (k0_pay15 rowNo r T (k0_pay8 cw) (k0_pay9 rowNo x T cw cb) (k0_pay10 rowNo x T) 1#32 wa ba) (k0_pay16 rowNo T (k0_pay8 cw) (k0_pay9 rowNo x T cw cb) (k0_pay10 rowNo x T) 1#32 wx bx)⟩ :: LU)) init n).1 (ix2 a j) = st X W B WA BA WX BX LAM b (col 0 j) (256 * cc.val + 256) := by
  subst hn
  have k := loop1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay4 (k0_pay14 rowNo r T (k0_pay8 cw) (k0_pay9 rowNo x T cw cb) (k0_pay10 rowNo x T) 1#32 wa ba) (k0_pay15 rowNo r T (k0_pay8 cw) (k0_pay9 rowNo x T cw cb) (k0_pay10 rowNo x T) 1#32 wa ba) (k0_pay16 rowNo T (k0_pay8 cw) (k0_pay9 rowNo x T cw cb) (k0_pay10 rowNo x T) 1#32 wx bx) (arg15.view.writes (Elt Ideal) arg15.view.junk (⟨Rect.unit (s := S256x256) ![0, 0] S256x256.size inA, k0_pay22 k0_pay4 (k0_pay14 rowNo r T (k0_pay8 cw) (k0_pay9 rowNo x T cw cb) (k0_pay10 rowNo x T) 1#32 wa ba)⟩ :: LA)) (arg16.view.writes (Elt Ideal) arg16.view.junk (⟨Rect.unit (s := S256x256) ![0, 0] S256x256.size inU, k0_pay23 k0_pay4 (k0_pay14 rowNo r T (k0_pay8 cw) (k0_pay9 rowNo x T cw cb) (k0_pay10 rowNo x T) 1#32 wa ba) (k0_pay15 rowNo r T (k0_pay8 cw) (k0_pay9 rowNo x T cw cb) (k0_pay10 rowNo x T) 1#32 wa ba) (k0_pay16 rowNo T (k0_pay8 cw) (k0_pay9 rowNo x T cw cb) (k0_pay10 rowNo x T) 1#32 wx bx)⟩ :: LU)) init
  rw [View.read_writes_full, View.read_writes_full, a_0 x T cw cb r wa ba wx bx, u_0 x T cw cb r wa ba wx bx] at k
  refine ⟨fun s j => ?_, fun a j => (k.1 a j).trans (carry_val X W B WA BA WX BX LAM L init hi a j)⟩
  rw [View.readCov, View.readAt_full, View.writes_append]
  exact (k.2 s j).trans (scan_val X W B WA BA WX BX LAM L init hi s j)

set_option maxHeartbeats 1000000 in
/-- Column block 1: the states it stores, and the state it carries on. -/
theorem blk1 (b : Fin 16) (cc : Fin 8) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole)
    (x : Vec Ideal S256x256 .f32) (T : Vec Ideal S8x256 .f32) (cw : Vec Ideal S4x256 .f32) (cb : Vec Ideal S1x256 .f32) (r : FVec Ideal S1x1024 .f32)
    (wa : Vec Ideal S1x256x256 .bf16) (ba : Vec Ideal S1x256 .f32) (wx : Vec Ideal S1x256x256 .bf16) (bx : Vec Ideal S1x256 .f32)
    (L : Loads X W B WA BA WX BX LAM b cc 1 x T cw cb (extractStridedSlice S1x256 ![0, 256] r slices_S1x1024_o0_256_S1x256) wa ba wx bx)
    (init : Vec Ideal S8x256 .f32) (hi : ∀ a j, init (ix2 a j) = st X W B WA BA WX BX LAM b (col 1 j) (256 * cc.val))
    (n : ℕ) (hn : n = 32) (inA inU inR) (LA LU) :
    (∀ (s j : Fin 256), arg16.view.readCov (Val := Elt Ideal) ((st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay4 (k0_pay37 k0_pay4 r (k0_pay32 rowNo x T (k0_pay30 cw) (k0_pay31 x cw cb)) wa ba wx bx) (k0_pay38 k0_pay4 r (k0_pay32 rowNo x T (k0_pay30 cw) (k0_pay31 x cw cb)) wa ba) (k0_pay39 k0_pay4) 2#32 (arg15.view.writes (Elt Ideal) arg15.view.junk (⟨Rect.unit (s := S256x256) ![0, 0] S256x256.size inA, k0_pay42 k0_pay4 (k0_pay38 k0_pay4 r (k0_pay32 rowNo x T (k0_pay30 cw) (k0_pay31 x cw cb)) wa ba) (k0_pay39 k0_pay4) 2#32⟩ :: LA)) (arg16.view.writes (Elt Ideal) arg16.view.junk (⟨Rect.unit (s := S256x256) ![0, 0] S256x256.size inU, k0_pay43 k0_pay4 (k0_pay37 k0_pay4 r (k0_pay32 rowNo x T (k0_pay30 cw) (k0_pay31 x cw cb)) wa ba wx bx) (k0_pay38 k0_pay4 r (k0_pay32 rowNo x T (k0_pay30 cw) (k0_pay31 x cw cb)) wa ba) (k0_pay39 k0_pay4) 2#32⟩ :: LU)) init n).2 ++ (⟨Rect.unit (s := S256x256) ![0, 0] S256x256.size inU, k0_pay43 k0_pay4 (k0_pay37 k0_pay4 r (k0_pay32 rowNo x T (k0_pay30 cw) (k0_pay31 x cw cb)) wa ba wx bx) (k0_pay38 k0_pay4 r (k0_pay32 rowNo x T (k0_pay30 cw) (k0_pay31 x cw cb)) wa ba) (k0_pay39 k0_pay4) 2#32⟩ :: LU)) (Rect.unit (s := S256x256) ![0, 0] S256x256.size inR).toLoadRect (ix2 s j)
        = st X W B WA BA WX BX LAM b (col 1 j) (256 * cc.val + s.val + 1))
      ∧ ∀ (a : Fin 8) (j : Fin 256), (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay4 (k0_pay37 k0_pay4 r (k0_pay32 rowNo x T (k0_pay30 cw) (k0_pay31 x cw cb)) wa ba wx bx) (k0_pay38 k0_pay4 r (k0_pay32 rowNo x T (k0_pay30 cw) (k0_pay31 x cw cb)) wa ba) (k0_pay39 k0_pay4) 2#32 (arg15.view.writes (Elt Ideal) arg15.view.junk (⟨Rect.unit (s := S256x256) ![0, 0] S256x256.size inA, k0_pay42 k0_pay4 (k0_pay38 k0_pay4 r (k0_pay32 rowNo x T (k0_pay30 cw) (k0_pay31 x cw cb)) wa ba) (k0_pay39 k0_pay4) 2#32⟩ :: LA)) (arg16.view.writes (Elt Ideal) arg16.view.junk (⟨Rect.unit (s := S256x256) ![0, 0] S256x256.size inU, k0_pay43 k0_pay4 (k0_pay37 k0_pay4 r (k0_pay32 rowNo x T (k0_pay30 cw) (k0_pay31 x cw cb)) wa ba wx bx) (k0_pay38 k0_pay4 r (k0_pay32 rowNo x T (k0_pay30 cw) (k0_pay31 x cw cb)) wa ba) (k0_pay39 k0_pay4) 2#32⟩ :: LU)) init n).1 (ix2 a j) = st X W B WA BA WX BX LAM b (col 1 j) (256 * cc.val + 256) := by
  subst hn
  have k := loop2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay4 (k0_pay37 k0_pay4 r (k0_pay32 rowNo x T (k0_pay30 cw) (k0_pay31 x cw cb)) wa ba wx bx) (k0_pay38 k0_pay4 r (k0_pay32 rowNo x T (k0_pay30 cw) (k0_pay31 x cw cb)) wa ba) (k0_pay39 k0_pay4) 2#32 (arg15.view.writes (Elt Ideal) arg15.view.junk (⟨Rect.unit (s := S256x256) ![0, 0] S256x256.size inA, k0_pay42 k0_pay4 (k0_pay38 k0_pay4 r (k0_pay32 rowNo x T (k0_pay30 cw) (k0_pay31 x cw cb)) wa ba) (k0_pay39 k0_pay4) 2#32⟩ :: LA)) (arg16.view.writes (Elt Ideal) arg16.view.junk (⟨Rect.unit (s := S256x256) ![0, 0] S256x256.size inU, k0_pay43 k0_pay4 (k0_pay37 k0_pay4 r (k0_pay32 rowNo x T (k0_pay30 cw) (k0_pay31 x cw cb)) wa ba wx bx) (k0_pay38 k0_pay4 r (k0_pay32 rowNo x T (k0_pay30 cw) (k0_pay31 x cw cb)) wa ba) (k0_pay39 k0_pay4) 2#32⟩ :: LU)) init
  rw [View.read_writes_full, View.read_writes_full, a_1 x T cw cb r wa ba wx bx, u_1 x T cw cb r wa ba wx bx] at k
  refine ⟨fun s j => ?_, fun a j => (k.1 a j).trans (carry_val X W B WA BA WX BX LAM L init hi a j)⟩
  rw [View.readCov, View.readAt_full, View.writes_append]
  exact (k.2 s j).trans (scan_val X W B WA BA WX BX LAM L init hi s j)

set_option maxHeartbeats 1000000 in
/-- Column block 2: the states it stores, and the state it carries on. -/
theorem blk2 (b : Fin 16) (cc : Fin 8) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole)
    (x : Vec Ideal S256x256 .f32) (T : Vec Ideal S8x256 .f32) (cw : Vec Ideal S4x256 .f32) (cb : Vec Ideal S1x256 .f32) (r : FVec Ideal S1x1024 .f32)
    (wa : Vec Ideal S1x256x256 .bf16) (ba : Vec Ideal S1x256 .f32) (wx : Vec Ideal S1x256x256 .bf16) (bx : Vec Ideal S1x256 .f32)
    (L : Loads X W B WA BA WX BX LAM b cc 2 x T cw cb (extractStridedSlice S1x256 ![0, 512] r slices_S1x1024_o0_512_S1x256) wa ba wx bx)
    (init : Vec Ideal S8x256 .f32) (hi : ∀ a j, init (ix2 a j) = st X W B WA BA WX BX LAM b (col 2 j) (256 * cc.val))
    (n : ℕ) (hn : n = 32) (inA inU inR) (LA LU) :
    (∀ (s j : Fin 256), arg16.view.readCov (Val := Elt Ideal) ((st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay63 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (k0_pay64 k0_pay4 r (k0_pay57 rowNo x T (k0_pay51 cw) (k0_pay52 rowNo x T cw cb) (k0_pay53 x) k0_pay54 wa ba)) (k0_pay65 k0_pay4) (k0_pay66 k0_pay4 r (k0_pay57 rowNo x T (k0_pay51 cw) (k0_pay52 rowNo x T cw cb) (k0_pay53 x) k0_pay54 wa ba)) (k0_pay67 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (arg15.view.writes (Elt Ideal) arg15.view.junk (⟨Rect.unit (s := S256x256) ![0, 0] S256x256.size inA, k0_pay68 (k0_pay64 k0_pay4 r (k0_pay57 rowNo x T (k0_pay51 cw) (k0_pay52 rowNo x T cw cb) (k0_pay53 x) k0_pay54 wa ba)) (k0_pay65 k0_pay4) (k0_pay66 k0_pay4 r (k0_pay57 rowNo x T (k0_pay51 cw) (k0_pay52 rowNo x T cw cb) (k0_pay53 x) k0_pay54 wa ba))⟩ :: LA)) (arg16.view.writes (Elt Ideal) arg16.view.junk (⟨Rect.unit (s := S256x256) ![0, 0] S256x256.size inU, k0_pay69 (k0_pay63 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (k0_pay65 k0_pay4) (k0_pay67 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx)⟩ :: LU)) init n).2 ++ (⟨Rect.unit (s := S256x256) ![0, 0] S256x256.size inU, k0_pay69 (k0_pay63 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (k0_pay65 k0_pay4) (k0_pay67 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx)⟩ :: LU)) (Rect.unit (s := S256x256) ![0, 0] S256x256.size inR).toLoadRect (ix2 s j)
        = st X W B WA BA WX BX LAM b (col 2 j) (256 * cc.val + s.val + 1))
      ∧ ∀ (a : Fin 8) (j : Fin 256), (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay63 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (k0_pay64 k0_pay4 r (k0_pay57 rowNo x T (k0_pay51 cw) (k0_pay52 rowNo x T cw cb) (k0_pay53 x) k0_pay54 wa ba)) (k0_pay65 k0_pay4) (k0_pay66 k0_pay4 r (k0_pay57 rowNo x T (k0_pay51 cw) (k0_pay52 rowNo x T cw cb) (k0_pay53 x) k0_pay54 wa ba)) (k0_pay67 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (arg15.view.writes (Elt Ideal) arg15.view.junk (⟨Rect.unit (s := S256x256) ![0, 0] S256x256.size inA, k0_pay68 (k0_pay64 k0_pay4 r (k0_pay57 rowNo x T (k0_pay51 cw) (k0_pay52 rowNo x T cw cb) (k0_pay53 x) k0_pay54 wa ba)) (k0_pay65 k0_pay4) (k0_pay66 k0_pay4 r (k0_pay57 rowNo x T (k0_pay51 cw) (k0_pay52 rowNo x T cw cb) (k0_pay53 x) k0_pay54 wa ba))⟩ :: LA)) (arg16.view.writes (Elt Ideal) arg16.view.junk (⟨Rect.unit (s := S256x256) ![0, 0] S256x256.size inU, k0_pay69 (k0_pay63 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (k0_pay65 k0_pay4) (k0_pay67 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx)⟩ :: LU)) init n).1 (ix2 a j) = st X W B WA BA WX BX LAM b (col 2 j) (256 * cc.val + 256) := by
  subst hn
  have k := loop3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay63 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (k0_pay64 k0_pay4 r (k0_pay57 rowNo x T (k0_pay51 cw) (k0_pay52 rowNo x T cw cb) (k0_pay53 x) k0_pay54 wa ba)) (k0_pay65 k0_pay4) (k0_pay66 k0_pay4 r (k0_pay57 rowNo x T (k0_pay51 cw) (k0_pay52 rowNo x T cw cb) (k0_pay53 x) k0_pay54 wa ba)) (k0_pay67 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (arg15.view.writes (Elt Ideal) arg15.view.junk (⟨Rect.unit (s := S256x256) ![0, 0] S256x256.size inA, k0_pay68 (k0_pay64 k0_pay4 r (k0_pay57 rowNo x T (k0_pay51 cw) (k0_pay52 rowNo x T cw cb) (k0_pay53 x) k0_pay54 wa ba)) (k0_pay65 k0_pay4) (k0_pay66 k0_pay4 r (k0_pay57 rowNo x T (k0_pay51 cw) (k0_pay52 rowNo x T cw cb) (k0_pay53 x) k0_pay54 wa ba))⟩ :: LA)) (arg16.view.writes (Elt Ideal) arg16.view.junk (⟨Rect.unit (s := S256x256) ![0, 0] S256x256.size inU, k0_pay69 (k0_pay63 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx) (k0_pay65 k0_pay4) (k0_pay67 k0_pay4 r (k0_pay55 rowNo x T (k0_pay51 cw) (k0_pay52 rowNo x T cw cb) (k0_pay53 x) k0_pay54) (k0_pay56 rowNo x T (k0_pay51 cw) (k0_pay52 rowNo x T cw cb) (k0_pay53 x) k0_pay54) (k0_pay57 rowNo x T (k0_pay51 cw) (k0_pay52 rowNo x T cw cb) (k0_pay53 x) k0_pay54 wa ba) wx bx)⟩ :: LU)) init
  rw [View.read_writes_full, View.read_writes_full, a_2 x T cw cb r wa ba wx bx, u_2 x T cw cb r wa ba wx bx] at k
  refine ⟨fun s j => ?_, fun a j => (k.1 a j).trans (carry_val X W B WA BA WX BX LAM L init hi a j)⟩
  rw [View.readCov, View.readAt_full, View.writes_append]
  exact (k.2 s j).trans (scan_val X W B WA BA WX BX LAM L init hi s j)

set_option maxHeartbeats 1000000 in
/-- Column block 3: the states it stores, and the state it carries on. -/
theorem blk3 (b : Fin 16) (cc : Fin 8) (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole)
    (x : Vec Ideal S256x256 .f32) (T : Vec Ideal S8x256 .f32) (cw : Vec Ideal S4x256 .f32) (cb : Vec Ideal S1x256 .f32) (r : FVec Ideal S1x1024 .f32)
    (wa : Vec Ideal S1x256x256 .bf16) (ba : Vec Ideal S1x256 .f32) (wx : Vec Ideal S1x256x256 .bf16) (bx : Vec Ideal S1x256 .f32)
    (L : Loads X W B WA BA WX BX LAM b cc 3 x T cw cb (extractStridedSlice S1x256 ![0, 768] r slices_S1x1024_o0_768_S1x256) wa ba wx bx)
    (init : Vec Ideal S8x256 .f32) (hi : ∀ a j, init (ix2 a j) = st X W B WA BA WX BX LAM b (col 3 j) (256 * cc.val))
    (n : ℕ) (hn : n = 32) (inA inU inR) (LA LU) :
    (∀ (s j : Fin 256), arg16.view.readCov (Val := Elt Ideal) ((st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  (arg15.view.writes (Elt Ideal) arg15.view.junk (⟨Rect.unit (s := S256x256) ![0, 0] S256x256.size inA, k0_pay89 k0_pay4 (k0_pay82 rowNo r x T (k0_pay76 cw) (k0_pay77 rowNo x T cw cb) 3#32 wa ba)⟩ :: LA)) (arg16.view.writes (Elt Ideal) arg16.view.junk (⟨Rect.unit (s := S256x256) ![0, 0] S256x256.size inU, k0_pay90 k0_pay4 (k0_pay78 rowNo x T (k0_pay76 cw) (k0_pay77 rowNo x T cw cb) 3#32) (k0_pay80 rowNo x T (k0_pay76 cw) (k0_pay77 rowNo x T cw cb) 3#32 wx bx) (k0_pay82 rowNo r x T (k0_pay76 cw) (k0_pay77 rowNo x T cw cb) 3#32 wa ba) (k0_pay83 rowNo r x T (k0_pay76 cw) (k0_pay77 rowNo x T cw cb) 3#32 wa ba)⟩ :: LU)) init n).2 ++ (⟨Rect.unit (s := S256x256) ![0, 0] S256x256.size inU, k0_pay90 k0_pay4 (k0_pay78 rowNo x T (k0_pay76 cw) (k0_pay77 rowNo x T cw cb) 3#32) (k0_pay80 rowNo x T (k0_pay76 cw) (k0_pay77 rowNo x T cw cb) 3#32 wx bx) (k0_pay82 rowNo r x T (k0_pay76 cw) (k0_pay77 rowNo x T cw cb) 3#32 wa ba) (k0_pay83 rowNo r x T (k0_pay76 cw) (k0_pay77 rowNo x T cw cb) 3#32 wa ba)⟩ :: LU)) (Rect.unit (s := S256x256) ![0, 0] S256x256.size inR).toLoadRect (ix2 s j)
        = st X W B WA BA WX BX LAM b (col 3 j) (256 * cc.val + s.val + 1))
      ∧ ∀ (a : Fin 8) (j : Fin 256), (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  (arg15.view.writes (Elt Ideal) arg15.view.junk (⟨Rect.unit (s := S256x256) ![0, 0] S256x256.size inA, k0_pay89 k0_pay4 (k0_pay82 rowNo r x T (k0_pay76 cw) (k0_pay77 rowNo x T cw cb) 3#32 wa ba)⟩ :: LA)) (arg16.view.writes (Elt Ideal) arg16.view.junk (⟨Rect.unit (s := S256x256) ![0, 0] S256x256.size inU, k0_pay90 k0_pay4 (k0_pay78 rowNo x T (k0_pay76 cw) (k0_pay77 rowNo x T cw cb) 3#32) (k0_pay80 rowNo x T (k0_pay76 cw) (k0_pay77 rowNo x T cw cb) 3#32 wx bx) (k0_pay82 rowNo r x T (k0_pay76 cw) (k0_pay77 rowNo x T cw cb) 3#32 wa ba) (k0_pay83 rowNo r x T (k0_pay76 cw) (k0_pay77 rowNo x T cw cb) 3#32 wa ba)⟩ :: LU)) init n).1 (ix2 a j) = st X W B WA BA WX BX LAM b (col 3 j) (256 * cc.val + 256) := by
  subst hn
  have k := loop4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17  (arg15.view.writes (Elt Ideal) arg15.view.junk (⟨Rect.unit (s := S256x256) ![0, 0] S256x256.size inA, k0_pay89 k0_pay4 (k0_pay82 rowNo r x T (k0_pay76 cw) (k0_pay77 rowNo x T cw cb) 3#32 wa ba)⟩ :: LA)) (arg16.view.writes (Elt Ideal) arg16.view.junk (⟨Rect.unit (s := S256x256) ![0, 0] S256x256.size inU, k0_pay90 k0_pay4 (k0_pay78 rowNo x T (k0_pay76 cw) (k0_pay77 rowNo x T cw cb) 3#32) (k0_pay80 rowNo x T (k0_pay76 cw) (k0_pay77 rowNo x T cw cb) 3#32 wx bx) (k0_pay82 rowNo r x T (k0_pay76 cw) (k0_pay77 rowNo x T cw cb) 3#32 wa ba) (k0_pay83 rowNo r x T (k0_pay76 cw) (k0_pay77 rowNo x T cw cb) 3#32 wa ba)⟩ :: LU)) init
  rw [View.read_writes_full, View.read_writes_full, a_3 x T cw cb r wa ba wx bx, u_3 x T cw cb r wa ba wx bx] at k
  refine ⟨fun s j => ?_, fun a j => (k.1 a j).trans (carry_val X W B WA BA WX BX LAM L init hi a j)⟩
  rw [View.readCov, View.readAt_full, View.writes_append]
  exact (k.2 s j).trans (scan_val X W B WA BA WX BX LAM L init hi s j)

end Cert.RglruIdeal.Hand

end
-- ==== Proof.RglruIns.lean ====
/- What one grid point of the recurrence call needs of its input blocks, and its stored values in closed form. -/
module

public import proofs.«01_k».proof.Proof.RglruReads

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic Idealize.SL.Sem
open Cert.RglruRefIdeal.Hand (row tap conv gate lg inp st gy res)

theorem out_at (v : FVec Ideal S256x1024 .f32) (g : FVec Ideal S1x1024 .f32) (s : Fin 256) (J : Fin 1024) :
    k0_pay1 (F := Ideal) v (k0_pay96 (F := Ideal) g) (k0_pay97 (F := Ideal) v) (ix2 s J) = v (ix2 s J) * Ideal.rsqrt (Ideal.div (∑ k : Fin 1024, v (ix2 s k) * v (ix2 s k)) (Ideal.ofBits .f32 0x44800000#32) + Ideal.ofBits .f32 0x358637BD#32) * g (ix2 0 J) := by
  pointwise [k0_pay1, k0_pay96, k0_pay97]

theorem gelu_at (h y : FVec Ideal S256x256 .f32) (s j : Fin 256) :
    k0_pay28 (F := Ideal) h y (ix2 s j) = h (ix2 s j) * (y (ix2 s j) * (Ideal.ofBits .f32 0x3F000000#32 * (1 + Ideal.tanh (Ideal.ofBits .f32 0x3F4C422A#32 * (y (ix2 s j) + Ideal.ofBits .f32 0x3D372713#32 * (y (ix2 s j) * y (ix2 s j) * y (ix2 s j))))))) := by
  pointwise [k0_pay28]
  rw [mul_assoc (y (ix2 s j)) (y (ix2 s j)) (y (ix2 s j))]

theorem keep0 (v : FVec Ideal S8x256 .f32) (r : Fin 8) (j : Fin 256) : k0_pay27 (F := Ideal) v (ix2 r j) = v (ix2 r j) := by
  pointwise [k0_pay27]
theorem keep1 (v : FVec Ideal S8x256 .f32) (r : Fin 8) (j : Fin 256) : k0_pay47 (F := Ideal) v (ix2 r j) = v (ix2 r j) := by
  pointwise [k0_pay47]
theorem keep2 (v : FVec Ideal S8x256 .f32) (r : Fin 8) (j : Fin 256) : k0_pay73 (F := Ideal) v (ix2 r j) = v (ix2 r j) := by
  pointwise [k0_pay73]
theorem keep3 (v : FVec Ideal S8x256 .f32) (r : Fin 8) (j : Fin 256) : k0_pay94 (F := Ideal) v (ix2 r j) = v (ix2 r j) := by
  pointwise [k0_pay94]

theorem tail0 (x : FVec Ideal S256x256 .f32) (r : Fin 8) (j : Fin 256) : k0_pay7 (F := Ideal) (k0_pay6 (F := Ideal) x) (ix2 r j) = x (ix2 ⟨248 + r.val, by omega⟩ j) := by
  pointwise [k0_pay7, k0_pay6]
theorem tail1 (x : FVec Ideal S256x256 .f32) (r : Fin 8) (j : Fin 256) : k0_pay29 (F := Ideal) x (ix2 r j) = x (ix2 ⟨248 + r.val, by omega⟩ j) := by
  pointwise [k0_pay29]
theorem tail2 (x : FVec Ideal S256x256 .f32) (r : Fin 8) (j : Fin 256) : k0_pay50 (F := Ideal) x (ix2 r j) = x (ix2 ⟨248 + r.val, by omega⟩ j) := by
  pointwise [k0_pay50]
theorem tail3 (x : FVec Ideal S256x256 .f32) (r : Fin 8) (j : Fin 256) : k0_pay75 (F := Ideal) x (ix2 r j) = x (ix2 ⟨248 + r.val, by omega⟩ j) := by
  pointwise [k0_pay75]

theorem sl0 (r : FVec Ideal S1x1024 .f32) (j : Fin 256) : extractStridedSlice S1x256 ![0, 0] r slices_S1x1024_o0_0_S1x256 (ix2 0 j) = r (ix2 0 (col 0 j)) := by
  pointwise []
  exact congrArg (fun k => r (ix2 0 k)) (Fin.ext (by show j.val = 256 * 0 + j.val; omega))
theorem sl1 (r : FVec Ideal S1x1024 .f32) (j : Fin 256) : extractStridedSlice S1x256 ![0, 256] r slices_S1x1024_o0_256_S1x256 (ix2 0 j) = r (ix2 0 (col 1 j)) := by
  pointwise []
  exact congrArg (fun k => r (ix2 0 k)) (Fin.ext (by show 256 + j.val = 256 * 1 + j.val; omega))
theorem sl2 (r : FVec Ideal S1x1024 .f32) (j : Fin 256) : extractStridedSlice S1x256 ![0, 512] r slices_S1x1024_o0_512_S1x256 (ix2 0 j) = r (ix2 0 (col 2 j)) := by
  pointwise []
  exact congrArg (fun k => r (ix2 0 k)) (Fin.ext (by show 512 + j.val = 256 * 2 + j.val; omega))
theorem sl3 (r : FVec Ideal S1x1024 .f32) (j : Fin 256) : extractStridedSlice S1x256 ![0, 768] r slices_S1x1024_o0_768_S1x256 (ix2 0 j) = r (ix2 0 (col 3 j)) := by
  pointwise []
  exact congrArg (fun k => r (ix2 0 k)) (Fin.ext (by show 768 + j.val = 256 * 3 + j.val; omega))

theorem in256 : ∀ a : Fin 2, (![0, 0] : Fin 2 → ℕ) a + S256x256.size a ≤ S256x256.size a := by
  intro a
  fin_cases a <;> decide

theorem z2 (y) : k0_pay2 (F := Ideal) y = 0 := by
  obtain ⟨a, b, rfl⟩ : ∃ (a : Fin 8) (b : Fin 1024), y = ix2 a b := ⟨_, _, eq_ix2 y⟩
  pointwise [k0_pay2]
theorem z3 (y) : k0_pay3 (F := Ideal) y = 0 := by
  obtain ⟨a, b, rfl⟩ : ∃ (a : Fin 8) (b : Fin 1024), y = ix2 a b := ⟨_, _, eq_ix2 y⟩
  pointwise [k0_pay3]

variable (X : FVec Ideal S32768x2176 .f32) (W : FVec Ideal S1x4x1024 .f32) (B : FVec Ideal S1x1024 .f32)
  (WA : FVec Ideal S1x16x64x64 .f32) (BA : FVec Ideal S1x1024 .f32) (WX : FVec Ideal S1x16x64x64 .f32) (BX : FVec Ideal S1x1024 .f32)
  (LAM : FVec Ideal S1x1024 .f32) (G : FVec Ideal S1x1024 .f32)

/-- What the input blocks of chunk `cc` of sequence `b` are, as entries of the call's arrays. -/
structure Ins (b : Fin 16) (cc : Fin 8) (x0 x1 : Vec Ideal S256x1024 .f32) (x2 : Vec Ideal S4x1024 .f32) (x3 : Vec Ideal S1x1024 .f32)
    (x4 : Vec Ideal S4x256x256 .bf16) (x5 : Vec Ideal S1x1024 .f32) (x6 : Vec Ideal S4x256x256 .bf16) (x7 x8 x9 : Vec Ideal S1x1024 .f32) : Prop where
  x0 : ∀ (s : Fin 256) (J : Fin 1024), x0 (ix2 s J) = X (ix2 (row b (256 * cc.val + s.val)) (colX J))
  x1 : ∀ (s : Fin 256) (J : Fin 1024), x1 (ix2 s J) = X (ix2 (row b (256 * cc.val + s.val)) (colY J))
  x2 : ∀ (k : Fin 4) (J : Fin 1024), x2 (ix2 k J) = W (ix3 0 k J)
  x3 : ∀ J : Fin 1024, x3 (ix2 0 J) = B (ix2 0 J)
  x4 : ∀ (q : Fin 4) (k j : Fin 256), x4 (ix3 q k j) = if k.val / 64 = j.val / 64 then WA (ix4 0 (headOf q j) (inHead k) (inHead j)) else 0
  x5 : ∀ J : Fin 1024, x5 (ix2 0 J) = BA (ix2 0 J)
  x6 : ∀ (q : Fin 4) (k j : Fin 256), x6 (ix3 q k j) = if k.val / 64 = j.val / 64 then WX (ix4 0 (headOf q j) (inHead k) (inHead j)) else 0
  x7 : ∀ J : Fin 1024, x7 (ix2 0 J) = BX (ix2 0 J)
  x8 : ∀ J : Fin 1024, x8 (ix2 0 J) = LAM (ix2 0 J)
  x9 : ∀ J : Fin 1024, x9 (ix2 0 J) = G (ix2 0 J)

section
variable {b : Fin 16} {cc : Fin 8}

theorem out_eq (v : FVec Ideal S256x1024 .f32) (g : FVec Ideal S1x1024 .f32) (hv : ∀ s J, v (ix2 s J) = gy X W B WA BA WX BX LAM b (256 * cc.val + s.val) J)
    (hg : ∀ J : Fin 1024, g (ix2 0 J) = G (ix2 0 J)) (s : Fin 256) (J : Fin 1024) :
    k0_pay1 (F := Ideal) v (k0_pay96 (F := Ideal) g) (k0_pay97 (F := Ideal) v) (ix2 s J) = res X W B WA BA WX BX LAM G b (256 * cc.val + s.val) J := by
  rw [out_at, hg]
  simp only [hv]
  rfl

theorem gelu_eq (q : Fin 4) (h y : FVec Ideal S256x256 .f32) (hh : ∀ s j, h (ix2 s j) = st X W B WA BA WX BX LAM b (col q j) (256 * cc.val + s.val + 1))
    (hy : ∀ s j, y (ix2 s j) = X (ix2 (row b (256 * cc.val + s.val)) (colY (col q j)))) (s j : Fin 256) :
    k0_pay28 (F := Ideal) h y (ix2 s j) = gy X W B WA BA WX BX LAM b (256 * cc.val + s.val) (col q j) := by
  rw [gelu_at, hh, hy]
  rfl

set_option maxHeartbeats 1000000 in
/-- A column block's loads, from the input blocks. -/
theorem loads_of (q : Fin 4) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) {x0 x1 : Vec Ideal S256x1024 .f32} {x2 : Vec Ideal S4x1024 .f32} {x3 : Vec Ideal S1x1024 .f32}
    {x4 : Vec Ideal S4x256x256 .bf16} {x5 : Vec Ideal S1x1024 .f32} {x6 : Vec Ideal S4x256x256 .bf16} {x7 x8 x9 : Vec Ideal S1x1024 .f32}
    (I : Ins X W B WA BA WX BX LAM G b cc x0 x1 x2 x3 x4 x5 x6 x7 x8 x9) (o p : ℕ) (ho : o = 256 * q.val) (hp : p = q.val)
    (i0 i2 i3 i4 i5 i6 i7 i8)
    (Tq : Vec Ideal S8x256 .f32) (hT : ∀ (r : Fin 8) (j : Fin 256), Tq (ix2 r j) = if cc.val = 0 then 0 else X (ix2 (row b (256 * cc.val - 8 + r.val)) (colX (col q j))))
    (sl : FVec Ideal S1x256 .f32) (hs : ∀ j : Fin 256, sl (ix2 0 j) = k0_pay5 (F := Ideal) (View.readAt (Elt Ideal) arg10.view (Rect.unit (s := S1x1024) ![0, 0] S1x1024.size i8).toLoadRect (harg10.unread x8)) (ix2 0 (col q j))) :
    Loads X W B WA BA WX BX LAM b cc q (View.readAt (Elt Ideal) arg2.view (Rect.unit (s := S256x1024) ![0, o] S256x256.size i0).toLoadRect (harg2.unread x0)) Tq
      (View.readAt (Elt Ideal) arg4.view (Rect.unit (s := S4x1024) ![0, o] S4x256.size i2).toLoadRect (harg4.unread x2))
      (View.readAt (Elt Ideal) arg5.view (Rect.unit (s := S1x1024) ![0, o] S1x256.size i3).toLoadRect (harg5.unread x3)) sl
      (View.readAt (Elt Ideal) arg6.view (Rect.unit (s := S4x256x256) ![p, 0, 0] S1x256x256.size i4).toLoadRect (harg6.unread x4))
      (View.readAt (Elt Ideal) arg7.view (Rect.unit (s := S1x1024) ![0, o] S1x256.size i5).toLoadRect (harg7.unread x5))
      (View.readAt (Elt Ideal) arg8.view (Rect.unit (s := S4x256x256) ![p, 0, 0] S1x256x256.size i6).toLoadRect (harg8.unread x6))
      (View.readAt (Elt Ideal) arg9.view (Rect.unit (s := S1x1024) ![0, o] S1x256.size i7).toLoadRect (harg9.unread x7)) := by
  subst ho hp
  have hq := q.isLt
  refine ⟨fun s j => ?_, hT, fun k j => ?_, fun j => ?_, fun j => ?_, fun k j => ?_, fun j => ?_, fun k j => ?_, fun j => ?_⟩
  · exact (ld_col harg2 x0 i0 s j (col q j).isLt).trans (I.x0 s _)
  · exact (ld_col harg4 x2 i2 k j (col q j).isLt).trans (I.x2 k _)
  · exact (ld_col harg5 x3 i3 0 j (col q j).isLt).trans (I.x3 _)
  · rw [hs, ld_full, pay5_at]
    unfold Cert.RglruRefIdeal.Hand.slope
    rw [I.x8]
  · exact (ld_blk harg6 x4 i4 k j hq).trans (I.x4 _ k j)
  · exact (ld_col harg7 x5 i5 0 j (col q j).isLt).trans (I.x5 _)
  · exact (ld_blk harg8 x6 i6 k j hq).trans (I.x6 _ k j)
  · exact (ld_col harg9 x7 i7 0 j (col q j).isLt).trans (I.x7 _)

end

end Cert.RglruIdeal.Hand

end
-- ==== Proof.RglruOutRest.lean ====
/- The recurrence call's body at a grid point that continues a sequence, in closed form: the output block it leaves, and what it carries on to the next chunk of the sequence. -/
module

public import proofs.«01_k».proof.Proof.RglruIns
public import proofs.«01_k».proof.Proof.RglruRunRest

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic Idealize.SL.Sem
open Cert.RglruRefIdeal.Hand (row tap conv gate lg inp st gy res)

variable (X : FVec Ideal S32768x2176 .f32) (W : FVec Ideal S1x4x1024 .f32) (B : FVec Ideal S1x1024 .f32)
  (WA : FVec Ideal S1x16x64x64 .f32) (BA : FVec Ideal S1x1024 .f32) (WX : FVec Ideal S1x16x64x64 .f32) (BX : FVec Ideal S1x1024 .f32)
  (LAM : FVec Ideal S1x1024 .f32) (G : FVec Ideal S1x1024 .f32)

set_option maxHeartbeats 4000000 in
/-- The output block. -/
theorem rest_out {b : Fin 16} {cc : Fin 8} (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : ¬((Scalar.cmpi .ne (Scalar.extui (Scalar.cmpi .eq (BitVec.ofNat 32 (i 1).val) 0#32)) 0#32) = 1#1))
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (x9 : Vec Ideal S1x1024 .f32) (T H : Vec Ideal S8x1024 .f32)
    (I : Ins X W B WA BA WX BX LAM G b cc x0 x1 x2 x3 x4 x5 x6 x7 x8 x9)
    (hT : ∀ (r : Fin 8) (J : Fin 1024), T (ix2 r J) = if cc.val = 0 then 0 else X (ix2 (row b (256 * cc.val - 8 + r.val)) (colX J)))
    (hH : ∀ (r : Fin 8) (J : Fin 1024), H (ix2 r J) = st X W B WA BA WX BX LAM b J (256 * cc.val))
    (f) (s : Fin 256) (J : Fin 1024) :
    arg12.view.read (Elt Ideal) (arg12.view.writes (Elt Ideal) f (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 T H).1) (ix2 s J) = res X W B WA BA WX BX LAM G b (256 * cc.val + s.val) J := by
  unfold runRest
  dsimp only
  refine (congrFun (View.read_writes_full (s := S256x1024) arg12.view f _ _ _) (ix2 s J)).trans ?_
  refine out_eq X W B WA BA WX BX LAM G _ _ ?_ ?_ s J
  · intro s J
    unfold runRest.sl.v650 runRest.sl.H17_4
    rw [View.readCov, View.readAt_full]
    refine four_cols (R := 256) arg17.view _ _ _ _ _ _ _ _ _ _ (fun s J => gy X W B WA BA WX BX LAM b (256 * cc.val + s.val) J) ?_ ?_ ?_ ?_ s J
    · exact gelu_eq X W B WA BA WX BX LAM 0 _ _ (blk0 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 0 0 rfl rfl _ _ _ _ _ _ _ _ _ (fun r j => (ld_col harg13 T _ r j (col 0 j).isLt).trans (hT r _)) _ (sl0 _)) _ (fun r j => (ld_col harg14 H _ r j (col 0 j).isLt).trans (hH r _)) _ rfl _ _ _ _ _).1 (fun s j => (ld_col harg3 x1 _ s j (col 0 j).isLt).trans (I.x1 s _))
    · exact gelu_eq X W B WA BA WX BX LAM 1 _ _ (blk1 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 256 1 rfl rfl _ _ _ _ _ _ _ _ _ (fun r j => (ld_col harg13 T _ r j (col 1 j).isLt).trans (hT r _)) _ (sl1 _)) _ (fun r j => (ld_col harg14 H _ r j (col 1 j).isLt).trans (hH r _)) _ rfl _ _ _ _ _).1 (fun s j => (ld_col harg3 x1 _ s j (col 1 j).isLt).trans (I.x1 s _))
    · exact gelu_eq X W B WA BA WX BX LAM 2 _ _ (blk2 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 512 2 rfl rfl _ _ _ _ _ _ _ _ _ (fun r j => (ld_col harg13 T _ r j (col 2 j).isLt).trans (hT r _)) _ (sl2 _)) _ (fun r j => (ld_col harg14 H _ r j (col 2 j).isLt).trans (hH r _)) _ rfl _ _ _ _ _).1 (fun s j => (ld_col harg3 x1 _ s j (col 2 j).isLt).trans (I.x1 s _))
    · exact gelu_eq X W B WA BA WX BX LAM 3 _ _ (blk3 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 768 3 rfl rfl _ _ _ _ _ _ _ _ _ (fun r j => (ld_col harg13 T _ r j (col 3 j).isLt).trans (hT r _)) _ (sl3 _)) _ (fun r j => (ld_col harg14 H _ r j (col 3 j).isLt).trans (hH r _)) _ rfl _ _ _ _ _).1 (fun s j => (ld_col harg3 x1 _ s j (col 3 j).isLt).trans (I.x1 s _))
  · intro J
    exact (congrFun (ld_full harg11 x9 _) _).trans (I.x9 J)

set_option maxHeartbeats 4000000 in
/-- The state carried on. -/
theorem rest_state {b : Fin 16} {cc : Fin 8} (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : ¬((Scalar.cmpi .ne (Scalar.extui (Scalar.cmpi .eq (BitVec.ofNat 32 (i 1).val) 0#32)) 0#32) = 1#1))
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (x9 : Vec Ideal S1x1024 .f32) (T H : Vec Ideal S8x1024 .f32)
    (I : Ins X W B WA BA WX BX LAM G b cc x0 x1 x2 x3 x4 x5 x6 x7 x8 x9)
    (hT : ∀ (r : Fin 8) (J : Fin 1024), T (ix2 r J) = if cc.val = 0 then 0 else X (ix2 (row b (256 * cc.val - 8 + r.val)) (colX J)))
    (hH : ∀ (r : Fin 8) (J : Fin 1024), H (ix2 r J) = st X W B WA BA WX BX LAM b J (256 * cc.val))
    (f) (r : Fin 8) (J : Fin 1024) :
    arg14.view.read (Elt Ideal) (arg14.view.writes (Elt Ideal) f (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 T H).2.2.1) (ix2 r J) = st X W B WA BA WX BX LAM b J (256 * cc.val + 256) := by
  unfold runRest
  dsimp only
  refine four_cols (R := 8) arg14.view _ _ _ _ _ _ _ _ _ _ (fun r J => st X W B WA BA WX BX LAM b J (256 * cc.val + 256)) ?_ ?_ ?_ ?_ r J
  · exact fun r j => (keep0 _ r j).trans ((blk0 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 0 0 rfl rfl _ _ _ _ _ _ _ _ _ (fun r j => (ld_col harg13 T _ r j (col 0 j).isLt).trans (hT r _)) _ (sl0 _)) _ (fun r j => (ld_col harg14 H _ r j (col 0 j).isLt).trans (hH r _)) _ rfl _ _ in256 _ _).2 r j)
  · exact fun r j => (keep1 _ r j).trans ((blk1 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 256 1 rfl rfl _ _ _ _ _ _ _ _ _ (fun r j => (ld_col harg13 T _ r j (col 1 j).isLt).trans (hT r _)) _ (sl1 _)) _ (fun r j => (ld_col harg14 H _ r j (col 1 j).isLt).trans (hH r _)) _ rfl _ _ in256 _ _).2 r j)
  · exact fun r j => (keep2 _ r j).trans ((blk2 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 512 2 rfl rfl _ _ _ _ _ _ _ _ _ (fun r j => (ld_col harg13 T _ r j (col 2 j).isLt).trans (hT r _)) _ (sl2 _)) _ (fun r j => (ld_col harg14 H _ r j (col 2 j).isLt).trans (hH r _)) _ rfl _ _ in256 _ _).2 r j)
  · exact fun r j => (keep3 _ r j).trans ((blk3 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 768 3 rfl rfl _ _ _ _ _ _ _ _ _ (fun r j => (ld_col harg13 T _ r j (col 3 j).isLt).trans (hT r _)) _ (sl3 _)) _ (fun r j => (ld_col harg14 H _ r j (col 3 j).isLt).trans (hH r _)) _ rfl _ _ in256 _ _).2 r j)

set_option maxHeartbeats 4000000 in
/-- The rows carried on. -/
theorem rest_tail {b : Fin 16} {cc : Fin 8} (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : ¬((Scalar.cmpi .ne (Scalar.extui (Scalar.cmpi .eq (BitVec.ofNat 32 (i 1).val) 0#32)) 0#32) = 1#1))
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (x9 : Vec Ideal S1x1024 .f32) (T H : Vec Ideal S8x1024 .f32)
    (I : Ins X W B WA BA WX BX LAM G b cc x0 x1 x2 x3 x4 x5 x6 x7 x8 x9)
    (hT : ∀ (r : Fin 8) (J : Fin 1024), T (ix2 r J) = if cc.val = 0 then 0 else X (ix2 (row b (256 * cc.val - 8 + r.val)) (colX J)))
    (hH : ∀ (r : Fin 8) (J : Fin 1024), H (ix2 r J) = st X W B WA BA WX BX LAM b J (256 * cc.val))
    (f) (r : Fin 8) (J : Fin 1024) :
    arg13.view.read (Elt Ideal) (arg13.view.writes (Elt Ideal) f (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 T H).2.1) (ix2 r J) = X (ix2 (row b (256 * cc.val + 248 + r.val)) (colX J)) := by
  unfold runRest
  dsimp only
  refine four_cols (R := 8) arg13.view _ _ _ _ _ _ _ _ _ _ (fun r J => X (ix2 (row b (256 * cc.val + 248 + r.val)) (colX J))) ?_ ?_ ?_ ?_ r J
  · exact fun r j => (tail0 _ r j).trans ((ld_col harg2 x0 _ _ j (col 0 j).isLt).trans ((I.x0 _ _).trans (by congr 3; show 256 * cc.val + (248 + r.val) = _; omega)))
  · exact fun r j => (tail1 _ r j).trans ((ld_col harg2 x0 _ _ j (col 1 j).isLt).trans ((I.x0 _ _).trans (by congr 3; show 256 * cc.val + (248 + r.val) = _; omega)))
  · exact fun r j => (tail2 _ r j).trans ((ld_col harg2 x0 _ _ j (col 2 j).isLt).trans ((I.x0 _ _).trans (by congr 3; show 256 * cc.val + (248 + r.val) = _; omega)))
  · exact fun r j => (tail3 _ r j).trans ((ld_col harg2 x0 _ _ j (col 3 j).isLt).trans ((I.x0 _ _).trans (by congr 3; show 256 * cc.val + (248 + r.val) = _; omega)))

end Cert.RglruIdeal.Hand

end
-- ==== Proof.RglruRunFirst.lean ====
/- The recurrence call's body, run at a grid point that starts a sequence: what its stores leave in the output block and in
   the two carried scratch buffers. -/
module

public import proofs.«01_k».proof.Proof.Gen.RglruIdeal.Frame
public import proofs.«01_k».proof.Proof.Gen.RglruIdeal.Loops
public import proofs.«01_k».proof.Proof.Gen.RglruIdeal.Skeleton
public import proofs.«01_k».proof.Proof.Gen.RglruIdeal.Points
public import proofs.«01_k».proof.Proof.Gen.RglruIdeal.Launch
public import Idealize.ShloMosaic.Lib.Pipeline.FrameBody
public import Idealize.ShloMosaic.Lib.Ring
public import Idealize.ShloMosaic.Lib.Tactic

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The body's first block of a sequence: the scratch is cleared. -/
abbrev isFirst (i : grid0.Coords) : Prop :=
  (Scalar.cmpi .ne (Scalar.extui (Scalar.cmpi .eq (BitVec.ofNat 32 (i 1).val) 0#32)) 0#32) = 1#1

set_option maxHeartbeats 8000000 in
/-- The pieces the body leaves in the output block and in the two carried buffers, with the run that leaves them. -/
noncomputable def runFirst (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : isFirst i)
    (x0 : Vec F S256x1024 .f32) (x1 : Vec F S256x1024 .f32) (x2 : Vec F S4x1024 .f32) (x3 : Vec F S1x1024 .f32) (x4 : Vec F S4x256x256 .bf16) (x5 : Vec F S1x1024 .f32) (x6 : Vec F S4x256x256 .bf16) (x7 : Vec F S1x1024 .f32) (x8 : Vec F S1x1024 .f32) (x9 : Vec F S1x1024 .f32) :
    Σ' (L12 : List (View.Piece (Elt F) S256x1024 .bf16)) (L13 : List (View.Piece (Elt F) S8x1024 .f32)), { L14 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_rglru_eq_skeleton]; unfold cc0_rglru_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

end Cert.RglruIdeal.Hand

end
-- ==== Proof.RglruOutFirst.lean ====
/- The recurrence call's body at a grid point that starts a sequence, in closed form: the output block it leaves, and what it carries on to the next chunk of the sequence. -/
module

public import proofs.«01_k».proof.Proof.RglruIns
public import proofs.«01_k».proof.Proof.RglruRunFirst

@[expose] public section

set_option maxRecDepth 16384

noncomputable section

namespace Cert.RglruIdeal.Hand

open Cert.RglruIdeal Cert.RglruIdeal.Gen
open Idealize.ShloMosaic Idealize.ShloMosaic.TcCoe Idealize.ShloMosaic.Tactic Idealize.SL.Sem
open Cert.RglruRefIdeal.Hand (row tap conv gate lg inp st gy res)

variable (X : FVec Ideal S32768x2176 .f32) (W : FVec Ideal S1x4x1024 .f32) (B : FVec Ideal S1x1024 .f32)
  (WA : FVec Ideal S1x16x64x64 .f32) (BA : FVec Ideal S1x1024 .f32) (WX : FVec Ideal S1x16x64x64 .f32) (BX : FVec Ideal S1x1024 .f32)
  (LAM : FVec Ideal S1x1024 .f32) (G : FVec Ideal S1x1024 .f32)
theorem st_zero (b : Fin 16) (cc : Fin 8) (h0 : cc.val = 0) (J : Fin 1024) : st X W B WA BA WX BX LAM b J (256 * cc.val) = 0 := by
  rw [h0]; rfl

set_option maxHeartbeats 4000000 in
/-- The output block. -/
theorem first_out {b : Fin 16} {cc : Fin 8} (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : (Scalar.cmpi .ne (Scalar.extui (Scalar.cmpi .eq (BitVec.ofNat 32 (i 1).val) 0#32)) 0#32) = 1#1)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (x9 : Vec Ideal S1x1024 .f32)
    (I : Ins X W B WA BA WX BX LAM G b cc x0 x1 x2 x3 x4 x5 x6 x7 x8 x9)
    (h0 : cc.val = 0)
    (f) (s : Fin 256) (J : Fin 1024) :
    arg12.view.read (Elt Ideal) (arg12.view.writes (Elt Ideal) f (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9).1) (ix2 s J) = res X W B WA BA WX BX LAM G b (256 * cc.val + s.val) J := by
  unfold runFirst
  dsimp only
  refine (congrFun (View.read_writes_full (s := S256x1024) arg12.view f _ _ _) (ix2 s J)).trans ?_
  refine out_eq X W B WA BA WX BX LAM G _ _ ?_ ?_ s J
  · intro s J
    unfold runFirst.sl.v650 runFirst.sl.H17_4
    rw [View.readCov, View.readAt_full]
    refine four_cols (R := 256) arg17.view _ _ _ _ _ _ _ _ _ _ (fun s J => gy X W B WA BA WX BX LAM b (256 * cc.val + s.val) J) ?_ ?_ ?_ ?_ s J
    · exact gelu_eq X W B WA BA WX BX LAM 0 _ _ (blk0 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 0 0 rfl rfl _ _ _ _ _ _ _ _ _ (fun r j => (fill_cov arg13.view 0 _ _ _ z2 _).trans (if_pos h0).symm) _ (sl0 _)) _ (fun r j => (fill_cov arg14.view 0 _ _ _ z3 _).trans (st_zero X W B WA BA WX BX LAM b cc h0 _).symm) _ rfl _ _ _ _ _).1 (fun s j => (ld_col harg3 x1 _ s j (col 0 j).isLt).trans (I.x1 s _))
    · exact gelu_eq X W B WA BA WX BX LAM 1 _ _ (blk1 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 256 1 rfl rfl _ _ _ _ _ _ _ _ _ (fun r j => (congrFun (miss_cov (o := 0) (o' := 256) arg13.view (by decide) _ _ _ _) _).trans ((fill_cov arg13.view 0 _ _ _ z2 _).trans (if_pos h0).symm)) _ (sl1 _)) _ (fun r j => (congrFun (miss_cov (o := 0) (o' := 256) arg14.view (by decide) _ _ _ _) _).trans ((fill_cov arg14.view 0 _ _ _ z3 _).trans (st_zero X W B WA BA WX BX LAM b cc h0 _).symm)) _ rfl _ _ _ _ _).1 (fun s j => (ld_col harg3 x1 _ s j (col 1 j).isLt).trans (I.x1 s _))
    · exact gelu_eq X W B WA BA WX BX LAM 2 _ _ (blk2 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 512 2 rfl rfl _ _ _ _ _ _ _ _ _ (fun r j => (congrFun (miss_cov (o := 256) (o' := 512) arg13.view (by decide) _ _ _ _) _).trans ((congrFun (miss_cov (o := 0) (o' := 512) arg13.view (by decide) _ _ _ _) _).trans ((fill_cov arg13.view 0 _ _ _ z2 _).trans (if_pos h0).symm))) _ (sl2 _)) _ (fun r j => (congrFun (miss_cov (o := 256) (o' := 512) arg14.view (by decide) _ _ _ _) _).trans ((congrFun (miss_cov (o := 0) (o' := 512) arg14.view (by decide) _ _ _ _) _).trans ((fill_cov arg14.view 0 _ _ _ z3 _).trans (st_zero X W B WA BA WX BX LAM b cc h0 _).symm))) _ rfl _ _ _ _ _).1 (fun s j => (ld_col harg3 x1 _ s j (col 2 j).isLt).trans (I.x1 s _))
    · exact gelu_eq X W B WA BA WX BX LAM 3 _ _ (blk3 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 768 3 rfl rfl _ _ _ _ _ _ _ _ _ (fun r j => (congrFun (miss_cov (o := 512) (o' := 768) arg13.view (by decide) _ _ _ _) _).trans ((congrFun (miss_cov (o := 256) (o' := 768) arg13.view (by decide) _ _ _ _) _).trans ((congrFun (miss_cov (o := 0) (o' := 768) arg13.view (by decide) _ _ _ _) _).trans ((fill_cov arg13.view 0 _ _ _ z2 _).trans (if_pos h0).symm)))) _ (sl3 _)) _ (fun r j => (congrFun (miss_cov (o := 512) (o' := 768) arg14.view (by decide) _ _ _ _) _).trans ((congrFun (miss_cov (o := 256) (o' := 768) arg14.view (by decide) _ _ _ _) _).trans ((congrFun (miss_cov (o := 0) (o' := 768) arg14.view (by decide) _ _ _ _) _).trans ((fill_cov arg14.view 0 _ _ _ z3 _).trans (st_zero X W B WA BA WX BX LAM b cc h0 _).symm)))) _ rfl _ _ _ _ _).1 (fun s j => (ld_col harg3 x1 _ s j (col 3 j).isLt).trans (I.x1 s _))
  · intro J
    exact (congrFun (ld_full harg11 x9 _) _).trans (I.x9 J)

set_option maxHeartbeats 4000000 in
/-- The state carried on. -/
theorem first_state {b : Fin 16} {cc : Fin 8} (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : (Scalar.cmpi .ne (Scalar.extui (Scalar.cmpi .eq (BitVec.ofNat 32 (i 1).val) 0#32)) 0#32) = 1#1)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (x9 : Vec Ideal S1x1024 .f32)
    (I : Ins X W B WA BA WX BX LAM G b cc x0 x1 x2 x3 x4 x5 x6 x7 x8 x9)
    (h0 : cc.val = 0)
    (f) (r : Fin 8) (J : Fin 1024) :
    arg14.view.read (Elt Ideal) (arg14.view.writes (Elt Ideal) f (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9).2.2.1) (ix2 r J) = st X W B WA BA WX BX LAM b J (256 * cc.val + 256) := by
  unfold runFirst
  dsimp only
  refine four_cols (R := 8) arg14.view _ _ _ _ _ _ _ _ _ _ (fun r J => st X W B WA BA WX BX LAM b J (256 * cc.val + 256)) ?_ ?_ ?_ ?_ r J
  · exact fun r j => (keep0 _ r j).trans ((blk0 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 0 0 rfl rfl _ _ _ _ _ _ _ _ _ (fun r j => (fill_cov arg13.view 0 _ _ _ z2 _).trans (if_pos h0).symm) _ (sl0 _)) _ (fun r j => (fill_cov arg14.view 0 _ _ _ z3 _).trans (st_zero X W B WA BA WX BX LAM b cc h0 _).symm) _ rfl _ _ in256 _ _).2 r j)
  · exact fun r j => (keep1 _ r j).trans ((blk1 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 256 1 rfl rfl _ _ _ _ _ _ _ _ _ (fun r j => (congrFun (miss_cov (o := 0) (o' := 256) arg13.view (by decide) _ _ _ _) _).trans ((fill_cov arg13.view 0 _ _ _ z2 _).trans (if_pos h0).symm)) _ (sl1 _)) _ (fun r j => (congrFun (miss_cov (o := 0) (o' := 256) arg14.view (by decide) _ _ _ _) _).trans ((fill_cov arg14.view 0 _ _ _ z3 _).trans (st_zero X W B WA BA WX BX LAM b cc h0 _).symm)) _ rfl _ _ in256 _ _).2 r j)
  · exact fun r j => (keep2 _ r j).trans ((blk2 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 2 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 512 2 rfl rfl _ _ _ _ _ _ _ _ _ (fun r j => (congrFun (miss_cov (o := 256) (o' := 512) arg13.view (by decide) _ _ _ _) _).trans ((congrFun (miss_cov (o := 0) (o' := 512) arg13.view (by decide) _ _ _ _) _).trans ((fill_cov arg13.view 0 _ _ _ z2 _).trans (if_pos h0).symm))) _ (sl2 _)) _ (fun r j => (congrFun (miss_cov (o := 256) (o' := 512) arg14.view (by decide) _ _ _ _) _).trans ((congrFun (miss_cov (o := 0) (o' := 512) arg14.view (by decide) _ _ _ _) _).trans ((fill_cov arg14.view 0 _ _ _ z3 _).trans (st_zero X W B WA BA WX BX LAM b cc h0 _).symm))) _ rfl _ _ in256 _ _).2 r j)
  · exact fun r j => (keep3 _ r j).trans ((blk3 X W B WA BA WX BX LAM b cc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ (loads_of X W B WA BA WX BX LAM G 3 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 I 768 3 rfl rfl _ _ _ _ _ _ _ _ _ (fun r j => (congrFun (miss_cov (o := 512) (o' := 768) arg13.view (by decide) _ _ _ _) _).trans ((congrFun (miss_cov (o := 256) (o' := 768) arg13.view (by decide) _ _ _ _) _).trans ((congrFun (miss_cov (o := 0) (o' := 768) arg13.view (by decide) _ _ _ _) _).trans ((fill_cov arg13.view 0 _ _ _ z2 _).trans (if_pos h0).symm)))) _ (sl3 _)) _ (fun r j => (congrFun (miss_cov (o := 512) (o' := 768) arg14.view (by decide) _ _ _ _) _).trans ((congrFun (miss_cov (o := 256) (o' := 768) arg14.view (by decide) _ _ _ _) _).trans ((congrFun (miss_cov (o := 0) (o' := 768) arg14.view (by decide) _ _ _ _) _).trans ((fill_cov arg14.view 0 _ _ _ z3 _).trans (st_zero X W B WA BA WX BX LAM b cc h0 _).symm)))) _ rfl _ _ in256 _ _).2 r j)

set_option maxHeartbeats 4000000 in
/-- The rows carried on. -/
theorem first_tail {b : Fin 16} {cc : Fin 8} (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole) (hc : (Scalar.cmpi .ne (Scalar.extui (Scalar.cmpi .eq (BitVec.ofNat 32 (i 1).val) 0#32)) 0#32) = 1#1)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (x9 : Vec Ideal S1x1024 .f32)
    (I : Ins X W B WA BA WX BX LAM G b cc x0 x1 x2 x3 x4 x5 x6 x7 x8 x9)
    (h0 : cc.val = 0)
    (f) (r : Fin 8) (J : Fin 1024) :
    arg13.view.read (Elt Ideal) (arg13.view.writes (Elt Ideal) f (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9).2.1) (ix2 r J) = X (ix2 (row b (256 * cc.val + 248 + r.val)) (colX J)) := by
  unfold runFirst
  dsimp only
  refine four_cols (R := 8) arg13.view _ _ _ _ _ _ _ _ _ _ (fun r J => X (ix2 (row b (256 * cc.val + 248 + r.val)) (colX J))) ?_ ?_ ?_ ?_ r J
  · exact fun r j => (tail0 _ r j).trans ((ld_col harg2 x0 _ _ j (col 0 j).isLt).trans ((I.x0 _ _).trans (by congr 3; show 256 * cc.val + (248 + r.val) = _; omega)))
  · exact fun r j => (tail1 _ r j).trans ((ld_col harg2 x0 _ _ j (col 1 j).isLt).trans ((I.x0 _ _).trans (by congr 3; show 256 * cc.val + (248 + r.val) = _; omega)))
  · exact fun r j => (tail2 _ r j).trans ((ld_col harg2 x0 _ _ j (col 2 j).isLt).trans ((I.x0 _ _).trans (by congr 3; show 256 * cc.val + (248 + r.val) = _; omega)))
  · exact fun r j => (tail3 _ r j).trans ((ld_col harg2 x0 _ _ j (col 3 j).isLt).trans ((I.x0 _ _).trans (by congr 3; show 256 * cc.val + (248 + r.val) = _; omega)))

end Cert.RglruIdeal.Hand

end
-- ==== Proof.RglruTrack.lean ====
/- The recurrence call's body at a grid point, with what it leaves: the outputs of its chunk of the sequence, the last
   eight tokens of the chunk and the state after it. -/
module

public import proofs.«01_k».proof.Proof.RglruOutRest
public import proofs.«01_k».proof.Proof.RglruOutFirst
public import proofs.«01_k».proof.Proof.RglruIdealFrame

@[expose] public section

set_option maxRecDepth 16384

noncomputable section

namespace Cert.RglruIdeal.Track

open Cert.RglruIdeal Cert.RglruIdeal.Gen Cert.RglruIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.RglruRefIdeal.Hand (row st res)

local notation "𝕄" => MT nD τ sig Unit (Elt Ideal) ℕ (UR sig nD τ) ℕ

variable (X : FVec Ideal S32768x2176 .f32) (W : FVec Ideal S1x4x1024 .f32) (B : FVec Ideal S1x1024 .f32)
  (WA : FVec Ideal S1x16x64x64 .f32) (BA : FVec Ideal S1x1024 .f32) (WX : FVec Ideal S1x16x64x64 .f32) (BX : FVec Ideal S1x1024 .f32)
  (LAM : FVec Ideal S1x1024 .f32) (G : FVec Ideal S1x1024 .f32)

/-- What the body leaves in its output block: the layer's results at the chunk's tokens. -/
def outBlock (b : Fin 16) (cc : Fin 8) : Vec Ideal S256x1024 .bf16 :=
  fun y => res X W B WA BA WX BX LAM G b (256 * cc.val + (y 0).val) (y 1)

/-- What the scratch buffers hold once the first `n` tokens of a sequence are done: the eight tokens before, and the state. -/
def Carried (b : Fin 16) (n : ℕ) (T H : Vec Ideal S8x1024 .f32) : Prop :=
  (∀ (r : Fin 8) (J : Fin 1024), T (ix2 r J) = X (ix2 (row b (n - 8 + r.val)) (colX J)))
    ∧ ∀ (r : Fin 8) (J : Fin 1024), H (ix2 r J) = st X W B WA BA WX BX LAM b J n

set_option maxHeartbeats 4000000 in
/-- The body, at the start of a sequence or past it. -/
theorem run_point {b : Fin 16} {cc : Fin 8} (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x1024 .f32) (harg13 : arg13.IsWhole) (arg14 : Memref sig .tc .vmem S8x1024 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x1024 .f32) (harg17 : arg17.IsWhole)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (x9 : Vec Ideal S1x1024 .f32) (T H : Vec Ideal S8x1024 .f32)
    (I : Ins X W B WA BA WX BX LAM G b cc x0 x1 x2 x3 x4 x5 x6 x7 x8 x9) (hz : isFirst i ↔ cc.val = 0) (hC : cc.val ≠ 0 → Carried X W B WA BA WX BX LAM b (256 * cc.val) T H)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare T ∗ owns (c : Thread nD τ) arg14 fullShare H ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (outBlock X W B WA BA WX BX LAM G b cc) ∗ (∃ T₁ H₁, ⌜Carried X W B WA BA WX BX LAM b (256 * cc.val + 256) T₁ H₁⌝ ∗ owns (c : Thread nD τ) arg13 fullShare T₁ ∗ owns (c : Thread nD τ) arg14 fullShare H₁) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := Ideal)) Variants.none c none) E (cc0_rglru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  by_cases hc : isFirst i
  · have h0 := hz.mp hc
    have hout : ∀ f, arg12.view.read (Elt Ideal) (arg12.view.writes (Elt Ideal) f (runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9).1) = outBlock X W B WA BA WX BX LAM G b cc := fun f => funext fun y => by
      rw [eq_ix2 y]
      exact first_out X W B WA BA WX BX LAM G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 I h0 f _ _
    iapply ((runFirst (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9).2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexact H15
    isplitl [H16]; · iexact H16
    isplitl [H17]; · iexact H17
    iintro ⟨H2, H3, H4, H5, H6, H7, H8, H9, H10, H11, ⟨%f12, H12⟩, ⟨%f13, H13⟩, ⟨%f14, H14⟩, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr; swap; · iexact H12
      ipureintro; exact hout f12
    isplitl [H13 H14]
    · iexists _, _
      isplitr
      · ipureintro
        exact ⟨fun r J => (first_tail X W B WA BA WX BX LAM G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 I h0 f13 r J).trans (by congr 3), fun r J => first_state X W B WA BA WX BX LAM G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 I h0 f14 r J⟩
      unfold owns
      isplitl [H13]
      · iexists _; isplitr; swap; · iexact H13
        ipureintro; rfl
      iexists _; isplitr; swap; · iexact H14
      ipureintro; rfl
    isplitl [H15]; · iexact H15
    isplitl [H16]; · iexact H16
    iexact H17
  · have h0 : cc.val ≠ 0 := fun h => hc (hz.mpr h)
    have hT : ∀ (r : Fin 8) (J : Fin 1024), T (ix2 r J) = if cc.val = 0 then 0 else X (ix2 (row b (256 * cc.val - 8 + r.val)) (colX J)) :=
      fun r J => ((hC h0).1 r J).trans (if_neg h0).symm
    have hH := (hC h0).2
    have hout : ∀ f, arg12.view.read (Elt Ideal) (arg12.view.writes (Elt Ideal) f (runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 T H).1) = outBlock X W B WA BA WX BX LAM G b cc := fun f => funext fun y => by
      rw [eq_ix2 y]
      exact rest_out X W B WA BA WX BX LAM G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 T H I hT hH f _ _
    iapply ((runRest (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 T H).2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, ⟨%f12, H12⟩, ⟨%f13, H13⟩, ⟨%f14, H14⟩, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr; swap; · iexact H12
      ipureintro; exact hout f12
    isplitl [H13 H14]
    · iexists _, _
      isplitr
      · ipureintro
        exact ⟨fun r J => (rest_tail X W B WA BA WX BX LAM G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 T H I hT hH f13 r J).trans (by congr 3), fun r J => rest_state X W B WA BA WX BX LAM G c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 x9 T H I hT hH f14 r J⟩
      unfold owns
      isplitl [H13]
      · iexists _; isplitr; swap; · iexact H13
        ipureintro; rfl
      iexists _; isplitr; swap; · iexact H14
      ipureintro; rfl
    isplitl [H15]; · iexact H15
    isplitl [H16]; · iexact H16
    iexact H17

end Cert.RglruIdeal.Track

end
-- ==== Proof.RglruWin.lean ====
/- The recurrence call's input blocks at a grid point, as entries of the call's arguments. -/
module

public import proofs.«01_k».proof.Proof.RglruIns
public import proofs.«01_k».proof.Proof.Gen.RglruIdeal.Frame
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.RglruIdeal.Hand

open Cert.RglruIdeal Cert.RglruIdeal.Gen Idealize.ShloMosaic Idealize.ShloMosaic.TcCoe Idealize.SL.Sem
open Cert.RglruRefIdeal.Hand (row)

variable (m : (ℓ : Loc nD τ sig) → Buf (Elt Ideal) ℓ)

theorem N_0 : cfg0.N = 128 := by decide +kernel

set_option maxHeartbeats 2000000 in
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![0, 0, 0] ∧ win0_7.index t = ![0, 0]
    ∧ win0_8.index t = ![0, 0] ∧ win0_9.index t = ![0, 0] ∧ win0_10.index t = ![t.val, 0] :=
  (by decide +kernel : ∀ t : Fin grid0.N, _)

/-- The sequence a grid point works on. -/
abbrev seqOf (t : Fin cfg0.N) : Fin 16 := ⟨t.val / 8, by have := lt_of_lt_of_eq t.isLt N_0; omega⟩

/-- The chunk of the sequence a grid point works on. -/
abbrev chunkOf (t : Fin cfg0.N) : Fin 8 := ⟨t.val % 8, by omega⟩

theorem coords1 : ∀ t : Fin cfg0.N, (grid0.coords t 1).val = t.val % 8 := (by decide +kernel : ∀ t : Fin grid0.N, _)

theorem row_of (t : Fin cfg0.N) (s : Fin 256) : (row (seqOf t) (256 * (chunkOf t).val + s.val)).val = 256 * t.val + s.val := by
  have := lt_of_lt_of_eq t.isLt N_0
  show (2048 * (t.val / 8) + (256 * (t.val % 8) + s.val)) % 32768 = _
  omega

/-- The entry of the 4 by 4 identity that the host code builds. -/
theorem eye_val (p r : ℕ) (hp : p < 4) (hr : r < 4) :
    (FloatOps.uitofp (F := Ideal) FTy.f32 (IntOp.cmpi CmpIPredicate.eq (IntOp.addi (BitVec.ofNat 32 p) 0#32) (BitVec.ofNat 32 r)) : EReal)
      = if p = r then 1 else 0 := by
  have h : IntOp.cmpi CmpIPredicate.eq (IntOp.addi (BitVec.ofNat 32 p) 0#32) (BitVec.ofNat 32 r) = if p = r then 1#1 else 0#1 := by
    interval_cases p <;> interval_cases r <;> decide
  rw [h]
  split
  · show (((1#1 : BitVec 1).toNat : ℝ) : EReal) = 1
    simp
  · show (((0#1 : BitVec 1).toNat : ℝ) : EReal) = 0
    simp

theorem eye_mul (x : EReal) (p r : ℕ) (hp : p < 4) (hr : r < 4) :
    x * (FloatOps.uitofp (F := Ideal) FTy.f32 (IntOp.cmpi CmpIPredicate.eq (IntOp.addi (BitVec.ofNat 32 p) 0#32) (BitVec.ofNat 32 r)) : EReal)
      = if p = r then x else 0 := by
  rw [eye_val p r hp hr]
  split
  · exact mul_one x
  · exact mul_zero x

section
variable (c : Dev nD) (t : Fin cfg0.N)

theorem w0 (s : Fin 256) (J : Fin 1024) : (show FVec Ideal S256x1024 .f32 from X0_0 m c t) (ix2 s J)
    = (show FVec Ideal S32768x2176 .f32 from m ((c.tc : Thread nD τ).loc main_arg0)) (ix2 (row (seqOf t) (256 * (chunkOf t).val + s.val)) (colX J)) := by
  show X0_0 m c t (ix2 s J) = _
  unfold X0_0 Pipeline.Window.fill
  rw [dif_pos (moved0_0 t _)]
  refine (congrFun (V_main_arg0 m c) _).trans ?_
  refine congrArg (m ((c.tc : Thread nD τ).loc main_arg0)) (funext fun a => Fin.ext ?_)
  obtain ⟨h0, h1, -⟩ := idx t
  match a with
  | ⟨0, _⟩ =>
    refine Eq.trans ?_ (row_of t s).symm
    show win0_0.index t 0 * 256 + 1 * s.val = _
    rw [h0]
    show t.val * 256 + 1 * s.val = _
    omega
  | ⟨1, _⟩ =>
    show win0_0.index t 1 * 1024 + 1 * J.val = _
    rw [h0]
    show 0 * 1024 + 1 * J.val = J.val
    omega

theorem w1 (s : Fin 256) (J : Fin 1024) : (show FVec Ideal S256x1024 .f32 from X0_1 m c t) (ix2 s J)
    = (show FVec Ideal S32768x2176 .f32 from m ((c.tc : Thread nD τ).loc main_arg0)) (ix2 (row (seqOf t) (256 * (chunkOf t).val + s.val)) (colY J)) := by
  show X0_1 m c t (ix2 s J) = _
  unfold X0_1 Pipeline.Window.fill
  rw [dif_pos (moved0_1 t _)]
  refine (congrFun (V_main_arg0 m c) _).trans ?_
  refine congrArg (m ((c.tc : Thread nD τ).loc main_arg0)) (funext fun a => Fin.ext ?_)
  obtain ⟨h0, h1, -⟩ := idx t
  match a with
  | ⟨0, _⟩ =>
    refine Eq.trans ?_ (row_of t s).symm
    show win0_1.index t 0 * 256 + 1 * s.val = _
    rw [h1]
    show t.val * 256 + 1 * s.val = _
    omega
  | ⟨1, _⟩ =>
    show win0_1.index t 1 * 1024 + 1 * J.val = _
    rw [h1]
    show 1 * 1024 + 1 * J.val = 1024 + J.val
    omega

theorem w2 (k : Fin 4) (J : Fin 1024) : (show FVec Ideal S4x1024 .f32 from iblk m c 2 t) (ix2 k J)
    = (show FVec Ideal S1x4x1024 .f32 from m ((c.tc : Thread nD τ).loc main_arg1)) (ix3 0 k J) := by
  show iblk m c 2 t (ix2 k J) = _
  have e : ((cfg0.win 2).blk t).view.emb (ix2 k J) = ix2 k J := by blk_ext [idx t]
  refine (congrArg (V m c main_v0) e).trans ?_
  entry_read
  pointwise

theorem w3 (J : Fin 1024) : (show FVec Ideal S1x1024 .f32 from iblk m c 3 t) (ix2 0 J)
    = (show FVec Ideal S1x1024 .f32 from m ((c.tc : Thread nD τ).loc main_arg2)) (ix2 0 J) := by
  show iblk m c 3 t (ix2 0 J) = _
  have e : ((cfg0.win 3).blk t).view.emb (ix2 0 J) = ix2 0 J := by blk_ext [idx t]
  refine (congrArg (V m c main_v2) e).trans ?_
  entry_read
  pointwise

theorem w5 (J : Fin 1024) : (show FVec Ideal S1x1024 .f32 from iblk m c 5 t) (ix2 0 J)
    = (show FVec Ideal S1x1024 .f32 from m ((c.tc : Thread nD τ).loc main_arg4)) (ix2 0 J) := by
  show iblk m c 5 t (ix2 0 J) = _
  have e : ((cfg0.win 5).blk t).view.emb (ix2 0 J) = ix2 0 J := by blk_ext [idx t]
  refine (congrArg (V m c main_v19) e).trans ?_
  entry_read
  pointwise

theorem w7 (J : Fin 1024) : (show FVec Ideal S1x1024 .f32 from iblk m c 7 t) (ix2 0 J)
    = (show FVec Ideal S1x1024 .f32 from m ((c.tc : Thread nD τ).loc main_arg6)) (ix2 0 J) := by
  show iblk m c 7 t (ix2 0 J) = _
  have e : ((cfg0.win 7).blk t).view.emb (ix2 0 J) = ix2 0 J := by blk_ext [idx t]
  refine (congrArg (V m c main_v36) e).trans ?_
  entry_read
  pointwise

theorem w8 (J : Fin 1024) : (show FVec Ideal S1x1024 .f32 from iblk m c 8 t) (ix2 0 J)
    = (show FVec Ideal S1x1024 .f32 from m ((c.tc : Thread nD τ).loc main_arg7)) (ix2 0 J) := by
  show iblk m c 8 t (ix2 0 J) = _
  have e : ((cfg0.win 8).blk t).view.emb (ix2 0 J) = ix2 0 J := by blk_ext [idx t]
  refine (congrArg (V m c main_v38) e).trans ?_
  entry_read
  pointwise

theorem w9 (J : Fin 1024) : (show FVec Ideal S1x1024 .f32 from iblk m c 9 t) (ix2 0 J)
    = (show FVec Ideal S1x1024 .f32 from m ((c.tc : Thread nD τ).loc main_arg8)) (ix2 0 J) := by
  show iblk m c 9 t (ix2 0 J) = _
  have e : ((cfg0.win 9).blk t).view.emb (ix2 0 J) = ix2 0 J := by blk_ext [idx t]
  refine (congrArg (V m c main_v40) e).trans ?_
  entry_read
  pointwise

set_option maxHeartbeats 2000000 in
theorem w4 (q : Fin 4) (k j : Fin 256) : (show FVec Ideal S4x256x256 .bf16 from iblk m c 4 t) (ix3 q k j)
    = if k.val / 64 = j.val / 64 then (show FVec Ideal S1x16x64x64 .f32 from m ((c.tc : Thread nD τ).loc main_arg3)) (ix4 0 (headOf q j) (inHead k) (inHead j)) else (0 : EReal) := by
  show iblk m c 4 t (ix3 q k j) = _
  have e : ((cfg0.win 4).blk t).view.emb (ix3 q k j) = ix3 q k j := by blk_ext [idx t]
  refine (congrArg (V m c main_v17) e).trans ?_
  entry_read
  pointwise
  refine (eye_mul _ (k.val / 64) (j.val / 64) (by omega) (by omega)).trans ?_
  by_cases h : k.val / 64 = j.val / 64
  · rw [if_pos h, if_pos h]
    refine (congrArg (m ((c.tc : Thread nD τ).loc main_arg3)) ?_)
    refine congrArg (ix4 0 · (inHead k) (inHead j)) (Fin.ext ?_)
    show q.val * 4 + k.val / 64 = 4 * q.val + j.val / 64
    omega
  · rw [if_neg h, if_neg h]

set_option maxHeartbeats 2000000 in
theorem w6 (q : Fin 4) (k j : Fin 256) : (show FVec Ideal S4x256x256 .bf16 from iblk m c 6 t) (ix3 q k j)
    = if k.val / 64 = j.val / 64 then (show FVec Ideal S1x16x64x64 .f32 from m ((c.tc : Thread nD τ).loc main_arg5)) (ix4 0 (headOf q j) (inHead k) (inHead j)) else (0 : EReal) := by
  show iblk m c 6 t (ix3 q k j) = _
  have e : ((cfg0.win 6).blk t).view.emb (ix3 q k j) = ix3 q k j := by blk_ext [idx t]
  refine (congrArg (V m c main_v34) e).trans ?_
  entry_read
  pointwise
  refine (eye_mul _ (k.val / 64) (j.val / 64) (by omega) (by omega)).trans ?_
  by_cases h : k.val / 64 = j.val / 64
  · rw [if_pos h, if_pos h]
    refine (congrArg (m ((c.tc : Thread nD τ).loc main_arg5)) ?_)
    refine congrArg (ix4 0 · (inHead k) (inHead j)) (Fin.ext ?_)
    show q.val * 4 + k.val / 64 = 4 * q.val + j.val / 64
    omega
  · rw [if_neg h, if_neg h]

/-- Every block the body reads at a grid point, as an entry of the call's arguments. -/
theorem ins : Ins (show FVec Ideal S32768x2176 .f32 from m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (seqOf t) (chunkOf t) (X0_0 m c t) (X0_1 m c t) (iblk m c 2 t) (iblk m c 3 t) (iblk m c 4 t) (iblk m c 5 t) (iblk m c 6 t) (iblk m c 7 t)
    (iblk m c 8 t) (iblk m c 9 t) :=
  ⟨w0 m c t, w1 m c t, w2 m c t, w3 m c t, w4 m c t, w5 m c t, w6 m c t, w7 m c t, w8 m c t, w9 m c t⟩

end

end Cert.RglruIdeal.Hand

end
-- ==== Proof.RglruTrackFrame.lean ====
/- The recurrence call over its whole grid: the scratch buffers carry the state from chunk to chunk, and the result
   array holds the layer's result at every token. -/
module

public import proofs.«01_k».proof.Proof.RglruTrack
public import proofs.«01_k».proof.Proof.RglruWin

@[expose] public section

set_option maxRecDepth 16384

noncomputable section

namespace Cert.RglruIdeal.Track

open Cert.RglruIdeal Cert.RglruIdeal.Gen Cert.RglruIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.RglruRefIdeal.Hand (row st res)
open Cert.RglruIdeal.Keep (ms0_0 ms0_1 ms0_2 ms0_3 ms0_4 ms0_5 ms0_6 ms0_7 ms0_8 ms0_9 ms0_10 scM0_0 scM0_1 scM0_2 scM0_3 scM0_4 PhiA0_eq defs₀_row)

local notation "𝕄" => MT nD τ sig Unit (Elt Ideal) ℕ (UR sig nD τ) ℕ

variable (m : (ℓ : Loc nD τ sig) → Buf (Elt Ideal) ℓ) (ρ : Dev nD → PrngReg)

abbrev aX (c : Dev nD) : FVec Ideal S32768x2176 .f32 := m ((c.tc : Thread nD τ).loc main_arg0)
abbrev aW (c : Dev nD) : FVec Ideal S1x4x1024 .f32 := m ((c.tc : Thread nD τ).loc main_arg1)
abbrev aB (c : Dev nD) : FVec Ideal S1x1024 .f32 := m ((c.tc : Thread nD τ).loc main_arg2)
abbrev aWA (c : Dev nD) : FVec Ideal S1x16x64x64 .f32 := m ((c.tc : Thread nD τ).loc main_arg3)
abbrev aBA (c : Dev nD) : FVec Ideal S1x1024 .f32 := m ((c.tc : Thread nD τ).loc main_arg4)
abbrev aWX (c : Dev nD) : FVec Ideal S1x16x64x64 .f32 := m ((c.tc : Thread nD τ).loc main_arg5)
abbrev aBX (c : Dev nD) : FVec Ideal S1x1024 .f32 := m ((c.tc : Thread nD τ).loc main_arg6)
abbrev aLAM (c : Dev nD) : FVec Ideal S1x1024 .f32 := m ((c.tc : Thread nD τ).loc main_arg7)
abbrev aG (c : Dev nD) : FVec Ideal S1x1024 .f32 := m ((c.tc : Thread nD τ).loc main_arg8)

/-- The scratch buffers before grid point `n`. Nothing is asked of them where a sequence starts. -/
def Inv (c : Dev nD) (n : ℕ) (T H : Vec Ideal S8x1024 .f32) : Prop :=
  n % 8 ≠ 0 → Carried (aX m c) (aW m c) (aB m c) (aWA m c) (aBA m c) (aWX m c) (aBX m c) (aLAM m c) ⟨n / 8 % 16, Nat.mod_lt _ (by decide)⟩ (256 * (n % 8)) T H

theorem inv_here (c : Dev nD) (t : Fin cfg0.N) {T H : Vec Ideal S8x1024 .f32} (h : Inv m c t.val T H) :
    (chunkOf t).val ≠ 0 → Carried (aX m c) (aW m c) (aB m c) (aWA m c) (aBA m c) (aWX m c) (aBX m c) (aLAM m c) (seqOf t) (256 * (chunkOf t).val) T H := by
  intro h0
  have hb : (⟨t.val / 8 % 16, Nat.mod_lt _ (by decide)⟩ : Fin 16) = seqOf t := Fin.ext (by
    have := lt_of_lt_of_eq t.isLt Cert.RglruIdeal.Hand.N_0
    show t.val / 8 % 16 = t.val / 8
    omega)
  have := h h0
  rw [hb] at this
  exact this

theorem inv_next (c : Dev nD) (t : Fin cfg0.N) {T H : Vec Ideal S8x1024 .f32}
    (h : Carried (aX m c) (aW m c) (aB m c) (aWA m c) (aBA m c) (aWX m c) (aBX m c) (aLAM m c) (seqOf t) (256 * (chunkOf t).val + 256) T H) : Inv m c (t.val + 1) T H := by
  intro h0
  have hb : (⟨(t.val + 1) / 8 % 16, Nat.mod_lt _ (by decide)⟩ : Fin 16) = seqOf t := Fin.ext (by
    have := lt_of_lt_of_eq t.isLt Cert.RglruIdeal.Hand.N_0
    show (t.val + 1) / 8 % 16 = t.val / 8
    omega)
  have hn : 256 * ((t.val + 1) % 8) = 256 * (chunkOf t).val + 256 := by
    show 256 * ((t.val + 1) % 8) = 256 * (t.val % 8) + 256
    omega
  rw [hb, hn]
  exact h

theorem first_iff : ∀ t : Fin cfg0.N, isFirst (grid0.coords t) ↔ t.val % 8 = 0 := (by decide +kernel : ∀ t : Fin grid0.N, _)

/-- What a grid point leaves in the output block. -/
abbrev outOf (c : Dev nD) (t : Fin cfg0.N) : Vec Ideal S256x1024 .bf16 := outBlock (aX m c) (aW m c) (aB m c) (aWA m c) (aBA m c) (aWX m c) (aBX m c) (aLAM m c) (aG m c) (seqOf t) (chunkOf t)

/-- What each window's buffer holds after the body, and what the scratch buffers hold between points. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outOf m c t
  Φ t := iprop((∃ T H, ⌜Inv m c (t.val) T H⌝ ∗ owns (c : Thread nD τ) scM0_0 fullShare T ∗ owns (c : Thread nD τ) scM0_1 fullShare H)
    ∗ (∃ d, owns (c : Thread nD τ) scM0_2 fullShare d) ∗ (∃ d, owns (c : Thread nD τ) scM0_3 fullShare d) ∗ (∃ d, owns (c : Thread nD τ) scM0_4 fullShare d) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outOf m c t := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at a grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = iprop((∃ T H, ⌜Inv m c (t.val + 1) T H⌝ ∗ owns (c : Thread nD τ) scM0_0 fullShare T ∗ owns (c : Thread nD τ) scM0_1 fullShare H)
    ∗ (∃ d, owns (c : Thread nD τ) scM0_2 fullShare d) ∗ (∃ d, owns (c : Thread nD τ) scM0_3 fullShare d) ∗ (∃ d, owns (c : Thread nD τ) scM0_4 fullShare d) ∗ (∃ r, prngReg c r)) from rfl,
    show (dats m 0 c).Φ t.castSucc = iprop((∃ T H, ⌜Inv m c (t.val) T H⌝ ∗ owns (c : Thread nD τ) scM0_0 fullShare T ∗ owns (c : Thread nD τ) scM0_1 fullShare H)
    ∗ (∃ d, owns (c : Thread nD τ) scM0_2 fullShare d) ∗ (∃ d, owns (c : Thread nD τ) scM0_3 fullShare d) ∗ (∃ d, owns (c : Thread nD τ) scM0_4 fullShare d) ∗ (∃ r, prngReg c r)) from rfl,
    show (dats m 0 c).owesAt () t.succ = (dats m 0 c).owesAt () t.castSucc from rfl,
    after0_0, after0_1, after0_2, after0_3, after0_4, after0_5, after0_6, after0_7, after0_8, after0_9, after0_10]
  iintro ⟨⟨⟨%T, %H, %hI, HS0, HS1⟩, HS2, HS3, HS4, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_point (aX m c) (aW m c) (aB m c) (aWA m c) (aBA m c) (aWX m c) (aBX m c) (aLAM m c) (aG m c) c (grid0.coords t) _ _ _ _ _ _ _ _ _ _ _ _ _ _ _ _ _ _ _ _ _ _ _ _ _ _ _ _ _ _ _ _ (X0_0 m c t) (X0_1 m c t) (iblk m c 2 t) (iblk m c 3 t) (iblk m c 4 t) (iblk m c 5 t) (iblk m c 6 t) (iblk m c 7 t) (iblk m c 8 t) (iblk m c 9 t) T H (ins m c t) (first_iff t) (inv_here m c t hI) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, ⟨%T₁, %H₁, %hN, HS0, HS1⟩, HS2, HS3, HS4⟩
  isplitl [HS0 HS1 HS2 HS3 HS4 Hr]
  · isplitl [HS0 HS1]
    · iexists T₁, H₁
      isplitr
      · ipureintro
        exact inv_next m c t hN
      isplitl [HS0]; · iexact HS0
      iexact HS1
    isplitl [HS2]; · iexact HS2
    isplitl [HS3]; · iexact HS3
    isplitl [HS4]; · iexact HS4
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [PhiA0_eq, show (dats m 0 c).Φ 0 = iprop((∃ T H, ⌜Inv m c (0) T H⌝ ∗ owns (c : Thread nD τ) scM0_0 fullShare T ∗ owns (c : Thread nD τ) scM0_1 fullShare H)
    ∗ (∃ d, owns (c : Thread nD τ) scM0_2 fullShare d) ∗ (∃ d, owns (c : Thread nD τ) scM0_3 fullShare d) ∗ (∃ d, owns (c : Thread nD τ) scM0_4 fullShare d) ∗ (∃ r, prngReg c r)) from rfl]
  iintro ⟨⟨⟨%T, HS0⟩, ⟨%H, HS1⟩, HS2, HS3, HS4⟩, Hr⟩
  isplitl [HS0 HS1]
  · iexists T, H
    isplitr
    · ipureintro
      exact fun h => absurd rfl h
    isplitl [HS0]; · iexact HS0
    iexact HS1
  isplitl [HS2]; · iexact HS2
  isplitl [HS3]; · iexact HS3
  isplitl [HS4]; · iexact HS4
  iexact Hr

theorem Phi_out (c : Dev nD) : (dats m 0 c).Φ (Fin.last cfg0.N) ⊢ (Pipeline.ΦA spec0 c : sProp 𝕄) := by
  rw [PhiA0_eq, show (dats m 0 c).Φ (Fin.last cfg0.N) = iprop((∃ T H, ⌜Inv m c (cfg0.N) T H⌝ ∗ owns (c : Thread nD τ) scM0_0 fullShare T ∗ owns (c : Thread nD τ) scM0_1 fullShare H)
    ∗ (∃ d, owns (c : Thread nD τ) scM0_2 fullShare d) ∗ (∃ d, owns (c : Thread nD τ) scM0_3 fullShare d) ∗ (∃ d, owns (c : Thread nD τ) scM0_4 fullShare d) ∗ (∃ r, prngReg c r)) from rfl]
  iintro ⟨⟨%T, %H, %hI, HS0, HS1⟩, HS2, HS3, HS4, Hr⟩
  isplitr [Hr]; swap; · iexact Hr
  isplitl [HS0]; · iexists _; iexact HS0
  isplitl [HS1]; · iexists _; iexact HS1
  isplitl [HS2]; · iexact HS2
  isplitl [HS3]; · iexact HS3
  iexact HS4

set_option backward.isDefEq.respectTransparency.types false in
theorem run_main : θ_run defs (onTc (τ := τ) (main (F := Ideal))) (s₀ m ρ) (Pipeline.FramePost cfgs (dats m) 0 (V m)) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := Phi_in m) (hout := Phi_out m)

/-- The call's result array. -/
def resultArr (c : Dev nD) : Vec Ideal S32768x1024 .bf16 :=
  fun y => res (aX m c) (aW m c) (aB m c) (aWA m c) (aBA m c) (aWX m c) (aBX m c) (aLAM m c) (aG m c) ⟨(y 0).val / 2048, by have := (y 0).isLt; have h : (y 0).val < 32768 := (y 0).isLt; omega⟩ ((y 0).val % 2048) (y 1)

set_option maxHeartbeats 2000000 in
/-- The grid's blocks make up the whole result array. -/
theorem out_val (c : Dev nD) : (dats m 0 c).arrAt 10 cfg0.N = resultArr m c := by
  refine (dats m 0 c).arrAt_eq_of_covers 10 _ (by decide +kernel) fun t hf y => ?_
  have ht := lt_of_lt_of_eq t.isLt Cert.RglruIdeal.Hand.N_0
  blk_simp
  rw [after0_10]
  obtain ⟨y0, y1, rfl⟩ : ∃ (a : Fin 256) (b : Fin 1024), y = ix2 a b := ⟨_, _, eq_ix2 y⟩
  rw [show ((View.whole main_v41).slice (win0_10.rect t)).emb (ix2 y0 y1) = ix2 (⟨256 * t.val + y0.val, by omega⟩ : Fin 32768) y1 by blk_ext [idx t]]
  have eb : (seqOf t : Fin 16) = ⟨(256 * t.val + y0.val) / 2048, by omega⟩ := Fin.ext (by
    show t.val / 8 = (256 * t.val + y0.val) / 2048
    omega)
  have en : 256 * (chunkOf t).val + y0.val = (256 * t.val + y0.val) % 2048 := by
    show 256 * (t.val % 8) + y0.val = (256 * t.val + y0.val) % 2048
    omega
  show res (aX m c) (aW m c) (aB m c) (aWA m c) (aBA m c) (aWX m c) (aBX m c) (aLAM m c) (aG m c) (seqOf t) (256 * (chunkOf t).val + y0.val) y1
    = res (aX m c) (aW m c) (aB m c) (aWA m c) (aBA m c) (aWX m c) (aBX m c) (aLAM m c) (aG m c) ⟨(256 * t.val + y0.val) / 2048, _⟩ ((256 * t.val + y0.val) % 2048) y1
  rw [eb, en]

end Cert.RglruIdeal.Track

end
-- ==== Proof.RglruAlgebraic.lean ====
/- The recurrence call computes what its reference computes. -/
module

public import proofs.«01_k».proof.Defs
public import proofs.«01_k».proof.Proof.RglruTrackFrame
public import proofs.«01_k».proof.Proof.RglruSpec
public import Idealize.ShloMosaic.Lib.Claim

@[expose] public section

set_option maxRecDepth 16384

noncomputable section

namespace Cert.Proof

open Idealize.ShloMosaic Idealize.ShloMosaic.TcCoe Idealize.SL.Sem

/-- The reference's result array, entry by entry, from the arguments the two sides share. -/
theorem ref_result (m : (ℓ : Loc Cert.RglruIdeal.nD Cert.RglruIdeal.τ Cert.RglruIdeal.sig) → Buf (Elt Ideal) ℓ)
    (c : Dev Cert.RglruIdeal.nD) :
    Cert.RglruRefIdeal.Step.R_main_v117 (F := Ideal) (Cert.RglruRefIdeal.Hand.LS (Cert.RglruIdeal.Track.aX m c) (Cert.RglruIdeal.Track.aW m c)
      (Cert.RglruIdeal.Track.aB m c) (Cert.RglruIdeal.Track.aWA m c) (Cert.RglruIdeal.Track.aBA m c) (Cert.RglruIdeal.Track.aWX m c)
      (Cert.RglruIdeal.Track.aBX m c) (Cert.RglruIdeal.Track.aLAM m c) 2048) (Cert.RglruIdeal.Track.aX m c) (Cert.RglruIdeal.Track.aG m c)
    = Cert.RglruIdeal.Track.resultArr m c := by
  funext y
  obtain ⟨y0, y1, rfl⟩ : ∃ (a : Fin 32768) (b : Fin 1024), y = ix2 a b := ⟨_, _, eq_ix2 y⟩
  exact Cert.RglruRefIdeal.Hand.ref_at _ _ _ _ _ _ _ _ _ y0 y1

theorem ref_congr {X X' : FVec Ideal Cert.RglruRefIdeal.S32768x2176 .f32} {W W' : FVec Ideal Cert.RglruRefIdeal.S1x4x1024 .f32}
    {B B' BA BA' BX BX' LAM LAM' G G' : FVec Ideal Cert.RglruRefIdeal.S1x1024 .f32} {WA WA' WX WX' : FVec Ideal Cert.RglruRefIdeal.S1x16x64x64 .f32}
    (h0 : X' = X) (h1 : W' = W) (h2 : B' = B) (h3 : WA' = WA) (h4 : BA' = BA) (h5 : WX' = WX) (h6 : BX' = BX) (h7 : LAM' = LAM) (h8 : G' = G) :
    Cert.RglruRefIdeal.Step.R_main_v117 (F := Ideal) (Cert.RglruRefIdeal.Hand.LS X' W' B' WA' BA' WX' BX' LAM' 2048) X' G'
      = Cert.RglruRefIdeal.Step.R_main_v117 (F := Ideal) (Cert.RglruRefIdeal.Hand.LS X W B WA BA WX BX LAM 2048) X G := by
  rw [h0, h1, h2, h3, h4, h5, h6, h7, h8]

/-- The result of the recurrence call and of its reference agree. -/
theorem algebraic_Rglru : Cert.algebraic_RglruIdeal_RglruRefIdeal := by
  intro m ρ m' ρ' _ hag
  refine ⟨fun c => Cert.RglruIdeal.Track.resultArr m c, ?_, ?_⟩
  · refine (θ_run _ _ _).mono (fun r h c => ?_) (θ_run_and (Cert.RglruIdeal.Track.run_main m ρ) (Cert.RglruIdeal.Keep.unchanged m ρ))
    exact ⟨((h.1 c).1 10).trans (Cert.RglruIdeal.Track.out_val m c), h.2 c⟩
  · refine (θ_run _ _ _).mono (fun r h c => ⟨(h c).1.trans ?_, (h c).2⟩) (Cert.RglruRefIdeal.Value.run (F := Ideal) m' ρ')
    obtain ⟨e0, e1, e2, e3, e4, e5, e6, e7, e8⟩ := hag c
    refine (Cert.RglruRefIdeal.Hand.run_result m' c).trans ?_
    unfold Cert.RglruRefIdeal.Hand.result
    rw [Cert.RglruRefIdeal.Hand.state_eq]
    exact (ref_congr e0 e1 e2 e3 e4 e5 e6 e7 e8).trans (ref_result m c)

end Cert.Proof

end
-- ==== Proof.FfnRun.lean ====
/- The feed-forward call's body, run at each kind of grid point: what its stores leave in the output block and in the
   carried scratch buffer. -/
module

public import proofs.«01_k».proof.Proof.Gen.FfnIdeal.Frame
public import proofs.«01_k».proof.Proof.Gen.FfnIdeal.Skeleton
public import proofs.«01_k».proof.Proof.Gen.FfnIdeal.Points
public import proofs.«01_k».proof.Proof.Gen.FfnIdeal.Launch
public import Idealize.ShloMosaic.Lib.Pipeline.FrameBody
public import Idealize.ShloMosaic.Lib.Ring
public import Idealize.ShloMosaic.Lib.Tactic

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The first column tile of a row tile. -/
abbrev isHead (i : grid0.Coords) : Prop :=
  (Scalar.cmpi .ne (Scalar.extui (Scalar.cmpi .eq (BitVec.ofNat 32 (i 1).val) 0#32)) 0#32) = 1#1

/-- The last column tile of a row tile. -/
abbrev isLast (i : grid0.Coords) : Prop :=
  (Scalar.cmpi .ne (Scalar.extui (Scalar.cmpi .eq (BitVec.ofNat 32 (i 1).val) 10#32)) 0#32) = 1#1

/-- The row tile starts a sequence. -/
abbrev isFresh (i : grid0.Coords) : Prop := k0_cond1 i = 1#1

set_option maxHeartbeats 8000000 in
/-- The pieces the body leaves in the output block and in the scratch buffer, with the run that leaves them. -/
noncomputable def runFreshHead (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S11x8x512 .f32) (harg11 : arg11.IsWhole) (h1 : isFresh i) (h2 : isHead i) (h3 : ¬isLast i)
    (x0 : Vec F S1024x2048 .bf16) (x1 : Vec F S1024x2048 .f32) (x2 : Vec F S2048x512 .bf16) (x3 : Vec F S2048x512 .bf16) (x4 : Vec F S512x2048 .bf16) (x5 : Vec F S3x512 .f32) (x6 : Vec F S1x512 .f32) (x7 : Vec F S1x2048 .f32) (O : Vec F S1024x2048 .f32) (C : Vec F S11x8x512 .f32) :
    Σ' (L10 : List (View.Piece (Elt F) S1024x2048 .f32)), { L11 : List (View.Piece (Elt F) S11x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ arg11.view.loc (c : Thread nD τ) ↦[arg11.view.set]{fullShare} arg11.view.writes (Elt F) (harg11.unread C) L11) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_conv_ffn_eq_skeleton]; unfold cc0_conv_ffn_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexact H11

set_option maxHeartbeats 8000000 in
/-- The pieces the body leaves in the output block and in the scratch buffer, with the run that leaves them. -/
noncomputable def runFreshMid (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S11x8x512 .f32) (harg11 : arg11.IsWhole) (h1 : isFresh i) (h2 : ¬isHead i) (h3 : ¬isLast i)
    (x0 : Vec F S1024x2048 .bf16) (x1 : Vec F S1024x2048 .f32) (x2 : Vec F S2048x512 .bf16) (x3 : Vec F S2048x512 .bf16) (x4 : Vec F S512x2048 .bf16) (x5 : Vec F S3x512 .f32) (x6 : Vec F S1x512 .f32) (x7 : Vec F S1x2048 .f32) (O : Vec F S1024x2048 .f32) (C : Vec F S11x8x512 .f32) :
    Σ' (L10 : List (View.Piece (Elt F) S1024x2048 .f32)), { L11 : List (View.Piece (Elt F) S11x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ arg11.view.loc (c : Thread nD τ) ↦[arg11.view.set]{fullShare} arg11.view.writes (Elt F) (harg11.unread C) L11) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_conv_ffn_eq_skeleton]; unfold cc0_conv_ffn_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexact H11

set_option maxHeartbeats 8000000 in
/-- The pieces the body leaves in the output block and in the scratch buffer, with the run that leaves them. -/
noncomputable def runFreshLast (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S11x8x512 .f32) (harg11 : arg11.IsWhole) (h1 : isFresh i) (h2 : ¬isHead i) (h3 : isLast i)
    (x0 : Vec F S1024x2048 .bf16) (x1 : Vec F S1024x2048 .f32) (x2 : Vec F S2048x512 .bf16) (x3 : Vec F S2048x512 .bf16) (x4 : Vec F S512x2048 .bf16) (x5 : Vec F S3x512 .f32) (x6 : Vec F S1x512 .f32) (x7 : Vec F S1x2048 .f32) (O : Vec F S1024x2048 .f32) (C : Vec F S11x8x512 .f32) :
    Σ' (L10 : List (View.Piece (Elt F) S1024x2048 .f32)), { L11 : List (View.Piece (Elt F) S11x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ arg11.view.loc (c : Thread nD τ) ↦[arg11.view.set]{fullShare} arg11.view.writes (Elt F) (harg11.unread C) L11) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_conv_ffn_eq_skeleton]; unfold cc0_conv_ffn_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexact H11

set_option maxHeartbeats 8000000 in
/-- The pieces the body leaves in the output block and in the scratch buffer, with the run that leaves them. -/
noncomputable def runContHead (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S11x8x512 .f32) (harg11 : arg11.IsWhole) (h1 : ¬isFresh i) (h2 : isHead i) (h3 : ¬isLast i)
    (x0 : Vec F S1024x2048 .bf16) (x1 : Vec F S1024x2048 .f32) (x2 : Vec F S2048x512 .bf16) (x3 : Vec F S2048x512 .bf16) (x4 : Vec F S512x2048 .bf16) (x5 : Vec F S3x512 .f32) (x6 : Vec F S1x512 .f32) (x7 : Vec F S1x2048 .f32) (O : Vec F S1024x2048 .f32) (C : Vec F S11x8x512 .f32) :
    Σ' (L10 : List (View.Piece (Elt F) S1024x2048 .f32)), { L11 : List (View.Piece (Elt F) S11x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ arg11.view.loc (c : Thread nD τ) ↦[arg11.view.set]{fullShare} arg11.view.writes (Elt F) (harg11.unread C) L11) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_conv_ffn_eq_skeleton]; unfold cc0_conv_ffn_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexact H11

set_option maxHeartbeats 8000000 in
/-- The pieces the body leaves in the output block and in the scratch buffer, with the run that leaves them. -/
noncomputable def runContMid (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S11x8x512 .f32) (harg11 : arg11.IsWhole) (h1 : ¬isFresh i) (h2 : ¬isHead i) (h3 : ¬isLast i)
    (x0 : Vec F S1024x2048 .bf16) (x1 : Vec F S1024x2048 .f32) (x2 : Vec F S2048x512 .bf16) (x3 : Vec F S2048x512 .bf16) (x4 : Vec F S512x2048 .bf16) (x5 : Vec F S3x512 .f32) (x6 : Vec F S1x512 .f32) (x7 : Vec F S1x2048 .f32) (O : Vec F S1024x2048 .f32) (C : Vec F S11x8x512 .f32) :
    Σ' (L10 : List (View.Piece (Elt F) S1024x2048 .f32)), { L11 : List (View.Piece (Elt F) S11x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ arg11.view.loc (c : Thread nD τ) ↦[arg11.view.set]{fullShare} arg11.view.writes (Elt F) (harg11.unread C) L11) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_conv_ffn_eq_skeleton]; unfold cc0_conv_ffn_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexact H11

set_option maxHeartbeats 8000000 in
/-- The pieces the body leaves in the output block and in the scratch buffer, with the run that leaves them. -/
noncomputable def runContLast (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S11x8x512 .f32) (harg11 : arg11.IsWhole) (h1 : ¬isFresh i) (h2 : ¬isHead i) (h3 : isLast i)
    (x0 : Vec F S1024x2048 .bf16) (x1 : Vec F S1024x2048 .f32) (x2 : Vec F S2048x512 .bf16) (x3 : Vec F S2048x512 .bf16) (x4 : Vec F S512x2048 .bf16) (x5 : Vec F S3x512 .f32) (x6 : Vec F S1x512 .f32) (x7 : Vec F S1x2048 .f32) (O : Vec F S1024x2048 .f32) (C : Vec F S11x8x512 .f32) :
    Σ' (L10 : List (View.Piece (Elt F) S1024x2048 .f32)), { L11 : List (View.Piece (Elt F) S11x8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ arg11.view.loc (c : Thread nD τ) ↦[arg11.view.set]{fullShare} arg11.view.writes (Elt F) (harg11.unread C) L11) -∗ K ⟨⟩))
          ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_conv_ffn_eq_skeleton]; unfold cc0_conv_ffn_skel
    simp only [k0_part1_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    iexact H11

end Cert.FfnIdeal.Hand

end
-- ==== Proof.FfnOut.lean ====
/- The feed-forward call's body at any grid point, in closed form: the output block it leaves and the slot of the carried
   scratch buffer it fills. -/
module

public import proofs.«01_k».proof.Proof.FfnRun
public import Idealize.ShloMosaic.Lib.VecWindow
public import Idealize.ShloMosaic.Lib.WritesUnit
public import Idealize.ShloMosaic.Lib.WholeRead
public import proofs.«01_k».proof.Proof.Gen.FfnIdeal.Frame
public import proofs.«01_k».proof.Proof.Gen.FfnIdeal.Skeleton
public import proofs.«01_k».proof.Proof.Gen.FfnIdeal.Points
public import proofs.«01_k».proof.Proof.Gen.FfnIdeal.Launch
public import Idealize.ShloMosaic.Lib.Pipeline.FrameBody
public import Idealize.ShloMosaic.Lib.Ring
public import Idealize.ShloMosaic.Lib.Tactic

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The tile's gated product before its second matrix product, from the input blocks and the rows kept of the row tile before. -/
def zOf (x0 : Vec F S1024x2048 .bf16) (x2 x3 : Vec F S2048x512 .bf16) (x5 : Vec F S3x512 .f32) (x6 : Vec F S1x512 .f32) (p : Vec F S1x8x512 .f32) : FVec F S1024x512 .bf16 :=
  k0_pay11 x0 (k0_pay3 x0 x2) (iota .tc S1024x512 32 [0] iota_S1024x512_d0_w32) (k0_pay7 p) (k0_pay8 p) (k0_pay9 x0 x2 p) k0_pay10 x5 x6 x3

/-- The slot of the scratch buffer that belongs to the grid point's column tile. -/
def slotOf (i : grid0.Coords) (C : Vec F S11x8x512 .f32) : Vec F S1x8x512 .f32 :=
  View.ld C (Rect.unit (s := S11x8x512) (k0_off2 i) S1x8x512.size (k0_off2_inb i))

/-- The rows the tile's convolution takes from before the tile: zeros at the start of a sequence, else the slot. -/
def prevOf (i : grid0.Coords) (C : Vec F S11x8x512 .f32) : Vec F S1x8x512 .f32 :=
  if isFresh i then k0_pay4 else slotOf i C

/-- The output block after the grid point. -/
def outOf (i : grid0.Coords) (x0 : Vec F S1024x2048 .bf16) (x1 : Vec F S1024x2048 .f32) (x2 x3 : Vec F S2048x512 .bf16) (x4 : Vec F S512x2048 .bf16) (x5 : Vec F S3x512 .f32) (x6 : Vec F S1x512 .f32) (x7 : Vec F S1x2048 .f32) (O : Vec F S1024x2048 .f32) (p : Vec F S1x8x512 .f32) : Vec F S1024x2048 .f32 :=
  if isLast i then k0_pay2 (k0_pay1 (zOf x0 x2 x3 x5 x6 p) (if isHead i then x1 else O) x4) x7
  else k0_pay1 (zOf x0 x2 x3 x5 x6 p) (if isHead i then x1 else O) x4

/-- The scratch buffer after the grid point: the point's slot filled with `w`, the other slots as they were. -/
def Upd (i : grid0.Coords) (w : Vec F S1x8x512 .f32) (C C' : Vec F S11x8x512 .f32) : Prop :=
  slotOf i C' = w ∧ ∀ y : S11x8x512.Idx, (y 0).val ≠ (i 1).val → C' y = C y

theorem off2_zero (i : grid0.Coords) : k0_off2 i = ![(i 1).val, 0, 0] := by
  have h : ∀ j : Fin 11, (BitVec.ofNat 32 j.val).toNat = j.val := by decide
  funext a
  fin_cases a
  · exact h (i 1)
  · rfl
  · rfl

theorem not_both (i : grid0.Coords) (h2 : isHead i) (h3 : isLast i) : False := by
  have h : ∀ j : Fin 11, (Scalar.cmpi .ne (Scalar.extui (Scalar.cmpi .eq (BitVec.ofNat 32 j.val) 0#32)) 0#32) = 1#1
      → (Scalar.cmpi .ne (Scalar.extui (Scalar.cmpi .eq (BitVec.ofNat 32 j.val) 10#32)) 0#32) = 1#1 → False := by decide
  exact h (i 1) h2 h3

theorem rd_full {s : Shape} {e : EltTy} {arg : Memref sig .tc .vmem s e} (harg : arg.IsWhole) (x : Vec F s e) {off : Fin s.rank → ℕ} (inb : ∀ a, off a + s.size a ≤ s.size a) :
    View.readAt (Elt F) arg.view (Rect.unit off s.size inb).toLoadRect (harg.unread x) = x :=
  (View.readAt_full arg.view _ inb).trans (harg.read_unread x)

theorem rd_slot {arg : Memref sig .tc .vmem S11x8x512 .f32} (harg : arg.IsWhole) (i : grid0.Coords) (C : Vec F S11x8x512 .f32) (inb) :
    View.readAt (Elt F) arg.view (Rect.unit (s := S11x8x512) (k0_off2 i) S1x8x512.size inb).toLoadRect (harg.unread C) = slotOf i C :=
  funext fun x => harg.readAt_unread C _ x

theorem rd_fresh {arg : Memref sig .tc .vmem S11x8x512 .f32} (i : grid0.Coords) (w : Vec F S1x8x512 .f32) (inb) (inb') :
    arg.view.readCov [⟨Rect.unit (s := S11x8x512) (k0_off1 i) S1x8x512.size inb', w⟩] (Rect.unit (s := S11x8x512) (k0_off2 i) S1x8x512.size inb).toLoadRect = w := by
  funext x
  exact View.read_writes_cons_unit_of_mem arg.view _ inb' w [] _ x rfl fun a => by
    show k0_off2 i a + 1 * (x a).val = k0_off2 i a + (x a).val
    rw [Nat.one_mul]

theorem upd_of {arg : Memref sig .tc .vmem S11x8x512 .f32} (harg : arg.IsWhole) (i : grid0.Coords) (w : Vec F S1x8x512 .f32) (C : Vec F S11x8x512 .f32) (inb) (L : List (View.Piece (Elt F) S11x8x512 .f32))
    (hL : L = [] ∨ ∃ (w' : Vec F S1x8x512 .f32) (inb' : ∀ a, k0_off1 i a + S1x8x512.size a ≤ S11x8x512.size a), L = [⟨Rect.unit (s := S11x8x512) (k0_off1 i) S1x8x512.size inb', w'⟩]) :
    Upd i w C (arg.view.read (Elt F) (arg.view.writes (Elt F) (harg.unread C) (⟨Rect.unit (s := S11x8x512) (k0_off2 i) S1x8x512.size inb, w⟩ :: L))) := by
  refine ⟨funext fun x => ?_, fun y hy => ?_⟩
  · exact View.read_writes_cons_unit_of_mem arg.view _ inb w L _ x rfl fun a => by
      show k0_off2 i a + 1 * (x a).val = _
      rw [Nat.one_mul]
  · have hout : ∀ o : Fin 3 → ℕ, o = ![(i 1).val, 0, 0] → ((y 0).val < o 0 ∨ o 0 + S1x8x512.size 0 ≤ (y 0).val) := by
      rintro o rfl
      show (y 0).val < (i 1).val ∨ (i 1).val + 1 ≤ (y 0).val
      omega
    rw [View.read_writes_cons_unit_of_not_mem arg.view _ inb w L y rfl 0 (hout _ (off2_zero i))]
    rcases hL with rfl | ⟨w', inb', rfl⟩
    · exact congrFun (harg.read_unread C) y
    · rw [View.read_writes_cons_unit_of_not_mem arg.view _ inb' w' [] y rfl 0 (hout _ (off2_zero i))]
      exact congrFun (harg.read_unread C) y

section
variable (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S3x512 .f32) (harg7 : arg7.IsWhole) (arg8 : Memref sig .tc .vmem S1x512 .f32) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S11x8x512 .f32) (harg11 : arg11.IsWhole) (x0 : Vec F S1024x2048 .bf16) (x1 : Vec F S1024x2048 .f32) (x2 : Vec F S2048x512 .bf16) (x3 : Vec F S2048x512 .bf16) (x4 : Vec F S512x2048 .bf16) (x5 : Vec F S3x512 .f32) (x6 : Vec F S1x512 .f32) (x7 : Vec F S1x2048 .f32) (O : Vec F S1024x2048 .f32) (C : Vec F S11x8x512 .f32)

/-- A body run that leaves the two lists of pieces leaves the closed forms they read as. -/
theorem close_run (O' : Vec F S1024x2048 .f32) (w : Vec F S1x8x512 .f32) (L10 : List (View.Piece (Elt F) S1024x2048 .f32)) (L11 : List (View.Piece (Elt F) S11x8x512 .f32))
    (e10 : ∀ f, arg10.view.read (Elt F) (arg10.view.writes (Elt F) f L10) = O')
    (e11 : Upd i w C (arg11.view.read (Elt F) (arg11.view.writes (Elt F) (harg11.unread C) L11)))
    (E : Set ℕ) (K : PUnit → sProp 𝕄) (Q : sProp 𝕄)
    (hrun : iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L10) ∗ arg11.view.loc (c : Thread nD τ) ↦[arg11.view.set]{fullShare} arg11.view.writes (Elt F) (harg11.unread C) L11) -∗ K ⟨⟩)) ⊢ Q) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O' ∗ (∃ C', ⌜Upd i w C C'⌝ ∗ owns (c : Thread nD τ) arg11 fullShare C')) -∗ K ⟨⟩)) ⊢ Q := by
  refine .trans ?_ hrun
  iintro ⟨H0, H1, H2, H3, H4, H5, H6, H7, H8, H9, HK⟩
  iframe H0; iframe H1; iframe H2; iframe H3; iframe H4; iframe H5; iframe H6; iframe H7; iframe H8; iframe H9
  iintro ⟨H0, H1, H2, H3, H4, H5, H6, H7, ⟨%f, H8⟩, H9⟩
  iapply HK
  iframe H0; iframe H1; iframe H2; iframe H3; iframe H4; iframe H5; iframe H6; iframe H7
  isplitl [H8]
  · unfold owns
    iexists _
    isplitr
    · ipureintro
      exact e10 f
    · iexact H8
  · iexists _
    isplitr
    · ipureintro
      exact e11
    · unfold owns
      iexists _
      isplitr
      · ipureintro
        rfl
      · iexact H9

theorem e11_FreshHead (h1 : isFresh i) (h2 : isHead i) (h3 : ¬ isLast i) :
    Upd i (k0_pay6 x0 x2) C (arg11.view.read (Elt F) (arg11.view.writes (Elt F) (harg11.unread C) (runFreshHead c i arg2 harg2 arg3 harg3 arg4 harg4 arg5 harg5 arg6 harg6 arg7 harg7 arg8 harg8 arg9 harg9 arg10 harg10 arg11 harg11 h1 h2 h3 x0 x1 x2 x3 x4 x5 x6 x7 O C).2.1)) := by
  have key := upd_of (F := F) harg11 i (k0_pay6 (View.readAt (Elt F) arg2.view (Rect.unit (s := S1024x2048) ![0, 0] S1024x2048.size (by decide)).toLoadRect (harg2.unread x0)) (View.readAt (Elt F) arg4.view (Rect.unit (s := S2048x512) ![0, 0] S2048x512.size (by decide)).toLoadRect (harg4.unread x2))) C (k0_off2_inb i) _ (Or.inr ⟨k0_pay4, k0_off1_inb i h1, rfl⟩)
  refine Eq.mp (congrArg (fun w => Upd i w C _) ?_) key
  exact congrArg₂ k0_pay6 (rd_full harg2 x0 _) (rd_full harg4 x2 _)

theorem e10_FreshHead (h1 : isFresh i) (h2 : isHead i) (h3 : ¬ isLast i) (f) :
    arg10.view.read (Elt F) (arg10.view.writes (Elt F) f (runFreshHead c i arg2 harg2 arg3 harg3 arg4 harg4 arg5 harg5 arg6 harg6 arg7 harg7 arg8 harg8 arg9 harg9 arg10 harg10 arg11 harg11 h1 h2 h3 x0 x1 x2 x3 x4 x5 x6 x7 O C).1) = outOf i x0 x1 x2 x3 x4 x5 x6 x7 O (prevOf i C) := by
  refine (View.read_writes_full arg10.view f _ _ _).trans ?_
  unfold outOf prevOf zOf
  simp only [if_pos h1, if_pos h2, if_neg h3]
  unfold runFreshHead.sl.v83 runFreshHead.sl.H10_1 runFreshHead.sl.r_5 runFreshHead.sl.r_4 runFreshHead.sl.r_3 runFreshHead.sl.r_2 runFreshHead.sl.r_1 runFreshHead.sl.r runFreshHead.sl.v4 runFreshHead.sl.v19 runFreshHead.sl.H11_1
  have r2 : View.readAt (Elt F) arg2.view (Rect.unit (s := S1024x2048) ![0, 0] ![1024, 2048] inb_S1024x2048_S1024x2048_0_0).toLoadRect (harg2.unread x0) = x0 := rd_full harg2 x0 _
  have r3 : View.readAt (Elt F) arg3.view (Rect.unit (s := S1024x2048) ![0, 0] ![1024, 2048] inb_S1024x2048_S1024x2048_0_0).toLoadRect (harg3.unread x1) = x1 := rd_full harg3 x1 _
  have r4 : View.readAt (Elt F) arg4.view (Rect.unit (s := S2048x512) ![0, 0] ![2048, 512] inb_S2048x512_S2048x512_0_0).toLoadRect (harg4.unread x2) = x2 := rd_full harg4 x2 _
  have r5 : View.readAt (Elt F) arg5.view (Rect.unit (s := S2048x512) ![0, 0] ![2048, 512] inb_S2048x512_S2048x512_0_0).toLoadRect (harg5.unread x3) = x3 := rd_full harg5 x3 _
  have r6 : View.readAt (Elt F) arg6.view (Rect.unit (s := S512x2048) ![0, 0] ![512, 2048] inb_S512x2048_S512x2048_0_0).toLoadRect (harg6.unread x4) = x4 := rd_full harg6 x4 _
  have r7 : View.readAt (Elt F) arg7.view (Rect.unit (s := S3x512) ![0, 0] ![3, 512] inb_S3x512_S3x512_0_0).toLoadRect (harg7.unread x5) = x5 := rd_full harg7 x5 _
  have r8 : View.readAt (Elt F) arg8.view (Rect.unit (s := S1x512) ![0, 0] ![1, 512] inb_S1x512_S1x512_0_0).toLoadRect (harg8.unread x6) = x6 := rd_full harg8 x6 _
  have r9 : View.readAt (Elt F) arg9.view (Rect.unit (s := S1x2048) ![0, 0] ![1, 2048] inb_S1x2048_S1x2048_0_0).toLoadRect (harg9.unread x7) = x7 := rd_full harg9 x7 _
  have r10 : View.readAt (Elt F) arg10.view (Rect.unit (s := S1024x2048) ![0, 0] ![1024, 2048] inb_S1024x2048_S1024x2048_0_0).toLoadRect (harg10.unread O) = O := rd_full harg10 O _
  have s11 : ∀ inb, View.readAt (Elt F) arg11.view (Rect.unit (s := S11x8x512) (k0_off2 i) ![1, 8, 512] inb).toLoadRect (harg11.unread C) = slotOf i C := fun inb => rd_slot harg11 i C inb
  have f11 : ∀ (w : Vec F S1x8x512 .f32) inb inb', arg11.view.readCov [⟨Rect.unit (s := S11x8x512) (k0_off1 i) ![1, 8, 512] inb', w⟩] (Rect.unit (s := S11x8x512) (k0_off2 i) ![1, 8, 512] inb).toLoadRect = w := fun w inb inb' => rd_fresh i w inb inb'
  have c10 : ∀ (w : Vec F S1024x2048 .f32) L, arg10.view.readCov (⟨Rect.unit (s := S1024x2048) ![0, 0] ![1024, 2048] inb_S1024x2048_S1024x2048_0_0, w⟩ :: L) (Rect.unit (s := S1024x2048) ![0, 0] ![1024, 2048] inb_S1024x2048_S1024x2048_0_0).toLoadRect = w := fun w L => View.readCov_full arg10.view _ _ w L
  simp only [r2, r3, r4, r5, r6, r7, r8, r9, r10, s11, f11, c10]

theorem e11_FreshMid (h1 : isFresh i) (h2 : ¬ isHead i) (h3 : ¬ isLast i) :
    Upd i (k0_pay6 x0 x2) C (arg11.view.read (Elt F) (arg11.view.writes (Elt F) (harg11.unread C) (runFreshMid c i arg2 harg2 arg3 harg3 arg4 harg4 arg5 harg5 arg6 harg6 arg7 harg7 arg8 harg8 arg9 harg9 arg10 harg10 arg11 harg11 h1 h2 h3 x0 x1 x2 x3 x4 x5 x6 x7 O C).2.1)) := by
  have key := upd_of (F := F) harg11 i (k0_pay6 (View.readAt (Elt F) arg2.view (Rect.unit (s := S1024x2048) ![0, 0] S1024x2048.size (by decide)).toLoadRect (harg2.unread x0)) (View.readAt (Elt F) arg4.view (Rect.unit (s := S2048x512) ![0, 0] S2048x512.size (by decide)).toLoadRect (harg4.unread x2))) C (k0_off2_inb i) _ (Or.inr ⟨k0_pay4, k0_off1_inb i h1, rfl⟩)
  refine Eq.mp (congrArg (fun w => Upd i w C _) ?_) key
  exact congrArg₂ k0_pay6 (rd_full harg2 x0 _) (rd_full harg4 x2 _)

theorem e10_FreshMid (h1 : isFresh i) (h2 : ¬ isHead i) (h3 : ¬ isLast i) (f) :
    arg10.view.read (Elt F) (arg10.view.writes (Elt F) f (runFreshMid c i arg2 harg2 arg3 harg3 arg4 harg4 arg5 harg5 arg6 harg6 arg7 harg7 arg8 harg8 arg9 harg9 arg10 harg10 arg11 harg11 h1 h2 h3 x0 x1 x2 x3 x4 x5 x6 x7 O C).1) = outOf i x0 x1 x2 x3 x4 x5 x6 x7 O (prevOf i C) := by
  refine (View.read_writes_full arg10.view f _ _ _).trans ?_
  unfold outOf prevOf zOf
  simp only [if_pos h1, if_neg h2, if_neg h3]
  unfold runFreshMid.sl.r_5 runFreshMid.sl.r_4 runFreshMid.sl.r_3 runFreshMid.sl.r_2 runFreshMid.sl.r_1 runFreshMid.sl.r runFreshMid.sl.v4 runFreshMid.sl.v19 runFreshMid.sl.H11_1
  have r2 : View.readAt (Elt F) arg2.view (Rect.unit (s := S1024x2048) ![0, 0] ![1024, 2048] inb_S1024x2048_S1024x2048_0_0).toLoadRect (harg2.unread x0) = x0 := rd_full harg2 x0 _
  have r3 : View.readAt (Elt F) arg3.view (Rect.unit (s := S1024x2048) ![0, 0] ![1024, 2048] inb_S1024x2048_S1024x2048_0_0).toLoadRect (harg3.unread x1) = x1 := rd_full harg3 x1 _
  have r4 : View.readAt (Elt F) arg4.view (Rect.unit (s := S2048x512) ![0, 0] ![2048, 512] inb_S2048x512_S2048x512_0_0).toLoadRect (harg4.unread x2) = x2 := rd_full harg4 x2 _
  have r5 : View.readAt (Elt F) arg5.view (Rect.unit (s := S2048x512) ![0, 0] ![2048, 512] inb_S2048x512_S2048x512_0_0).toLoadRect (harg5.unread x3) = x3 := rd_full harg5 x3 _
  have r6 : View.readAt (Elt F) arg6.view (Rect.unit (s := S512x2048) ![0, 0] ![512, 2048] inb_S512x2048_S512x2048_0_0).toLoadRect (harg6.unread x4) = x4 := rd_full harg6 x4 _
  have r7 : View.readAt (Elt F) arg7.view (Rect.unit (s := S3x512) ![0, 0] ![3, 512] inb_S3x512_S3x512_0_0).toLoadRect (harg7.unread x5) = x5 := rd_full harg7 x5 _
  have r8 : View.readAt (Elt F) arg8.view (Rect.unit (s := S1x512) ![0, 0] ![1, 512] inb_S1x512_S1x512_0_0).toLoadRect (harg8.unread x6) = x6 := rd_full harg8 x6 _
  have r9 : View.readAt (Elt F) arg9.view (Rect.unit (s := S1x2048) ![0, 0] ![1, 2048] inb_S1x2048_S1x2048_0_0).toLoadRect (harg9.unread x7) = x7 := rd_full harg9 x7 _
  have r10 : View.readAt (Elt F) arg10.view (Rect.unit (s := S1024x2048) ![0, 0] ![1024, 2048] inb_S1024x2048_S1024x2048_0_0).toLoadRect (harg10.unread O) = O := rd_full harg10 O _
  have s11 : ∀ inb, View.readAt (Elt F) arg11.view (Rect.unit (s := S11x8x512) (k0_off2 i) ![1, 8, 512] inb).toLoadRect (harg11.unread C) = slotOf i C := fun inb => rd_slot harg11 i C inb
  have f11 : ∀ (w : Vec F S1x8x512 .f32) inb inb', arg11.view.readCov [⟨Rect.unit (s := S11x8x512) (k0_off1 i) ![1, 8, 512] inb', w⟩] (Rect.unit (s := S11x8x512) (k0_off2 i) ![1, 8, 512] inb).toLoadRect = w := fun w inb inb' => rd_fresh i w inb inb'
  have c10 : ∀ (w : Vec F S1024x2048 .f32) L, arg10.view.readCov (⟨Rect.unit (s := S1024x2048) ![0, 0] ![1024, 2048] inb_S1024x2048_S1024x2048_0_0, w⟩ :: L) (Rect.unit (s := S1024x2048) ![0, 0] ![1024, 2048] inb_S1024x2048_S1024x2048_0_0).toLoadRect = w := fun w L => View.readCov_full arg10.view _ _ w L
  simp only [r2, r3, r4, r5, r6, r7, r8, r9, r10, s11, f11, c10]

theorem e11_FreshLast (h1 : isFresh i) (h2 : ¬ isHead i) (h3 : isLast i) :
    Upd i (k0_pay6 x0 x2) C (arg11.view.read (Elt F) (arg11.view.writes (Elt F) (harg11.unread C) (runFreshLast c i arg2 harg2 arg3 harg3 arg4 harg4 arg5 harg5 arg6 harg6 arg7 harg7 arg8 harg8 arg9 harg9 arg10 harg10 arg11 harg11 h1 h2 h3 x0 x1 x2 x3 x4 x5 x6 x7 O C).2.1)) := by
  have key := upd_of (F := F) harg11 i (k0_pay6 (View.readAt (Elt F) arg2.view (Rect.unit (s := S1024x2048) ![0, 0] S1024x2048.size (by decide)).toLoadRect (harg2.unread x0)) (View.readAt (Elt F) arg4.view (Rect.unit (s := S2048x512) ![0, 0] S2048x512.size (by decide)).toLoadRect (harg4.unread x2))) C (k0_off2_inb i) _ (Or.inr ⟨k0_pay4, k0_off1_inb i h1, rfl⟩)
  refine Eq.mp (congrArg (fun w => Upd i w C _) ?_) key
  exact congrArg₂ k0_pay6 (rd_full harg2 x0 _) (rd_full harg4 x2 _)

theorem e10_FreshLast (h1 : isFresh i) (h2 : ¬ isHead i) (h3 : isLast i) (f) :
    arg10.view.read (Elt F) (arg10.view.writes (Elt F) f (runFreshLast c i arg2 harg2 arg3 harg3 arg4 harg4 arg5 harg5 arg6 harg6 arg7 harg7 arg8 harg8 arg9 harg9 arg10 harg10 arg11 harg11 h1 h2 h3 x0 x1 x2 x3 x4 x5 x6 x7 O C).1) = outOf i x0 x1 x2 x3 x4 x5 x6 x7 O (prevOf i C) := by
  refine (View.read_writes_full arg10.view f _ _ _).trans ?_
  unfold outOf prevOf zOf
  simp only [if_pos h1, if_neg h2, if_pos h3]
  unfold runFreshLast.sl.v93 runFreshLast.sl.H10_1 runFreshLast.sl.r_5 runFreshLast.sl.r_4 runFreshLast.sl.r_3 runFreshLast.sl.r_2 runFreshLast.sl.r_1 runFreshLast.sl.r runFreshLast.sl.v4 runFreshLast.sl.v19 runFreshLast.sl.H11_1
  have r2 : View.readAt (Elt F) arg2.view (Rect.unit (s := S1024x2048) ![0, 0] ![1024, 2048] inb_S1024x2048_S1024x2048_0_0).toLoadRect (harg2.unread x0) = x0 := rd_full harg2 x0 _
  have r3 : View.readAt (Elt F) arg3.view (Rect.unit (s := S1024x2048) ![0, 0] ![1024, 2048] inb_S1024x2048_S1024x2048_0_0).toLoadRect (harg3.unread x1) = x1 := rd_full harg3 x1 _
  have r4 : View.readAt (Elt F) arg4.view (Rect.unit (s := S2048x512) ![0, 0] ![2048, 512] inb_S2048x512_S2048x512_0_0).toLoadRect (harg4.unread x2) = x2 := rd_full harg4 x2 _
  have r5 : View.readAt (Elt F) arg5.view (Rect.unit (s := S2048x512) ![0, 0] ![2048, 512] inb_S2048x512_S2048x512_0_0).toLoadRect (harg5.unread x3) = x3 := rd_full harg5 x3 _
  have r6 : View.readAt (Elt F) arg6.view (Rect.unit (s := S512x2048) ![0, 0] ![512, 2048] inb_S512x2048_S512x2048_0_0).toLoadRect (harg6.unread x4) = x4 := rd_full harg6 x4 _
  have r7 : View.readAt (Elt F) arg7.view (Rect.unit (s := S3x512) ![0, 0] ![3, 512] inb_S3x512_S3x512_0_0).toLoadRect (harg7.unread x5) = x5 := rd_full harg7 x5 _
  have r8 : View.readAt (Elt F) arg8.view (Rect.unit (s := S1x512) ![0, 0] ![1, 512] inb_S1x512_S1x512_0_0).toLoadRect (harg8.unread x6) = x6 := rd_full harg8 x6 _
  have r9 : View.readAt (Elt F) arg9.view (Rect.unit (s := S1x2048) ![0, 0] ![1, 2048] inb_S1x2048_S1x2048_0_0).toLoadRect (harg9.unread x7) = x7 := rd_full harg9 x7 _
  have r10 : View.readAt (Elt F) arg10.view (Rect.unit (s := S1024x2048) ![0, 0] ![1024, 2048] inb_S1024x2048_S1024x2048_0_0).toLoadRect (harg10.unread O) = O := rd_full harg10 O _
  have s11 : ∀ inb, View.readAt (Elt F) arg11.view (Rect.unit (s := S11x8x512) (k0_off2 i) ![1, 8, 512] inb).toLoadRect (harg11.unread C) = slotOf i C := fun inb => rd_slot harg11 i C inb
  have f11 : ∀ (w : Vec F S1x8x512 .f32) inb inb', arg11.view.readCov [⟨Rect.unit (s := S11x8x512) (k0_off1 i) ![1, 8, 512] inb', w⟩] (Rect.unit (s := S11x8x512) (k0_off2 i) ![1, 8, 512] inb).toLoadRect = w := fun w inb inb' => rd_fresh i w inb inb'
  have c10 : ∀ (w : Vec F S1024x2048 .f32) L, arg10.view.readCov (⟨Rect.unit (s := S1024x2048) ![0, 0] ![1024, 2048] inb_S1024x2048_S1024x2048_0_0, w⟩ :: L) (Rect.unit (s := S1024x2048) ![0, 0] ![1024, 2048] inb_S1024x2048_S1024x2048_0_0).toLoadRect = w := fun w L => View.readCov_full arg10.view _ _ w L
  simp only [r2, r3, r4, r5, r6, r7, r8, r9, r10, s11, f11, c10]

theorem e11_ContHead (h1 : ¬ isFresh i) (h2 : isHead i) (h3 : ¬ isLast i) :
    Upd i (k0_pay6 x0 x2) C (arg11.view.read (Elt F) (arg11.view.writes (Elt F) (harg11.unread C) (runContHead c i arg2 harg2 arg3 harg3 arg4 harg4 arg5 harg5 arg6 harg6 arg7 harg7 arg8 harg8 arg9 harg9 arg10 harg10 arg11 harg11 h1 h2 h3 x0 x1 x2 x3 x4 x5 x6 x7 O C).2.1)) := by
  have key := upd_of (F := F) harg11 i (k0_pay6 (View.readAt (Elt F) arg2.view (Rect.unit (s := S1024x2048) ![0, 0] S1024x2048.size (by decide)).toLoadRect (harg2.unread x0)) (View.readAt (Elt F) arg4.view (Rect.unit (s := S2048x512) ![0, 0] S2048x512.size (by decide)).toLoadRect (harg4.unread x2))) C (k0_off2_inb i) [] (Or.inl rfl)
  refine Eq.mp (congrArg (fun w => Upd i w C _) ?_) key
  exact congrArg₂ k0_pay6 (rd_full harg2 x0 _) (rd_full harg4 x2 _)

theorem e10_ContHead (h1 : ¬ isFresh i) (h2 : isHead i) (h3 : ¬ isLast i) (f) :
    arg10.view.read (Elt F) (arg10.view.writes (Elt F) f (runContHead c i arg2 harg2 arg3 harg3 arg4 harg4 arg5 harg5 arg6 harg6 arg7 harg7 arg8 harg8 arg9 harg9 arg10 harg10 arg11 harg11 h1 h2 h3 x0 x1 x2 x3 x4 x5 x6 x7 O C).1) = outOf i x0 x1 x2 x3 x4 x5 x6 x7 O (prevOf i C) := by
  refine (View.read_writes_full arg10.view f _ _ _).trans ?_
  unfold outOf prevOf zOf
  simp only [if_neg h1, if_pos h2, if_neg h3]
  unfold runContHead.sl.v83 runContHead.sl.H10_1 runContHead.sl.r_5 runContHead.sl.r_4 runContHead.sl.r_3 runContHead.sl.r_2 runContHead.sl.r_1 runContHead.sl.r runContHead.sl.v4
  have r2 : View.readAt (Elt F) arg2.view (Rect.unit (s := S1024x2048) ![0, 0] ![1024, 2048] inb_S1024x2048_S1024x2048_0_0).toLoadRect (harg2.unread x0) = x0 := rd_full harg2 x0 _
  have r3 : View.readAt (Elt F) arg3.view (Rect.unit (s := S1024x2048) ![0, 0] ![1024, 2048] inb_S1024x2048_S1024x2048_0_0).toLoadRect (harg3.unread x1) = x1 := rd_full harg3 x1 _
  have r4 : View.readAt (Elt F) arg4.view (Rect.unit (s := S2048x512) ![0, 0] ![2048, 512] inb_S2048x512_S2048x512_0_0).toLoadRect (harg4.unread x2) = x2 := rd_full harg4 x2 _
  have r5 : View.readAt (Elt F) arg5.view (Rect.unit (s := S2048x512) ![0, 0] ![2048, 512] inb_S2048x512_S2048x512_0_0).toLoadRect (harg5.unread x3) = x3 := rd_full harg5 x3 _
  have r6 : View.readAt (Elt F) arg6.view (Rect.unit (s := S512x2048) ![0, 0] ![512, 2048] inb_S512x2048_S512x2048_0_0).toLoadRect (harg6.unread x4) = x4 := rd_full harg6 x4 _
  have r7 : View.readAt (Elt F) arg7.view (Rect.unit (s := S3x512) ![0, 0] ![3, 512] inb_S3x512_S3x512_0_0).toLoadRect (harg7.unread x5) = x5 := rd_full harg7 x5 _
  have r8 : View.readAt (Elt F) arg8.view (Rect.unit (s := S1x512) ![0, 0] ![1, 512] inb_S1x512_S1x512_0_0).toLoadRect (harg8.unread x6) = x6 := rd_full harg8 x6 _
  have r9 : View.readAt (Elt F) arg9.view (Rect.unit (s := S1x2048) ![0, 0] ![1, 2048] inb_S1x2048_S1x2048_0_0).toLoadRect (harg9.unread x7) = x7 := rd_full harg9 x7 _
  have r10 : View.readAt (Elt F) arg10.view (Rect.unit (s := S1024x2048) ![0, 0] ![1024, 2048] inb_S1024x2048_S1024x2048_0_0).toLoadRect (harg10.unread O) = O := rd_full harg10 O _
  have s11 : ∀ inb, View.readAt (Elt F) arg11.view (Rect.unit (s := S11x8x512) (k0_off2 i) ![1, 8, 512] inb).toLoadRect (harg11.unread C) = slotOf i C := fun inb => rd_slot harg11 i C inb
  have f11 : ∀ (w : Vec F S1x8x512 .f32) inb inb', arg11.view.readCov [⟨Rect.unit (s := S11x8x512) (k0_off1 i) ![1, 8, 512] inb', w⟩] (Rect.unit (s := S11x8x512) (k0_off2 i) ![1, 8, 512] inb).toLoadRect = w := fun w inb inb' => rd_fresh i w inb inb'
  have c10 : ∀ (w : Vec F S1024x2048 .f32) L, arg10.view.readCov (⟨Rect.unit (s := S1024x2048) ![0, 0] ![1024, 2048] inb_S1024x2048_S1024x2048_0_0, w⟩ :: L) (Rect.unit (s := S1024x2048) ![0, 0] ![1024, 2048] inb_S1024x2048_S1024x2048_0_0).toLoadRect = w := fun w L => View.readCov_full arg10.view _ _ w L
  simp only [r2, r3, r4, r5, r6, r7, r8, r9, r10, s11, f11, c10]

theorem e11_ContMid (h1 : ¬ isFresh i) (h2 : ¬ isHead i) (h3 : ¬ isLast i) :
    Upd i (k0_pay6 x0 x2) C (arg11.view.read (Elt F) (arg11.view.writes (Elt F) (harg11.unread C) (runContMid c i arg2 harg2 arg3 harg3 arg4 harg4 arg5 harg5 arg6 harg6 arg7 harg7 arg8 harg8 arg9 harg9 arg10 harg10 arg11 harg11 h1 h2 h3 x0 x1 x2 x3 x4 x5 x6 x7 O C).2.1)) := by
  have key := upd_of (F := F) harg11 i (k0_pay6 (View.readAt (Elt F) arg2.view (Rect.unit (s := S1024x2048) ![0, 0] S1024x2048.size (by decide)).toLoadRect (harg2.unread x0)) (View.readAt (Elt F) arg4.view (Rect.unit (s := S2048x512) ![0, 0] S2048x512.size (by decide)).toLoadRect (harg4.unread x2))) C (k0_off2_inb i) [] (Or.inl rfl)
  refine Eq.mp (congrArg (fun w => Upd i w C _) ?_) key
  exact congrArg₂ k0_pay6 (rd_full harg2 x0 _) (rd_full harg4 x2 _)

theorem e10_ContMid (h1 : ¬ isFresh i) (h2 : ¬ isHead i) (h3 : ¬ isLast i) (f) :
    arg10.view.read (Elt F) (arg10.view.writes (Elt F) f (runContMid c i arg2 harg2 arg3 harg3 arg4 harg4 arg5 harg5 arg6 harg6 arg7 harg7 arg8 harg8 arg9 harg9 arg10 harg10 arg11 harg11 h1 h2 h3 x0 x1 x2 x3 x4 x5 x6 x7 O C).1) = outOf i x0 x1 x2 x3 x4 x5 x6 x7 O (prevOf i C) := by
  refine (View.read_writes_full arg10.view f _ _ _).trans ?_
  unfold outOf prevOf zOf
  simp only [if_neg h1, if_neg h2, if_neg h3]
  unfold runContMid.sl.r_5 runContMid.sl.r_4 runContMid.sl.r_3 runContMid.sl.r_2 runContMid.sl.r_1 runContMid.sl.r runContMid.sl.v4
  have r2 : View.readAt (Elt F) arg2.view (Rect.unit (s := S1024x2048) ![0, 0] ![1024, 2048] inb_S1024x2048_S1024x2048_0_0).toLoadRect (harg2.unread x0) = x0 := rd_full harg2 x0 _
  have r3 : View.readAt (Elt F) arg3.view (Rect.unit (s := S1024x2048) ![0, 0] ![1024, 2048] inb_S1024x2048_S1024x2048_0_0).toLoadRect (harg3.unread x1) = x1 := rd_full harg3 x1 _
  have r4 : View.readAt (Elt F) arg4.view (Rect.unit (s := S2048x512) ![0, 0] ![2048, 512] inb_S2048x512_S2048x512_0_0).toLoadRect (harg4.unread x2) = x2 := rd_full harg4 x2 _
  have r5 : View.readAt (Elt F) arg5.view (Rect.unit (s := S2048x512) ![0, 0] ![2048, 512] inb_S2048x512_S2048x512_0_0).toLoadRect (harg5.unread x3) = x3 := rd_full harg5 x3 _
  have r6 : View.readAt (Elt F) arg6.view (Rect.unit (s := S512x2048) ![0, 0] ![512, 2048] inb_S512x2048_S512x2048_0_0).toLoadRect (harg6.unread x4) = x4 := rd_full harg6 x4 _
  have r7 : View.readAt (Elt F) arg7.view (Rect.unit (s := S3x512) ![0, 0] ![3, 512] inb_S3x512_S3x512_0_0).toLoadRect (harg7.unread x5) = x5 := rd_full harg7 x5 _
  have r8 : View.readAt (Elt F) arg8.view (Rect.unit (s := S1x512) ![0, 0] ![1, 512] inb_S1x512_S1x512_0_0).toLoadRect (harg8.unread x6) = x6 := rd_full harg8 x6 _
  have r9 : View.readAt (Elt F) arg9.view (Rect.unit (s := S1x2048) ![0, 0] ![1, 2048] inb_S1x2048_S1x2048_0_0).toLoadRect (harg9.unread x7) = x7 := rd_full harg9 x7 _
  have r10 : View.readAt (Elt F) arg10.view (Rect.unit (s := S1024x2048) ![0, 0] ![1024, 2048] inb_S1024x2048_S1024x2048_0_0).toLoadRect (harg10.unread O) = O := rd_full harg10 O _
  have s11 : ∀ inb, View.readAt (Elt F) arg11.view (Rect.unit (s := S11x8x512) (k0_off2 i) ![1, 8, 512] inb).toLoadRect (harg11.unread C) = slotOf i C := fun inb => rd_slot harg11 i C inb
  have f11 : ∀ (w : Vec F S1x8x512 .f32) inb inb', arg11.view.readCov [⟨Rect.unit (s := S11x8x512) (k0_off1 i) ![1, 8, 512] inb', w⟩] (Rect.unit (s := S11x8x512) (k0_off2 i) ![1, 8, 512] inb).toLoadRect = w := fun w inb inb' => rd_fresh i w inb inb'
  have c10 : ∀ (w : Vec F S1024x2048 .f32) L, arg10.view.readCov (⟨Rect.unit (s := S1024x2048) ![0, 0] ![1024, 2048] inb_S1024x2048_S1024x2048_0_0, w⟩ :: L) (Rect.unit (s := S1024x2048) ![0, 0] ![1024, 2048] inb_S1024x2048_S1024x2048_0_0).toLoadRect = w := fun w L => View.readCov_full arg10.view _ _ w L
  simp only [r2, r3, r4, r5, r6, r7, r8, r9, r10, s11, f11, c10]

theorem e11_ContLast (h1 : ¬ isFresh i) (h2 : ¬ isHead i) (h3 : isLast i) :
    Upd i (k0_pay6 x0 x2) C (arg11.view.read (Elt F) (arg11.view.writes (Elt F) (harg11.unread C) (runContLast c i arg2 harg2 arg3 harg3 arg4 harg4 arg5 harg5 arg6 harg6 arg7 harg7 arg8 harg8 arg9 harg9 arg10 harg10 arg11 harg11 h1 h2 h3 x0 x1 x2 x3 x4 x5 x6 x7 O C).2.1)) := by
  have key := upd_of (F := F) harg11 i (k0_pay6 (View.readAt (Elt F) arg2.view (Rect.unit (s := S1024x2048) ![0, 0] S1024x2048.size (by decide)).toLoadRect (harg2.unread x0)) (View.readAt (Elt F) arg4.view (Rect.unit (s := S2048x512) ![0, 0] S2048x512.size (by decide)).toLoadRect (harg4.unread x2))) C (k0_off2_inb i) [] (Or.inl rfl)
  refine Eq.mp (congrArg (fun w => Upd i w C _) ?_) key
  exact congrArg₂ k0_pay6 (rd_full harg2 x0 _) (rd_full harg4 x2 _)

theorem e10_ContLast (h1 : ¬ isFresh i) (h2 : ¬ isHead i) (h3 : isLast i) (f) :
    arg10.view.read (Elt F) (arg10.view.writes (Elt F) f (runContLast c i arg2 harg2 arg3 harg3 arg4 harg4 arg5 harg5 arg6 harg6 arg7 harg7 arg8 harg8 arg9 harg9 arg10 harg10 arg11 harg11 h1 h2 h3 x0 x1 x2 x3 x4 x5 x6 x7 O C).1) = outOf i x0 x1 x2 x3 x4 x5 x6 x7 O (prevOf i C) := by
  refine (View.read_writes_full arg10.view f _ _ _).trans ?_
  unfold outOf prevOf zOf
  simp only [if_neg h1, if_neg h2, if_pos h3]
  unfold runContLast.sl.v93 runContLast.sl.H10_1 runContLast.sl.r_5 runContLast.sl.r_4 runContLast.sl.r_3 runContLast.sl.r_2 runContLast.sl.r_1 runContLast.sl.r runContLast.sl.v4
  have r2 : View.readAt (Elt F) arg2.view (Rect.unit (s := S1024x2048) ![0, 0] ![1024, 2048] inb_S1024x2048_S1024x2048_0_0).toLoadRect (harg2.unread x0) = x0 := rd_full harg2 x0 _
  have r3 : View.readAt (Elt F) arg3.view (Rect.unit (s := S1024x2048) ![0, 0] ![1024, 2048] inb_S1024x2048_S1024x2048_0_0).toLoadRect (harg3.unread x1) = x1 := rd_full harg3 x1 _
  have r4 : View.readAt (Elt F) arg4.view (Rect.unit (s := S2048x512) ![0, 0] ![2048, 512] inb_S2048x512_S2048x512_0_0).toLoadRect (harg4.unread x2) = x2 := rd_full harg4 x2 _
  have r5 : View.readAt (Elt F) arg5.view (Rect.unit (s := S2048x512) ![0, 0] ![2048, 512] inb_S2048x512_S2048x512_0_0).toLoadRect (harg5.unread x3) = x3 := rd_full harg5 x3 _
  have r6 : View.readAt (Elt F) arg6.view (Rect.unit (s := S512x2048) ![0, 0] ![512, 2048] inb_S512x2048_S512x2048_0_0).toLoadRect (harg6.unread x4) = x4 := rd_full harg6 x4 _
  have r7 : View.readAt (Elt F) arg7.view (Rect.unit (s := S3x512) ![0, 0] ![3, 512] inb_S3x512_S3x512_0_0).toLoadRect (harg7.unread x5) = x5 := rd_full harg7 x5 _
  have r8 : View.readAt (Elt F) arg8.view (Rect.unit (s := S1x512) ![0, 0] ![1, 512] inb_S1x512_S1x512_0_0).toLoadRect (harg8.unread x6) = x6 := rd_full harg8 x6 _
  have r9 : View.readAt (Elt F) arg9.view (Rect.unit (s := S1x2048) ![0, 0] ![1, 2048] inb_S1x2048_S1x2048_0_0).toLoadRect (harg9.unread x7) = x7 := rd_full harg9 x7 _
  have r10 : View.readAt (Elt F) arg10.view (Rect.unit (s := S1024x2048) ![0, 0] ![1024, 2048] inb_S1024x2048_S1024x2048_0_0).toLoadRect (harg10.unread O) = O := rd_full harg10 O _
  have s11 : ∀ inb, View.readAt (Elt F) arg11.view (Rect.unit (s := S11x8x512) (k0_off2 i) ![1, 8, 512] inb).toLoadRect (harg11.unread C) = slotOf i C := fun inb => rd_slot harg11 i C inb
  have f11 : ∀ (w : Vec F S1x8x512 .f32) inb inb', arg11.view.readCov [⟨Rect.unit (s := S11x8x512) (k0_off1 i) ![1, 8, 512] inb', w⟩] (Rect.unit (s := S11x8x512) (k0_off2 i) ![1, 8, 512] inb).toLoadRect = w := fun w inb inb' => rd_fresh i w inb inb'
  have c10 : ∀ (w : Vec F S1024x2048 .f32) L, arg10.view.readCov (⟨Rect.unit (s := S1024x2048) ![0, 0] ![1024, 2048] inb_S1024x2048_S1024x2048_0_0, w⟩ :: L) (Rect.unit (s := S1024x2048) ![0, 0] ![1024, 2048] inb_S1024x2048_S1024x2048_0_0).toLoadRect = w := fun w L => View.readCov_full arg10.view _ _ w L
  simp only [r2, r3, r4, r5, r6, r7, r8, r9, r10, s11, f11, c10]

/-- The body at a grid point of any kind. -/
theorem run_body (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare C
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outOf i x0 x1 x2 x3 x4 x5 x6 x7 O (prevOf i C)) ∗ (∃ C', ⌜Upd i (k0_pay6 x0 x2) C C'⌝ ∗ owns (c : Thread nD τ) arg11 fullShare C')) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11) K := by
  by_cases h1 : isFresh i <;> by_cases h2 : isHead i <;> by_cases h3 : isLast i
  · exact (not_both i h2 h3).elim
  · exact close_run c i arg2 arg3 arg4 arg5 arg6 arg7 arg8 arg9 arg10 arg11 harg11 x0 x1 x2 x3 x4 x5 x6 x7 O C _ _ _ _ (e10_FreshHead c i arg2 harg2 arg3 harg3 arg4 harg4 arg5 harg5 arg6 harg6 arg7 harg7 arg8 harg8 arg9 harg9 arg10 harg10 arg11 harg11 x0 x1 x2 x3 x4 x5 x6 x7 O C h1 h2 h3) (e11_FreshHead c i arg2 harg2 arg3 harg3 arg4 harg4 arg5 harg5 arg6 harg6 arg7 harg7 arg8 harg8 arg9 harg9 arg10 harg10 arg11 harg11 x0 x1 x2 x3 x4 x5 x6 x7 O C h1 h2 h3) E K _ ((runFreshHead c i arg2 harg2 arg3 harg3 arg4 harg4 arg5 harg5 arg6 harg6 arg7 harg7 arg8 harg8 arg9 harg9 arg10 harg10 arg11 harg11 h1 h2 h3 x0 x1 x2 x3 x4 x5 x6 x7 O C).2.2 E K)
  · exact close_run c i arg2 arg3 arg4 arg5 arg6 arg7 arg8 arg9 arg10 arg11 harg11 x0 x1 x2 x3 x4 x5 x6 x7 O C _ _ _ _ (e10_FreshLast c i arg2 harg2 arg3 harg3 arg4 harg4 arg5 harg5 arg6 harg6 arg7 harg7 arg8 harg8 arg9 harg9 arg10 harg10 arg11 harg11 x0 x1 x2 x3 x4 x5 x6 x7 O C h1 h2 h3) (e11_FreshLast c i arg2 harg2 arg3 harg3 arg4 harg4 arg5 harg5 arg6 harg6 arg7 harg7 arg8 harg8 arg9 harg9 arg10 harg10 arg11 harg11 x0 x1 x2 x3 x4 x5 x6 x7 O C h1 h2 h3) E K _ ((runFreshLast c i arg2 harg2 arg3 harg3 arg4 harg4 arg5 harg5 arg6 harg6 arg7 harg7 arg8 harg8 arg9 harg9 arg10 harg10 arg11 harg11 h1 h2 h3 x0 x1 x2 x3 x4 x5 x6 x7 O C).2.2 E K)
  · exact close_run c i arg2 arg3 arg4 arg5 arg6 arg7 arg8 arg9 arg10 arg11 harg11 x0 x1 x2 x3 x4 x5 x6 x7 O C _ _ _ _ (e10_FreshMid c i arg2 harg2 arg3 harg3 arg4 harg4 arg5 harg5 arg6 harg6 arg7 harg7 arg8 harg8 arg9 harg9 arg10 harg10 arg11 harg11 x0 x1 x2 x3 x4 x5 x6 x7 O C h1 h2 h3) (e11_FreshMid c i arg2 harg2 arg3 harg3 arg4 harg4 arg5 harg5 arg6 harg6 arg7 harg7 arg8 harg8 arg9 harg9 arg10 harg10 arg11 harg11 x0 x1 x2 x3 x4 x5 x6 x7 O C h1 h2 h3) E K _ ((runFreshMid c i arg2 harg2 arg3 harg3 arg4 harg4 arg5 harg5 arg6 harg6 arg7 harg7 arg8 harg8 arg9 harg9 arg10 harg10 arg11 harg11 h1 h2 h3 x0 x1 x2 x3 x4 x5 x6 x7 O C).2.2 E K)
  · exact (not_both i h2 h3).elim
  · exact close_run c i arg2 arg3 arg4 arg5 arg6 arg7 arg8 arg9 arg10 arg11 harg11 x0 x1 x2 x3 x4 x5 x6 x7 O C _ _ _ _ (e10_ContHead c i arg2 harg2 arg3 harg3 arg4 harg4 arg5 harg5 arg6 harg6 arg7 harg7 arg8 harg8 arg9 harg9 arg10 harg10 arg11 harg11 x0 x1 x2 x3 x4 x5 x6 x7 O C h1 h2 h3) (e11_ContHead c i arg2 harg2 arg3 harg3 arg4 harg4 arg5 harg5 arg6 harg6 arg7 harg7 arg8 harg8 arg9 harg9 arg10 harg10 arg11 harg11 x0 x1 x2 x3 x4 x5 x6 x7 O C h1 h2 h3) E K _ ((runContHead c i arg2 harg2 arg3 harg3 arg4 harg4 arg5 harg5 arg6 harg6 arg7 harg7 arg8 harg8 arg9 harg9 arg10 harg10 arg11 harg11 h1 h2 h3 x0 x1 x2 x3 x4 x5 x6 x7 O C).2.2 E K)
  · exact close_run c i arg2 arg3 arg4 arg5 arg6 arg7 arg8 arg9 arg10 arg11 harg11 x0 x1 x2 x3 x4 x5 x6 x7 O C _ _ _ _ (e10_ContLast c i arg2 harg2 arg3 harg3 arg4 harg4 arg5 harg5 arg6 harg6 arg7 harg7 arg8 harg8 arg9 harg9 arg10 harg10 arg11 harg11 x0 x1 x2 x3 x4 x5 x6 x7 O C h1 h2 h3) (e11_ContLast c i arg2 harg2 arg3 harg3 arg4 harg4 arg5 harg5 arg6 harg6 arg7 harg7 arg8 harg8 arg9 harg9 arg10 harg10 arg11 harg11 x0 x1 x2 x3 x4 x5 x6 x7 O C h1 h2 h3) E K _ ((runContLast c i arg2 harg2 arg3 harg3 arg4 harg4 arg5 harg5 arg6 harg6 arg7 harg7 arg8 harg8 arg9 harg9 arg10 harg10 arg11 harg11 h1 h2 h3 x0 x1 x2 x3 x4 x5 x6 x7 O C).2.2 E K)
  · exact close_run c i arg2 arg3 arg4 arg5 arg6 arg7 arg8 arg9 arg10 arg11 harg11 x0 x1 x2 x3 x4 x5 x6 x7 O C _ _ _ _ (e10_ContMid c i arg2 harg2 arg3 harg3 arg4 harg4 arg5 harg5 arg6 harg6 arg7 harg7 arg8 harg8 arg9 harg9 arg10 harg10 arg11 harg11 x0 x1 x2 x3 x4 x5 x6 x7 O C h1 h2 h3) (e11_ContMid c i arg2 harg2 arg3 harg3 arg4 harg4 arg5 harg5 arg6 harg6 arg7 harg7 arg8 harg8 arg9 harg9 arg10 harg10 arg11 harg11 x0 x1 x2 x3 x4 x5 x6 x7 O C h1 h2 h3) E K _ ((runContMid c i arg2 harg2 arg3 harg3 arg4 harg4 arg5 harg5 arg6 harg6 arg7 harg7 arg8 harg8 arg9 harg9 arg10 harg10 arg11 harg11 h1 h2 h3 x0 x1 x2 x3 x4 x5 x6 x7 O C).2.2 E K)

end

end Cert.FfnIdeal.Hand
end
-- ==== Proof.FfnFrame.lean ====
/- The feed-forward call runs at every grid point; its output array and the scratch buffer it carries are described point
   by point, and its arguments are left as they were. -/
module

public import proofs.«01_k».proof.Proof.FfnOut
public import Idealize.ShloMosaic.Lib.Claim
public import Idealize.ShloMosaic.Lib.VecWindow
public import Idealize.ShloMosaic.Lib.WritesUnit
public import Idealize.ShloMosaic.Lib.WholeRead
public import proofs.«01_k».proof.Proof.Gen.FfnIdeal.Frame
public import proofs.«01_k».proof.Proof.Gen.FfnIdeal.Skeleton
public import proofs.«01_k».proof.Proof.Gen.FfnIdeal.Points
public import proofs.«01_k».proof.Proof.Gen.FfnIdeal.Launch
public import Idealize.ShloMosaic.Lib.Pipeline.FrameBody
public import Idealize.ShloMosaic.Lib.Ring
public import Idealize.ShloMosaic.Lib.Tactic

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_pos : 0 < cfg0.N := lt_of_lt_of_eq (by decide) N_0.symm

/-- The grid point numbered `n`. -/
def pnt (n : ℕ) : Fin cfg0.N := ⟨n % cfg0.N, Nat.mod_lt _ N_pos⟩

theorem pnt_val (t : Fin cfg0.N) : pnt t.val = t := Fin.ext (Nat.mod_eq_of_lt t.isLt)

theorem coord1 : ∀ t : Fin cfg0.N, (grid0.coords t 1).val = t.val % 11 :=
  (by decide +kernel : ∀ t : Fin grid0.N, (grid0.coords t 1).val = t.val % 11)

theorem head_iff : ∀ t : Fin cfg0.N, isHead (grid0.coords t) ↔ t.val % 11 = 0 :=
  (by decide +kernel : ∀ t : Fin grid0.N, isHead (grid0.coords t) ↔ t.val % 11 = 0)

theorem last_iff : ∀ t : Fin cfg0.N, isLast (grid0.coords t) ↔ t.val % 11 = 10 :=
  (by decide +kernel : ∀ t : Fin grid0.N, isLast (grid0.coords t) ↔ t.val % 11 = 10)

theorem fresh_iff : ∀ t : Fin cfg0.N, isFresh (grid0.coords t) ↔ t.val % 22 < 11 :=
  (by decide +kernel : ∀ t : Fin grid0.N, isFresh (grid0.coords t) ↔ t.val % 22 < 11)

theorem slotOf_congr {i i' : grid0.Coords} (h : (i 1).val = (i' 1).val) (C : Vec F S11x8x512 .f32) : slotOf i C = slotOf i' C := by
  funext x
  show C _ = C _
  refine congrArg C (funext fun a => Fin.ext ?_)
  show k0_off2 i a + 1 * (x a).val = k0_off2 i' a + 1 * (x a).val
  rw [off2_zero, off2_zero, h]

theorem slotOf_upd_ne {i i' : grid0.Coords} (h : (i 1).val ≠ (i' 1).val) {w : Vec F S1x8x512 .f32} {C C' : Vec F S11x8x512 .f32} (hU : Upd i' w C C') :
    slotOf i C' = slotOf i C := by
  funext x
  refine hU.2 _ ?_
  show k0_off2 i 0 + 1 * (x 0).val ≠ _
  rw [off2_zero]
  have hx : (x 0).val < 1 := (x 0).isLt
  show (i 1).val + 1 * (x 0).val ≠ _
  omega

/-- The rows a tile keeps for the tile after it in its sequence. -/
def rowsKept (c : Dev nD) (n : ℕ) : Vec F S1x8x512 .f32 := k0_pay6 (iblk m c 0 (pnt n)) (iblk m c 2 (pnt n))

/-- The rows before the tile of point `n`. -/
def prevAt (c : Dev nD) (n : ℕ) : Vec F S1x8x512 .f32 :=
  if isFresh (grid0.coords (pnt n)) then k0_pay4 else rowsKept m c (n - 11)

/-- The output block after point `n`. -/
def outAt (c : Dev nD) : ℕ → Vec F S1024x2048 .f32
  | 0 => outOf (grid0.coords (pnt 0)) (iblk m c 0 (pnt 0)) (iblk m c 1 (pnt 0)) (iblk m c 2 (pnt 0)) (iblk m c 3 (pnt 0)) (iblk m c 4 (pnt 0)) (iblk m c 5 (pnt 0)) (iblk m c 6 (pnt 0)) (iblk m c 7 (pnt 0)) (iblk m c 1 (pnt 0)) (prevAt m c 0)
  | n + 1 => outOf (grid0.coords (pnt (n + 1))) (iblk m c 0 (pnt (n + 1))) (iblk m c 1 (pnt (n + 1))) (iblk m c 2 (pnt (n + 1))) (iblk m c 3 (pnt (n + 1))) (iblk m c 4 (pnt (n + 1))) (iblk m c 5 (pnt (n + 1))) (iblk m c 6 (pnt (n + 1))) (iblk m c 7 (pnt (n + 1))) (outAt c n) (prevAt m c (n + 1))

/-- What the scratch buffer holds before point `n`: the rows kept by the last eleven points. -/
def Inv (c : Dev nD) (n : ℕ) (C : Vec F S11x8x512 .f32) : Prop :=
  ∀ k, k < n → n ≤ k + 11 → slotOf (grid0.coords (pnt k)) C = rowsKept m c k

theorem inv_step (c : Dev nD) (t : Fin cfg0.N) {C C' : Vec F S11x8x512 .f32} (hI : Inv m c t.val C)
    (hU : Upd (grid0.coords t) (k0_pay6 (iblk m c 0 t) (iblk m c 2 t)) C C') : Inv m c (t.val + 1) C' := by
  intro k hk hk'
  rcases Nat.lt_succ_iff_lt_or_eq.mp hk with h | rfl
  · refine (slotOf_upd_ne ?_ hU).trans (hI k h (by omega))
    have e : (pnt k).val = k := Nat.mod_eq_of_lt (h.trans t.isLt)
    rw [coord1, coord1, e]
    omega
  · unfold rowsKept
    rw [pnt_val]
    exact hU.1

theorem prev_eq (c : Dev nD) (t : Fin cfg0.N) {C : Vec F S11x8x512 .f32} (hI : Inv m c t.val C) :
    prevOf (grid0.coords t) C = prevAt m c t.val := by
  unfold prevOf prevAt
  rw [pnt_val]
  by_cases h : isFresh (grid0.coords t)
  · rw [if_pos h, if_pos h]
  · rw [if_neg h, if_neg h]
    have h11 : ¬ t.val % 22 < 11 := fun h' => h ((fresh_iff t).mpr h')
    have e : (pnt (t.val - 11)).val = t.val - 11 := Nat.mod_eq_of_lt ((Nat.sub_le _ _).trans_lt t.isLt)
    refine (slotOf_congr ?_ C).trans (hI (t.val - 11) (by omega) (by omega))
    rw [coord1, coord1, e]
    omega

/-- What each window's buffer holds after the body, and what the scratch buffer holds between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t.val
  Φ t := iprop(∃ C, ⌜Inv m c t.val C⌝ ∗ owns (c : Thread nD τ) (Memref.whole cc0_scratch0) fullShare C ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t.val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem out_congr (i : grid0.Coords) (x0 : Vec F S1024x2048 .bf16) (x1 : Vec F S1024x2048 .f32) (x2 x3 : Vec F S2048x512 .bf16) (x4 : Vec F S512x2048 .bf16) (x5 : Vec F S3x512 .f32) (x6 : Vec F S1x512 .f32) (x7 : Vec F S1x2048 .f32) (O O' : Vec F S1024x2048 .f32) (p : Vec F S1x8x512 .f32)
    (h : ¬ isHead i → O = O') : outOf i x0 x1 x2 x3 x4 x5 x6 x7 O p = outOf i x0 x1 x2 x3 x4 x5 x6 x7 O' p := by
  by_cases hi : isHead i
  · unfold outOf
    rw [if_pos hi, if_pos hi]
  · rw [h hi]

theorem fetch0_8 (t : Fin cfg0.N) : (cfg0.win 8).fetch t = false := rfl

/-- Past the first column tile the body finds in the output block what the point before left there. -/
theorem before0_8 (c : Dev nD) (t : Fin cfg0.N) (h : ¬ isHead (grid0.coords t)) (d) : (dats m 0 c).before 8 t d = outAt m c (t.val - 1) := by
  have h0 : t.val % 11 ≠ 0 := fun h' => h ((head_iff t).mpr h')
  rw [(dats m 0 c).before_of_pos 8 t (by omega) (fetch0_8 t) d, if_neg (fun hf => by
    have := (flush0_8 _).mp hf
    dsimp only at this
    omega)]
  rfl

theorem out_eq (c : Dev nD) (t : Fin cfg0.N) (d) {C : Vec F S11x8x512 .f32} (hI : Inv m c t.val C) :
    outOf (grid0.coords t) (iblk m c 0 t) (iblk m c 1 t) (iblk m c 2 t) (iblk m c 3 t) (iblk m c 4 t) (iblk m c 5 t) (iblk m c 6 t) (iblk m c 7 t) ((dats m 0 c).before 8 t d) (prevOf (grid0.coords t) C) = outAt m c t.val := by
  rw [prev_eq m c t hI]
  have hp := pnt_val t
  by_cases hz : t.val = 0
  · rw [hz] at hp
    have hh : isHead (grid0.coords t) := (head_iff t).mpr (by omega)
    rw [hz, outAt, hp]
    exact out_congr _ _ _ _ _ _ _ _ _ _ _ _ fun h => (h hh).elim
  · obtain ⟨n, hn⟩ := Nat.exists_eq_succ_of_ne_zero hz
    rw [hn] at hp
    rw [hn, Nat.succ_eq_add_one, outAt, hp]
    refine out_congr _ _ _ _ _ _ _ _ _ _ _ _ fun h => (before0_8 m c t h d).trans ?_
    rw [hn]
    rfl

abbrev ms0_0 (t : Fin cfg0.N) : Memref sig .tc .vmem S1024x2048 .bf16 := win0_0.stage (cfg0.slots t 0)
abbrev ms0_1 (t : Fin cfg0.N) : Memref sig .tc .vmem S1024x2048 .f32 := win0_1.stage (cfg0.slots t 1)
abbrev ms0_2 (t : Fin cfg0.N) : Memref sig .tc .vmem S2048x512 .bf16 := win0_2.stage (cfg0.slots t 2)
abbrev ms0_3 (t : Fin cfg0.N) : Memref sig .tc .vmem S2048x512 .bf16 := win0_3.stage (cfg0.slots t 3)
abbrev ms0_4 (t : Fin cfg0.N) : Memref sig .tc .vmem S512x2048 .bf16 := win0_4.stage (cfg0.slots t 4)
abbrev ms0_5 (t : Fin cfg0.N) : Memref sig .tc .vmem S3x512 .f32 := win0_5.stage (cfg0.slots t 5)
abbrev ms0_6 (t : Fin cfg0.N) : Memref sig .tc .vmem S1x512 .f32 := win0_6.stage (cfg0.slots t 6)
abbrev ms0_7 (t : Fin cfg0.N) : Memref sig .tc .vmem S1x2048 .f32 := win0_7.stage (cfg0.slots t 7)
abbrev ms0_8 (t : Fin cfg0.N) : Memref sig .tc .vmem S1024x2048 .f32 := win0_8.stage (cfg0.slots t 8)
abbrev scM0_0 : Memref sig .tc .vmem S11x8x512 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = iprop(∃ C, ⌜Inv m c (t.val + 1) C⌝ ∗ owns (c : Thread nD τ) scM0_0 fullShare C ∗ (∃ r, prngReg c r)) from rfl,
    show (dats m 0 c).Φ t.castSucc = iprop(∃ C, ⌜Inv m c t.val C⌝ ∗ owns (c : Thread nD τ) scM0_0 fullShare C ∗ (∃ r, prngReg c r)) from rfl,
    show (dats m 0 c).owesAt () t.succ = (dats m 0 c).owesAt () t.castSucc from rfl,
    after0_0, after0_1, after0_2, after0_3, after0_4, after0_5, after0_6, after0_7, after0_8]
  iintro ⟨⟨%C, %hI, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 8 t d8) C Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, ⟨%C', %hU, HS⟩⟩
  isplitl [HS Hr]
  · iexists C'
    isplitr
    · ipureintro
      exact inv_step m c t hI hU
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  rw [out_eq m c t d8 hI]
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [PhiA0_eq, show (dats m 0 c).Φ 0 = iprop(∃ C, ⌜Inv m c 0 C⌝ ∗ owns (c : Thread nD τ) scM0_0 fullShare C ∗ (∃ r, prngReg c r)) from rfl]
  iintro ⟨⟨%C, HS⟩, Hr⟩
  iexists C
  isplitr
  · ipureintro
    exact fun k hk => absurd hk (Nat.not_lt_zero k)
  isplitl [HS]; · iexact HS
  iexact Hr

theorem Phi_out (c : Dev nD) : (dats m 0 c).Φ (Fin.last cfg0.N) ⊢ (Pipeline.ΦA spec0 c : sProp 𝕄) := by
  rw [PhiA0_eq, show (dats m 0 c).Φ (Fin.last cfg0.N) = iprop(∃ C, ⌜Inv m c cfg0.N C⌝ ∗ owns (c : Thread nD τ) scM0_0 fullShare C ∗ (∃ r, prngReg c r)) from rfl]
  iintro ⟨%C, %hI, HS, Hr⟩
  isplitl [HS]; · iexists C; iexact HS
  iexact Hr

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- Every run of the program ends, with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FfnIdeal.Hand

end
-- ==== Proof.FfnRefPoint.lean ====
/- The feed-forward reference read at one entry: the gate projection, its causal convolution, the gated product, the second
   projection with the residual, and the closing normalization. -/
module

public import proofs.«01_k».proof.Proof.FfnFrame
public import proofs.«01_k».proof.Proof.Gen.FfnRefIdeal.Read
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.FfnRefIdeal.Read

variable (x0 : FVec Ideal S32768x2048 .bf16) (x1 : FVec Ideal S32768x2048 .f32) (x2 x3 : FVec Ideal S1x2048x5632 .f32) (x4 : FVec Ideal S1x5632x2048 .f32) (x5 : FVec Ideal S1x3x5632 .f32) (x6 : FVec Ideal S1x5632 .f32) (x7 : FVec Ideal S2048 .f32)

/-- The tanh form of the gelu. -/
def gelu (v : EReal) : EReal :=
  v * (Ideal.ofBits FTy.f32 1056964608#32 * (1 + Ideal.tanh (Ideal.ofBits FTy.f32 1061962282#32 * (v + Ideal.ofBits FTy.f32 1027024659#32 * (v * v * v)))))

theorem gelu_eq (v : EReal) : gelu v
    = v * (Ideal.ofBits FTy.f32 1056964608#32 * (1 + Ideal.tanh (Ideal.ofBits FTy.f32 1061962282#32 * (v + Ideal.ofBits FTy.f32 1027024659#32 * (v * (v * v)))))) := by
  unfold gelu
  rw [mul_assoc v v v]

/-- The gate projection of row `i` at column `n`. -/
def Gt (i : Fin 32768) (n : Fin 5632) : EReal := ∑ k : Fin 2048, x0 (ix2 i k) * x2 (ix3 0 k n)

/-- The gate projection `d` rows earlier in the same sequence, zero before its start. -/
def Gs (d : ℕ) (i : Fin 32768) (n : Fin 5632) : EReal :=
  if d ≤ i.val % 2048 then Gt x0 x2 ⟨i.val - d, by omega⟩ n else 0

/-- The causal convolution of the gate. -/
def Cv (i : Fin 32768) (n : Fin 5632) : EReal :=
  x5 (ix3 0 0 n) * Gs x0 x2 2 i n + x5 (ix3 0 1 n) * Gs x0 x2 1 i n + x5 (ix3 0 2 n) * Gt x0 x2 i n + x6 (ix2 0 n)

/-- The gated product. -/
def Zv (i : Fin 32768) (n : Fin 5632) : EReal := gelu (Cv x0 x2 x5 x6 i n) * ∑ k : Fin 2048, x0 (ix2 i k) * x3 (ix3 0 k n)

/-- The residual plus the second projection. -/
def Ac (i : Fin 32768) (j : Fin 2048) : EReal := x1 (ix2 i j) + ∑ n : Fin 5632, Zv x0 x2 x3 x5 x6 i n * x4 (ix3 0 n j)

/-- The normalization of a row. -/
def Rm (a : Fin 2048 → EReal) (g : EReal) (j : Fin 2048) : EReal :=
  a j * Ideal.rsqrt (Ideal.div (∑ x : Fin 2048, a x * a x) (Ideal.ofBits FTy.f32 1157627904#32) + Ideal.ofBits FTy.f32 897988541#32) * g

theorem pad_zero : val_main_call0_v0 (F := Ideal) (Shape.Idx.first FfnRefIdeal.Gen.h_S_) = (0 : EReal) := by
  pointwise [val_main_call0_v0, val_main_c]
  exact sitofp_zero (φ := FTy.f32)

theorem ref_g (b : Fin 16) (s : Fin 2050) (n : Fin 5632) : val_main_v7 (F := Ideal) x0 x2 (ix3 b s n)
    = if h : 2 ≤ s.val ∧ s.val - 2 < 2048 then Gt x0 x2 ⟨b.val * 2048 + (s.val - 2), by omega⟩ n else 0 := by
  unfold Gt
  pointwise [val_main_v7, val_main_v4, val_main_v3, val_main_v2, val_main_v1, val_main_v0]
  rw [pad_zero]

theorem ref_shift (b : Fin 16) (t : Fin 2048) (n : Fin 5632) (d : ℕ) (hd : d ≤ 2) (s : Fin 2050) (hs : s.val = 2 - d + t.val) :
    val_main_v7 (F := Ideal) x0 x2 (ix3 b s n) = Gs x0 x2 d ⟨b.val * 2048 + t.val, by omega⟩ n := by
  have ht := t.isLt
  rw [ref_g]
  unfold Gs
  by_cases h : d ≤ t.val
  · rw [dif_pos ⟨by omega, by omega⟩, if_pos (show d ≤ (b.val * 2048 + t.val) % 2048 by omega)]
    exact congrArg (Gt x0 x2 · n) (Fin.ext (by dsimp only; omega))
  · rw [dif_neg (fun h' => h (by omega)), if_neg (show ¬ d ≤ (b.val * 2048 + t.val) % 2048 by omega)]

theorem ref_conv (b : Fin 16) (t : Fin 2048) (n : Fin 5632) : val_main_v30 (F := Ideal) x0 x2 x5 x6 (ix3 b t n)
    = Cv x0 x2 x5 x6 ⟨b.val * 2048 + t.val, by omega⟩ n := by
  have ht := t.isLt
  have e0 : Gt x0 x2 ⟨b.val * 2048 + t.val, by omega⟩ n = Gs x0 x2 0 ⟨b.val * 2048 + t.val, by omega⟩ n := by
    unfold Gs
    rw [if_pos (Nat.zero_le _)]
    rfl
  unfold Cv
  rw [e0, ← ref_shift x0 x2 b t n 2 (by omega) ⟨t.val, by omega⟩ (by dsimp only; omega),
    ← ref_shift x0 x2 b t n 1 (by omega) ⟨1 + t.val, by omega⟩ (by dsimp only),
    ← ref_shift x0 x2 b t n 0 (by omega) ⟨2 + t.val, by omega⟩ (by dsimp only)]
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v5, val_main_v6]

theorem ref_z (b : Fin 16) (t : Fin 2048) (n : Fin 5632) : val_main_v46 (F := Ideal) x0 x2 x3 x5 x6 (ix3 b t n)
    = Zv x0 x2 x3 x5 x6 ⟨b.val * 2048 + t.val, by omega⟩ n := by
  unfold Zv gelu
  rw [← ref_conv x0 x2 x5 x6 b t n]
  pointwise [val_main_v46, val_main_v45, val_main_v44, val_main_v43, val_main_v42, val_main_v41, val_main_v40, val_main_v39, val_main_v38, val_main_v37, val_main_v36, val_main_v35, val_main_v34, val_main_v33, val_main_v32, val_main_v31, val_main_v1, val_main_v0, val_main_cst, val_main_cst_0, val_main_cst_1, val_main_cst_2]

theorem ref_acc (b : Fin 16) (t : Fin 2048) (j : Fin 2048) : val_main_v49 (F := Ideal) x0 x1 x2 x3 x4 x5 x6 (ix3 b t j)
    = Ac x0 x1 x2 x3 x4 x5 x6 ⟨b.val * 2048 + t.val, by omega⟩ j := by
  unfold Ac
  simp only [← ref_z x0 x2 x3 x5 x6 b t]
  pointwise [val_main_v49, val_main_v48, val_main_v47, val_main_v2]

theorem ref_out (i : Fin 32768) (j : Fin 2048) : val_main_v63 (F := Ideal) x0 x1 x2 x3 x4 x5 x6 x7 (ix2 i j)
    = Rm (Ac x0 x1 x2 x3 x4 x5 x6 i) (x7 (ix1 j)) j := by
  have e : ∀ x : Fin 2048, val_main_v49 (F := Ideal) x0 x1 x2 x3 x4 x5 x6 (ix3 ⟨i.val / 2048, by omega⟩ ⟨i.val % 2048, by omega⟩ x) = Ac x0 x1 x2 x3 x4 x5 x6 i x := fun x =>
    (ref_acc x0 x1 x2 x3 x4 x5 x6 _ _ x).trans (congrArg (Ac x0 x1 x2 x3 x4 x5 x6 · x) (Fin.ext (by dsimp only; omega)))
  unfold Rm
  simp only [← e]
  pointwise [val_main_v63, val_main_v62, val_main_v61, val_main_v60, val_main_v59, val_main_v58, val_main_v57, val_main_v56, val_main_v55, val_main_v54, val_main_v53, val_main_v52, val_main_v51, val_main_v50, val_main_cst_3, val_main_cst_4, val_main_cst_5]

end Cert.FfnIdeal.Hand
end
-- ==== Proof.FfnPay.lean ====
/- The feed-forward kernel's block computations read at one entry. -/
module

public import proofs.«01_k».proof.Proof.FfnFrame
public import proofs.«01_k».proof.Proof.FfnRefPoint
public import proofs.«01_k».proof.Proof.Gen.FfnRefIdeal.Read
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.FfnRefIdeal.Read

variable (x0 : FVec Ideal S1024x2048 .bf16) (x2 x3 : FVec Ideal S2048x512 .bf16) (x4 : FVec Ideal S512x2048 .bf16) (x5 : FVec Ideal S3x512 .f32) (x6 : FVec Ideal S1x512 .f32) (x7 : FVec Ideal S1x2048 .f32) (O : FVec Ideal S1024x2048 .f32) (p : FVec Ideal S1x8x512 .f32)

theorem pay3_at (r : Fin 1024) (n : Fin 512) : k0_pay3 (F := Ideal) x0 x2 (ix2 r n) = ∑ k : Fin 2048, x0 (ix2 r k) * x2 (ix2 k n) := by
  pointwise [k0_pay3]

theorem pay4_at (a : Fin 8) (n : Fin 512) : k0_pay4 (F := Ideal) (ix3 0 a n) = (0 : EReal) := by
  pointwise [k0_pay4]

theorem pay6_at (a : Fin 8) (n : Fin 512) : k0_pay6 (F := Ideal) x0 x2 (ix3 0 a n) = k0_pay3 (F := Ideal) x0 x2 (ix2 ⟨1016 + a.val, by omega⟩ n) := by
  pointwise [k0_pay6]

/-- A column of the tile one row earlier, its first row taken from `p7`. -/
def S1 (g : Fin 1024 → EReal) (p7 : EReal) (r : Fin 1024) : EReal :=
  if r.val = 0 then p7 else g ⟨(r.val + 1024 - 1) % 1024, by omega⟩

/-- A column of the tile two rows earlier, its first two rows taken from `p6` and `p7`. -/
def S2 (g : Fin 1024 → EReal) (p6 p7 : EReal) (r : Fin 1024) : EReal :=
  if r.val = 0 then p6 else if r.val = 1 then p7 else g ⟨(r.val + 1024 - 2) % 1024, by omega⟩

theorem row_zero : ∀ r : Fin 1024, IntOp.cmpi CmpIPredicate.eq (BitVec.ofNat 32 r.val) 0#32 = 1#1 ↔ r.val = 0 := by decide +kernel
theorem row_one : ∀ r : Fin 1024, IntOp.cmpi CmpIPredicate.eq (BitVec.ofNat 32 r.val) 1#32 = 1#1 ↔ r.val = 1 := by decide +kernel

theorem sel_zero (r : Fin 1024) (a b : EReal) : Scalar.select (IntOp.cmpi CmpIPredicate.eq (BitVec.ofNat 32 r.val) 0#32) a b = if r.val = 0 then a else b := by
  by_cases h : r.val = 0
  · rw [if_pos h]; unfold Scalar.select; exact if_pos ((row_zero r).mpr h)
  · rw [if_neg h]; unfold Scalar.select; exact if_neg fun h' => h ((row_zero r).mp h')
theorem sel_one (r : Fin 1024) (a b : EReal) : Scalar.select (IntOp.cmpi CmpIPredicate.eq (BitVec.ofNat 32 r.val) 1#32) a b = if r.val = 1 then a else b := by
  by_cases h : r.val = 1
  · rw [if_pos h]; unfold Scalar.select; exact if_pos ((row_one r).mpr h)
  · rw [if_neg h]; unfold Scalar.select; exact if_neg fun h' => h ((row_one r).mp h')

/-- The tile's convolution. -/
def cvK (r : Fin 1024) (n : Fin 512) : EReal :=
  x5 (ix2 2 n) * k0_pay3 (F := Ideal) x0 x2 (ix2 r n)
    + x5 (ix2 1 n) * S1 (fun s => k0_pay3 (F := Ideal) x0 x2 (ix2 s n)) (p (ix3 0 7 n)) r
    + x5 (ix2 0 n) * S2 (fun s => k0_pay3 (F := Ideal) x0 x2 (ix2 s n)) (p (ix3 0 6 n)) (p (ix3 0 7 n)) r
    + x6 (ix2 0 n)

theorem z_at (r : Fin 1024) (n : Fin 512) : zOf (F := Ideal) x0 x2 x3 x5 x6 p (ix2 r n)
    = gelu (cvK x0 x2 x5 x6 p r n) * ∑ k : Fin 2048, x0 (ix2 r k) * x3 (ix2 k n) := by
  unfold zOf
  rw [gelu_eq]
  unfold cvK S1 S2
  pointwise [k0_pay11, k0_pay10, k0_pay9, k0_pay8, k0_pay7, k0_pay5]
  simp only [sel_zero, sel_one]

theorem pay1_at (z : FVec Ideal S1024x512 .bf16) (r : Fin 1024) (j : Fin 2048) : k0_pay1 (F := Ideal) z O x4 (ix2 r j)
    = O (ix2 r j) + ∑ n : Fin 512, z (ix2 r n) * x4 (ix2 n j) := by
  pointwise [k0_pay1]

theorem pay2_at (r : Fin 1024) (j : Fin 2048) : k0_pay2 (F := Ideal) O x7 (ix2 r j) = Rm (fun x => O (ix2 r x)) (x7 (ix2 0 j)) j := by
  unfold Rm
  pointwise [k0_pay2]

end Cert.FfnIdeal.Hand
end
-- ==== Proof.FfnBlocks.lean ====
/- The feed-forward call's input blocks as entries of its arguments. -/
module

public import proofs.«01_k».proof.Proof.FfnFrame
public import proofs.«01_k».proof.Proof.FfnPay
public import proofs.«01_k».proof.Proof.Gen.FfnRefIdeal.Read
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.FfnRefIdeal.Read

variable (m : (ℓ : Loc nD τ sig) → Buf (Elt Ideal) ℓ)

/-- Where the windows' blocks lie. -/
theorem idx : ∀ t : Fin cfg0.N, win0_0.index t = ![t.val / 11, 0] ∧ win0_1.index t = ![t.val / 11, 0] ∧ win0_2.index t = ![0, t.val % 11]
    ∧ win0_3.index t = ![0, t.val % 11] ∧ win0_4.index t = ![t.val % 11, 0] ∧ win0_5.index t = ![0, t.val % 11] ∧ win0_6.index t = ![0, t.val % 11]
    ∧ win0_7.index t = ![0, 0] ∧ win0_8.index t = ![t.val / 11, 0] :=
  (by decide +kernel : ∀ t : Fin grid0.N, _)

theorem lt_N (t : Fin cfg0.N) : t.val < 352 := lt_of_lt_of_eq t.isLt N_0

section args
variable (c : Dev nD)
/-- The call's arguments on a core. -/
abbrev a0 : FVec Ideal S32768x2048 .bf16 := m ((c.tc : Thread nD τ).loc main_arg0)
abbrev a1 : FVec Ideal S32768x2048 .f32 := m ((c.tc : Thread nD τ).loc main_arg1)
abbrev a2 : FVec Ideal S1x2048x5632 .f32 := m ((c.tc : Thread nD τ).loc main_arg2)
abbrev a3 : FVec Ideal S1x2048x5632 .f32 := m ((c.tc : Thread nD τ).loc main_arg3)
abbrev a4 : FVec Ideal S1x5632x2048 .f32 := m ((c.tc : Thread nD τ).loc main_arg4)
abbrev a5 : FVec Ideal S1x3x5632 .f32 := m ((c.tc : Thread nD τ).loc main_arg5)
abbrev a6 : FVec Ideal S1x5632 .f32 := m ((c.tc : Thread nD τ).loc main_arg6)
abbrev a7 : FVec Ideal S2048 .f32 := m ((c.tc : Thread nD τ).loc main_arg7)
end args

section blocks
variable (c : Dev nD) (t : Fin cfg0.N)

theorem b0 (r : Fin 1024) (k : Fin 2048) : iblk m c 0 t (ix2 r k) = a0 m c (ix2 ⟨1024 * (t.val / 11) + r.val, by have := lt_N t; omega⟩ k) := by
  have ht := lt_N t
  show iblk m c 0 t (ix2 r k) = _
  blk_ext [iblk, V, idx t]

theorem b1 (r : Fin 1024) (k : Fin 2048) : iblk m c 1 t (ix2 r k) = a1 m c (ix2 ⟨1024 * (t.val / 11) + r.val, by have := lt_N t; omega⟩ k) := by
  have ht := lt_N t
  show iblk m c 1 t (ix2 r k) = _
  blk_ext [iblk, V, idx t]

theorem b2 (k : Fin 2048) (n : Fin 512) : iblk m c 2 t (ix2 k n) = a2 m c (ix3 0 k ⟨512 * (t.val % 11) + n.val, by omega⟩) := by
  have ht := lt_N t
  have e : ((cfg0.win 2).blk t).view.emb (ix2 k n) = ix2 k ⟨512 * (t.val % 11) + n.val, by omega⟩ := by blk_ext [idx t]
  refine (congrArg (V m c main_v1) e).trans ?_
  entry_read
  pointwise

theorem b3 (k : Fin 2048) (n : Fin 512) : iblk m c 3 t (ix2 k n) = a3 m c (ix3 0 k ⟨512 * (t.val % 11) + n.val, by omega⟩) := by
  have ht := lt_N t
  have e : ((cfg0.win 3).blk t).view.emb (ix2 k n) = ix2 k ⟨512 * (t.val % 11) + n.val, by omega⟩ := by blk_ext [idx t]
  refine (congrArg (V m c main_v3) e).trans ?_
  entry_read
  pointwise

theorem b4 (n : Fin 512) (k : Fin 2048) : iblk m c 4 t (ix2 n k) = a4 m c (ix3 0 ⟨512 * (t.val % 11) + n.val, by omega⟩ k) := by
  have ht := lt_N t
  have e : ((cfg0.win 4).blk t).view.emb (ix2 n k) = ix2 ⟨512 * (t.val % 11) + n.val, by omega⟩ k := by blk_ext [idx t]
  refine (congrArg (V m c main_v5) e).trans ?_
  entry_read
  pointwise

theorem b5 (k : Fin 3) (n : Fin 512) : iblk m c 5 t (ix2 k n) = a5 m c (ix3 0 k ⟨512 * (t.val % 11) + n.val, by omega⟩) := by
  have ht := lt_N t
  have e : ((cfg0.win 5).blk t).view.emb (ix2 k n) = ix2 k ⟨512 * (t.val % 11) + n.val, by omega⟩ := by blk_ext [idx t]
  refine (congrArg (V m c main_v6) e).trans ?_
  entry_read
  pointwise

theorem b6 (n : Fin 512) : iblk m c 6 t (ix2 0 n) = a6 m c (ix2 0 ⟨512 * (t.val % 11) + n.val, by omega⟩) := by
  have ht := lt_N t
  have e : ((cfg0.win 6).blk t).view.emb (ix2 0 n) = ix2 0 ⟨512 * (t.val % 11) + n.val, by omega⟩ := by blk_ext [idx t]
  refine (congrArg (V m c main_v8) e).trans ?_
  entry_read
  pointwise

theorem b7 (j : Fin 2048) : iblk m c 7 t (ix2 0 j) = a7 m c (ix1 j) := by
  have ht := lt_N t
  have e : ((cfg0.win 7).blk t).view.emb (ix2 0 j) = ix2 0 j := by blk_ext [idx t]
  refine (congrArg (V m c main_v9) e).trans ?_
  entry_read
  pointwise

end blocks

end Cert.FfnIdeal.Hand
end
-- ==== Proof.FfnValue.lean ====
/- The feed-forward call's output array equals the reference's result. -/
module

public import proofs.«01_k».proof.Proof.FfnFrame
public import proofs.«01_k».proof.Proof.FfnBlocks
public import proofs.«01_k».proof.Proof.Gen.FfnRefIdeal.Read
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.FfnRefIdeal.Read

variable (m : (ℓ : Loc nD τ sig) → Buf (Elt Ideal) ℓ) (c : Dev nD)

theorem gate_blk (t : Fin cfg0.N) (r : Fin 1024) (n : Fin 512) : k0_pay3 (F := Ideal) (iblk m c 0 t) (iblk m c 2 t) (ix2 r n)
    = Gt (a0 m c) (a2 m c) ⟨1024 * (t.val / 11) + r.val, by have := lt_N t; omega⟩ ⟨512 * (t.val % 11) + n.val, by omega⟩ := by
  rw [pay3_at]
  unfold Gt
  simp only [b0, b2]

theorem prev_at (t : Fin cfg0.N) (a : Fin 8) (n : Fin 512) : prevAt m c t.val (ix3 0 a n)
    = if t.val % 22 < 11 then 0 else Gt (a0 m c) (a2 m c) ⟨1024 * (t.val / 11) - 8 + a.val, by have := lt_N t; omega⟩ ⟨512 * (t.val % 11) + n.val, by omega⟩ := by
  have ht := lt_N t
  unfold prevAt
  rw [pnt_val]
  by_cases h : t.val % 22 < 11
  · rw [if_pos ((fresh_iff t).mpr h), if_pos h, pay4_at]
  · rw [if_neg fun h' => h ((fresh_iff t).mp h'), if_neg h]
    unfold rowsKept
    have e : (pnt (t.val - 11)).val = t.val - 11 := Nat.mod_eq_of_lt ((Nat.sub_le _ _).trans_lt t.isLt)
    rw [pay6_at, gate_blk]
    refine congrArg₂ (Gt (a0 m c) (a2 m c)) (Fin.ext ?_) (Fin.ext ?_)
    · dsimp only
      rw [e]
      omega
    · dsimp only
      rw [e]
      omega

theorem shift1 (t : Fin cfg0.N) (r : Fin 1024) (n : Fin 512) :
    S1 (fun s => k0_pay3 (F := Ideal) (iblk m c 0 t) (iblk m c 2 t) (ix2 s n)) (prevAt m c t.val (ix3 0 7 n)) r
      = Gs (a0 m c) (a2 m c) 1 ⟨1024 * (t.val / 11) + r.val, by have := lt_N t; omega⟩ ⟨512 * (t.val % 11) + n.val, by omega⟩ := by
  have ht := lt_N t
  have hr := r.isLt
  unfold S1 Gs
  rw [prev_at]
  by_cases h0 : r.val = 0
  · rw [if_pos h0]
    by_cases h : t.val % 22 < 11
    · rw [if_pos h, if_neg (by dsimp only; omega)]
    · rw [if_neg h, if_pos (by dsimp only; omega)]
      refine congrArg (Gt (a0 m c) (a2 m c) · _) (Fin.ext ?_)
      show 1024 * (t.val / 11) - 8 + 7 = 1024 * (t.val / 11) + r.val - 1
      omega
  · rw [if_neg h0, if_pos (by dsimp only; omega)]
    refine (gate_blk m c t _ n).trans (congrArg (Gt (a0 m c) (a2 m c) · _) (Fin.ext ?_))
    dsimp only
    omega

theorem shift2 (t : Fin cfg0.N) (r : Fin 1024) (n : Fin 512) :
    S2 (fun s => k0_pay3 (F := Ideal) (iblk m c 0 t) (iblk m c 2 t) (ix2 s n)) (prevAt m c t.val (ix3 0 6 n)) (prevAt m c t.val (ix3 0 7 n)) r
      = Gs (a0 m c) (a2 m c) 2 ⟨1024 * (t.val / 11) + r.val, by have := lt_N t; omega⟩ ⟨512 * (t.val % 11) + n.val, by omega⟩ := by
  have ht := lt_N t
  have hr := r.isLt
  unfold S2 Gs
  rw [prev_at, prev_at]
  by_cases h0 : r.val = 0
  · rw [if_pos h0]
    by_cases h : t.val % 22 < 11
    · rw [if_pos h, if_neg (by dsimp only; omega)]
    · rw [if_neg h, if_pos (by dsimp only; omega)]
      refine congrArg (Gt (a0 m c) (a2 m c) · _) (Fin.ext ?_)
      show 1024 * (t.val / 11) - 8 + 6 = 1024 * (t.val / 11) + r.val - 2
      omega
  · rw [if_neg h0]
    by_cases h1 : r.val = 1
    · rw [if_pos h1]
      by_cases h : t.val % 22 < 11
      · rw [if_pos h, if_neg (by dsimp only; omega)]
      · rw [if_neg h, if_pos (by dsimp only; omega)]
        refine congrArg (Gt (a0 m c) (a2 m c) · _) (Fin.ext ?_)
        show 1024 * (t.val / 11) - 8 + 7 = 1024 * (t.val / 11) + r.val - 2
        omega
    · rw [if_neg h1, if_pos (by dsimp only; omega)]
      refine (gate_blk m c t _ n).trans (congrArg (Gt (a0 m c) (a2 m c) · _) (Fin.ext ?_))
      dsimp only
      omega

theorem conv_blk (t : Fin cfg0.N) (r : Fin 1024) (n : Fin 512) :
    cvK (iblk m c 0 t) (iblk m c 2 t) (iblk m c 5 t) (iblk m c 6 t) (prevAt m c t.val) r n
      = Cv (a0 m c) (a2 m c) (a5 m c) (a6 m c) ⟨1024 * (t.val / 11) + r.val, by have := lt_N t; omega⟩ ⟨512 * (t.val % 11) + n.val, by omega⟩ := by
  unfold cvK Cv
  rw [shift1, shift2, gate_blk, b5, b5, b5, b6]
  refine congrArg (· + _) ?_
  rw [add_assoc, add_comm, add_comm (a5 m c (ix3 0 1 _) * _)]

theorem z_blk (t : Fin cfg0.N) (r : Fin 1024) (n : Fin 512) :
    zOf (F := Ideal) (iblk m c 0 t) (iblk m c 2 t) (iblk m c 3 t) (iblk m c 5 t) (iblk m c 6 t) (prevAt m c t.val) (ix2 r n)
      = Zv (a0 m c) (a2 m c) (a3 m c) (a5 m c) (a6 m c) ⟨1024 * (t.val / 11) + r.val, by have := lt_N t; omega⟩ ⟨512 * (t.val % 11) + n.val, by omega⟩ := by
  rw [z_at, conv_blk]
  unfold Zv
  simp only [b0, b3]

/-- The part of the second projection that column tile `q` contributes. -/
def Tq (i : Fin 32768) (j : Fin 2048) (q : ℕ) : EReal :=
  ∑ n : Fin 512, Zv (a0 m c) (a2 m c) (a3 m c) (a5 m c) (a6 m c) i ⟨(512 * q + n.val) % 5632, by omega⟩ * a4 m c (ix3 0 ⟨(512 * q + n.val) % 5632, by omega⟩ j)

theorem acc_tiles (i : Fin 32768) (j : Fin 2048) :
    a1 m c (ix2 i j) + ∑ q ∈ Finset.range 11, Tq m c i j q = Ac (a0 m c) (a1 m c) (a2 m c) (a3 m c) (a4 m c) (a5 m c) (a6 m c) i j := by
  unfold Ac
  rw [Fin.sum_univ_tiles 11 512 (by decide), Finset.sum_range]
  refine congrArg (_ + ·) (Finset.sum_congr rfl fun q _ => Finset.sum_congr rfl fun n _ => ?_)
  have hq := q.isLt
  have hn := n.isLt
  have e : (⟨(512 * q.val + n.val) % 5632, by omega⟩ : Fin 5632) = ⟨q.val * 512 + n.val, by omega⟩ := Fin.ext (by dsimp only; omega)
  rw [e]

theorem part_blk (t : Fin cfg0.N) (r : Fin 1024) (j : Fin 2048) :
    ∑ n : Fin 512, zOf (F := Ideal) (iblk m c 0 t) (iblk m c 2 t) (iblk m c 3 t) (iblk m c 5 t) (iblk m c 6 t) (prevAt m c t.val) (ix2 r n) * iblk m c 4 t (ix2 n j)
      = Tq m c ⟨1024 * (t.val / 11) + r.val, by have := lt_N t; omega⟩ j (t.val % 11) := by
  unfold Tq
  refine Finset.sum_congr rfl fun n _ => ?_
  rw [z_blk]
  have hn := n.isLt
  have e : (⟨(512 * (t.val % 11) + n.val) % 5632, by omega⟩ : Fin 5632) = ⟨512 * (t.val % 11) + n.val, by omega⟩ := Fin.ext (by dsimp only; omega)
  rw [e]
  exact congrArg (_ * ·) (b4 m c t n j)

/-- The accumulated block after point `t`, before any normalization. -/
def preAt (t : Fin cfg0.N) : Vec Ideal S1024x2048 .f32 :=
  k0_pay1 (zOf (iblk m c 0 t) (iblk m c 2 t) (iblk m c 3 t) (iblk m c 5 t) (iblk m c 6 t) (prevAt m c t.val))
    (if isHead (grid0.coords t) then iblk m c 1 t else outAt m c (t.val - 1)) (iblk m c 4 t)

theorem outAt_eq (t : Fin cfg0.N) : outAt m c t.val = if isLast (grid0.coords t) then k0_pay2 (preAt m c t) (iblk m c 7 t) else preAt m c t := by
  have hp := pnt_val t
  unfold preAt
  by_cases hz : t.val = 0
  · have hh : isHead (grid0.coords t) := (head_iff t).mpr (by omega)
    rw [hz] at hp ⊢
    rw [outAt, hp]
    unfold outOf
    rw [if_pos hh, if_pos hh]
  · obtain ⟨n, hn⟩ := Nat.exists_eq_succ_of_ne_zero hz
    rw [hn] at hp ⊢
    rw [Nat.succ_eq_add_one, outAt, hp]
    unfold outOf
    rfl

theorem pre_at (k : ℕ) : ∀ (t : Fin cfg0.N), t.val = k → ∀ (r : Fin 1024) (j : Fin 2048), preAt m c t (ix2 r j)
    = a1 m c (ix2 ⟨1024 * (t.val / 11) + r.val, by have := lt_N t; omega⟩ j) + ∑ q ∈ Finset.range (t.val % 11 + 1), Tq m c ⟨1024 * (t.val / 11) + r.val, by have := lt_N t; omega⟩ j q := by
  induction k with
  | zero =>
    intro t h r j
    unfold preAt
    rw [if_pos ((head_iff t).mpr (by omega)), pay1_at, part_blk, b1, show t.val % 11 = 0 by omega, Finset.sum_range_one]
  | succ k ih =>
    intro t h r j
    have ht := lt_N t
    unfold preAt
    by_cases h0 : t.val % 11 = 0
    · rw [if_pos ((head_iff t).mpr h0), pay1_at, part_blk, b1, h0, Finset.sum_range_one]
    · rw [if_neg fun h' => h0 ((head_iff t).mp h'), pay1_at, part_blk, Finset.sum_range_succ, ← add_assoc]
      refine congrArg (· + _) ?_
      have hs : k < cfg0.N := lt_trans (by omega) t.isLt
      have e := outAt_eq m c ⟨k, hs⟩
      rw [if_neg fun h' => by have := (last_iff _).mp h'; dsimp only at this; omega] at e
      rw [show t.val - 1 = k by omega]
      refine (congrFun e _).trans ((ih ⟨k, hs⟩ rfl r j).trans ?_)
      have e1 : (⟨1024 * (k / 11) + r.val, by omega⟩ : Fin 32768) = ⟨1024 * (t.val / 11) + r.val, by omega⟩ := Fin.ext (by dsimp only; omega)
      have e2 : k % 11 + 1 = t.val % 11 := by omega
      show a1 m c (ix2 ⟨1024 * (k / 11) + r.val, _⟩ j) + ∑ q ∈ Finset.range (k % 11 + 1), Tq m c ⟨1024 * (k / 11) + r.val, _⟩ j q = _
      rw [e1, e2]

theorem out_last (t : Fin cfg0.N) (h : t.val % 11 = 10) (r : Fin 1024) (j : Fin 2048) : outAt m c t.val (ix2 r j)
    = Rm (Ac (a0 m c) (a1 m c) (a2 m c) (a3 m c) (a4 m c) (a5 m c) (a6 m c) ⟨1024 * (t.val / 11) + r.val, by have := lt_N t; omega⟩) (a7 m c (ix1 j)) j := by
  rw [outAt_eq, if_pos ((last_iff t).mpr h), pay2_at, b7]
  refine congrArg (Rm · _ j) (funext fun x => ?_)
  rw [pre_at m c t.val t rfl, h]
  exact acc_tiles m c _ x

theorem out_val : (dats m 0 c).arrAt 8 cfg0.N
    = val_main_v63 (F := Ideal) (a0 m c) (a1 m c) (a2 m c) (a3 m c) (a4 m c) (a5 m c) (a6 m c) (a7 m c) := by
  refine (dats m 0 c).arrAt_eq_of_covers 8 _ (by decide +kernel) fun t hf y => ?_
  have h10 : t.val % 11 = 10 := (flush0_8 t).mp hf
  have ht := lt_N t
  blk_simp
  rw [after0_8]
  obtain ⟨y0, y1, rfl⟩ : ∃ (a : Fin 1024) (b : Fin 2048), y = ix2 a b := ⟨_, _, eq_ix2 y⟩
  rw [show ((View.whole main_v10).slice (win0_8.rect t)).emb (ix2 y0 y1) = ix2 (⟨1024 * (t.val / 11) + y0.val, by omega⟩ : Fin 32768) y1 by blk_ext [idx t], ref_out]
  exact out_last m c t h10 y0 y1

end Cert.FfnIdeal.Hand
end
-- ==== Proof.OutProjValue.lean ====
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutProjIdeal.Hand

open Cert.OutProjIdeal Cert.OutProjIdeal.Gen Idealize.ShloMosaic Idealize.ShloMosaic.TcCoe Idealize.SL.Sem
open Idealize.ShloMosaic.Pipeline (Dat)
open Cert.OutProjRefIdeal.Read

variable (m : (ℓ : Loc nD τ sig) → Buf (Elt Ideal) ℓ) (ρ : Dev nD → PrngReg)

/-- Where the windows' blocks lie. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The projection's result with the residual, at row `i` and column `j`. -/
def Hm (x0 : FVec Ideal S32768x1024 .f32) (x1 : FVec Ideal S32768x1024 .bf16) (x2 : FVec Ideal S16x2048x2048 .f32)
    (x3 : FVec Ideal S1x1024 .f32) (x5 : FVec Ideal S1x2048x2048 .f32) (i : Fin 32768) (j : Fin 2048) : EReal :=
  x2 (ix3 ⟨i.val / 2048, by omega⟩ ⟨i.val % 2048, by omega⟩ j)
    + (∑ k : Fin 1024, x0 (ix2 i k) * Ideal.rsqrt (Ideal.div (∑ l : Fin 1024, x0 (ix2 i l) * x0 (ix2 i l)) (Ideal.ofBits FTy.f32 1149239296#32)
          + Ideal.ofBits FTy.f32 897988541#32) * x3 (ix2 0 k) * x5 (ix3 0 ⟨k.val, by omega⟩ j)
      + ∑ k : Fin 1024, x1 (ix2 i k) * x5 (ix3 0 ⟨1024 + k.val, by omega⟩ j))

set_option maxHeartbeats 2000000 in
theorem ref_h (x0 : FVec Ideal S32768x1024 .f32) (x1 : FVec Ideal S32768x1024 .bf16) (x2 : FVec Ideal S16x2048x2048 .f32)
    (x3 : FVec Ideal S1x1024 .f32) (x5 : FVec Ideal S1x2048x2048 .f32) (i : Fin 32768) (j : Fin 2048) :
    val_main_v19 (F := Ideal) x0 x1 x2 x3 x5 (ix2 i j) = Hm x0 x1 x2 x3 x5 i j := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

section blocks
variable (c : Dev nD) (t : Fin cfg0.N)

theorem b0 (r : Fin 512) (k : Fin 1024) : iblk m c 0 t (ix2 r k)
    = (show FVec Ideal S32768x1024 .f32 from m ((c.tc : Thread nD τ).loc main_arg0)) (ix2 ⟨512 * t.val + r.val, by have := lt_of_lt_of_eq t.isLt N_0; omega⟩ k) := by
  have ht := lt_of_lt_of_eq t.isLt N_0
  show iblk m c 0 t (ix2 r k) = _
  blk_ext [iblk, V, idx t]

theorem b1 (r : Fin 512) (k : Fin 1024) : iblk m c 1 t (ix2 r k)
    = (show FVec Ideal S32768x1024 .bf16 from m ((c.tc : Thread nD τ).loc main_arg1)) (ix2 ⟨512 * t.val + r.val, by have := lt_of_lt_of_eq t.isLt N_0; omega⟩ k) := by
  have ht := lt_of_lt_of_eq t.isLt N_0
  show iblk m c 1 t (ix2 r k) = _
  blk_ext [iblk, V, idx t]

theorem b2 (r : Fin 512) (k : Fin 2048) : iblk m c 2 t (ix2 r k)
    = (show FVec Ideal S16x2048x2048 .f32 from m ((c.tc : Thread nD τ).loc main_arg2)) (ix3 ⟨(512 * t.val + r.val) / 2048, by have := lt_of_lt_of_eq t.isLt N_0; omega⟩ ⟨(512 * t.val + r.val) % 2048, by omega⟩ k) := by
  have ht := lt_of_lt_of_eq t.isLt N_0
  show iblk m c 2 t (ix2 r k) = _
  blk_ext! [iblk, V, idx t]

theorem b3 (k : Fin 1024) : iblk m c 3 t (ix2 0 k)
    = (show FVec Ideal S1x1024 .f32 from m ((c.tc : Thread nD τ).loc main_arg3)) (ix2 0 k) := by
  show iblk m c 3 t (ix2 0 k) = _
  blk_ext! [iblk, V, idx t]

theorem b4 (k : Fin 2048) : iblk m c 4 t (ix2 0 k)
    = (show FVec Ideal S1x2048 .f32 from m ((c.tc : Thread nD τ).loc main_arg4)) (ix2 0 k) := by
  show iblk m c 4 t (ix2 0 k) = _
  blk_ext! [iblk, V, idx t]

theorem b5 (k : Fin 2048) (j : Fin 2048) : iblk m c 5 t (ix2 k j)
    = (show FVec Ideal S1x2048x2048 .f32 from m ((c.tc : Thread nD τ).loc main_arg5)) (ix3 0 k j) := by
  show iblk m c 5 t (ix2 k j) = _
  blk_ext! [iblk, V, idx t]

end blocks

set_option maxHeartbeats 2000000 in
theorem h_eq (c : Dev nD) : (dats m 0 c).arrAt 6 cfg0.N
    = val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (dats m 0 c).arrAt_eq_of_covers 6 _ (by decide +kernel) fun t hf y => ?_
  blk_simp
  rw [after0_6]
  unfold outsAt0
  frame_out
  have ht := lt_of_lt_of_eq t.isLt N_0
  obtain ⟨y0, y1, rfl⟩ : ∃ (a : Fin 512) (b : Fin 2048), y = ix2 a b := ⟨_, _, eq_ix2 y⟩
  rw [show ((View.whole main_v7_0).slice (win0_6.rect t)).emb (ix2 y0 y1) = ix2 (⟨512 * t.val + y0.val, by omega⟩ : Fin 32768) y1 by blk_ext [idx t], ref_h]
  canon_tiles x h
  · obtain ⟨x0, x1, rfl⟩ : ∃ (a b : Fin 512), x = ix2 a b := ⟨_, _, eq_ix2 x⟩
    obtain rfl : y0 = x0 := Fin.ext h0
    have w : 1536 + x1.val < 2048 := by have := x1.isLt; clear h1; omega
    obtain rfl : y1 = ⟨1536 + x1.val, w⟩ := Fin.ext h1
    pointwise [k0_pay7, k0_pay6, k0_pay5, k0_pay4, k0_pay3, k0_pay2]
    unfold Hm
    rw [add_assoc]
    simp only [b0, b1, b2, b3, b5]
  · obtain ⟨x0, x1, rfl⟩ : ∃ (a b : Fin 512), x = ix2 a b := ⟨_, _, eq_ix2 x⟩
    obtain rfl : y0 = x0 := Fin.ext h0
    have w : 1024 + x1.val < 2048 := by have := x1.isLt; clear h1; omega
    obtain rfl : y1 = ⟨1024 + x1.val, w⟩ := Fin.ext h1
    pointwise [k0_pay7, k0_pay6, k0_pay5, k0_pay4, k0_pay3, k0_pay2]
    unfold Hm
    rw [add_assoc]
    simp only [b0, b1, b2, b3, b5]
  · obtain ⟨x0, x1, rfl⟩ : ∃ (a b : Fin 512), x = ix2 a b := ⟨_, _, eq_ix2 x⟩
    obtain rfl : y0 = x0 := Fin.ext h0
    have w : 512 + x1.val < 2048 := by have := x1.isLt; clear h1; omega
    obtain rfl : y1 = ⟨512 + x1.val, w⟩ := Fin.ext h1
    pointwise [k0_pay7, k0_pay6, k0_pay5, k0_pay4, k0_pay3, k0_pay2]
    unfold Hm
    rw [add_assoc]
    simp only [b0, b1, b2, b3, b5]
  · obtain ⟨x0, x1, rfl⟩ : ∃ (a b : Fin 512), x = ix2 a b := ⟨_, _, eq_ix2 x⟩
    obtain rfl : y0 = x0 := Fin.ext h0
    have w : x1.val < 2048 := by have := x1.isLt; clear h1; omega
    obtain rfl : y1 = ⟨x1.val, w⟩ := Fin.ext h1
    pointwise [k0_pay7, k0_pay6, k0_pay5, k0_pay4, k0_pay3, k0_pay2]
    unfold Hm
    rw [add_assoc]
    simp only [b0, b1, b2, b3, b5]

set_option maxHeartbeats 2000000 in
theorem y_eq (c : Dev nD) : (dats m 0 c).arrAt 7 cfg0.N
    = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  unfold outsAt0
  frame_out
  have ht := lt_of_lt_of_eq t.isLt N_0
  generalize hL : View.readCov (Val := Elt Ideal) (ms0_6 t).view _ _ = HB
  have hH : ∀ (y0 : Fin 512) (y1 : Fin 2048), HB (ix2 y0 y1) = Hm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) ⟨512 * t.val + y0.val, by omega⟩ y1 := by
    intro y0 y1
    rw [← hL, View.readCov_eq_canon']
    beta_reduce
    rw [show (Rect.unit (s := S512x2048) ![0, 0] ![512, 2048] inb_S512x2048_S512x2048_0_0).toLoadRect.idx (ix2 y0 y1) = ix2 y0 y1 from
      funext fun a => Fin.ext (by match a with
        | ⟨0, _⟩ => show 0 + 1 * y0.val = y0.val; omega
        | ⟨1, _⟩ => show 0 + 1 * y1.val = y1.val; omega)]
    canon_tiles x h
    · obtain ⟨x0, x1, rfl⟩ : ∃ (a b : Fin 512), x = ix2 a b := ⟨_, _, eq_ix2 x⟩
      obtain rfl : y0 = x0 := Fin.ext h0
      have w : 1536 + x1.val < 2048 := by have := x1.isLt; clear h1; omega
      obtain rfl : y1 = ⟨1536 + x1.val, w⟩ := Fin.ext h1
      pointwise [k0_pay7, k0_pay6, k0_pay5, k0_pay4, k0_pay3, k0_pay2]
      unfold Hm
      rw [add_assoc]
      simp only [b0, b1, b2, b3, b5]
    · obtain ⟨x0, x1, rfl⟩ : ∃ (a b : Fin 512), x = ix2 a b := ⟨_, _, eq_ix2 x⟩
      obtain rfl : y0 = x0 := Fin.ext h0
      have w : 1024 + x1.val < 2048 := by have := x1.isLt; clear h1; omega
      obtain rfl : y1 = ⟨1024 + x1.val, w⟩ := Fin.ext h1
      pointwise [k0_pay7, k0_pay6, k0_pay5, k0_pay4, k0_pay3, k0_pay2]
      unfold Hm
      rw [add_assoc]
      simp only [b0, b1, b2, b3, b5]
    · obtain ⟨x0, x1, rfl⟩ : ∃ (a b : Fin 512), x = ix2 a b := ⟨_, _, eq_ix2 x⟩
      obtain rfl : y0 = x0 := Fin.ext h0
      have w : 512 + x1.val < 2048 := by have := x1.isLt; clear h1; omega
      obtain rfl : y1 = ⟨512 + x1.val, w⟩ := Fin.ext h1
      pointwise [k0_pay7, k0_pay6, k0_pay5, k0_pay4, k0_pay3, k0_pay2]
      unfold Hm
      rw [add_assoc]
      simp only [b0, b1, b2, b3, b5]
    · obtain ⟨x0, x1, rfl⟩ : ∃ (a b : Fin 512), x = ix2 a b := ⟨_, _, eq_ix2 x⟩
      obtain rfl : y0 = x0 := Fin.ext h0
      have w : x1.val < 2048 := by have := x1.isLt; clear h1; omega
      obtain rfl : y1 = ⟨x1.val, w⟩ := Fin.ext h1
      pointwise [k0_pay7, k0_pay6, k0_pay5, k0_pay4, k0_pay3, k0_pay2]
      unfold Hm
      rw [add_assoc]
      simp only [b0, b1, b2, b3, b5]
  clear hL
  obtain ⟨y0, y1, rfl⟩ : ∃ (a : Fin 512) (b : Fin 2048), y = ix2 a b := ⟨_, _, eq_ix2 y⟩
  rw [show ((View.whole main_v7_1).slice (win0_7.rect t)).emb (ix2 y0 y1) = ix2 (⟨512 * t.val + y0.val, by omega⟩ : Fin 32768) y1 by blk_ext [idx t]]
  pointwise [k0_pay1, k0_pay8, val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4]
  simp only [hH, ref_h, b4]

end Cert.OutProjIdeal.Hand
end
-- ==== Proof.InProjPoint.lean ====
module

public import proofs.«01_k».proof.Proof.Gen.InProjIdeal.Value
public import proofs.«01_k».proof.Proof.Gen.InProjRefIdeal.Read
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)
open Cert.InProjRefIdeal.Read

variable (m : (ℓ : Loc nD τ sig) → Buf (Elt Ideal) ℓ) (ρ : Dev nD → PrngReg)

/-- Where the windows' blocks lie. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The normalized input row `i`, lane `k`. -/
def Nx (x0 : FVec Ideal S16x2048x2048 .f32) (x1 : FVec Ideal S1x2048 .f32) (i : Fin 32768) (k : Fin 2048) : EReal :=
  x0 (ix3 ⟨i.val / 2048, by omega⟩ ⟨i.val % 2048, by omega⟩ k)
    * Ideal.rsqrt (Ideal.div (∑ l : Fin 2048, x0 (ix3 ⟨i.val / 2048, by omega⟩ ⟨i.val % 2048, by omega⟩ l) * x0 (ix3 ⟨i.val / 2048, by omega⟩ ⟨i.val % 2048, by omega⟩ l)) (Ideal.ofBits FTy.f32 1157627904#32)
          + Ideal.ofBits FTy.f32 897988541#32) * x1 (ix2 0 k)

/-- The projection at row `i`, column `j`. -/
def Gm (x0 : FVec Ideal S16x2048x2048 .f32) (x1 : FVec Ideal S1x2048 .f32) (x2 : FVec Ideal S1x2048x4656 .f32) (i : Fin 32768) (j : Fin 4656) : EReal :=
  ∑ k : Fin 2048, Nx x0 x1 i k * x2 (ix3 0 k j)

/-- The second result: the columns of the recurrence's inputs, then those of the gates, then zeros. -/
def Gr (x0 : FVec Ideal S16x2048x2048 .f32) (x1 : FVec Ideal S1x2048 .f32) (x2 : FVec Ideal S1x2048x4656 .f32) (i : Fin 32768) (j : Fin 2176) : EReal :=
  if h : j.val < 2048 then Gm x0 x1 x2 i ⟨2608 + j.val, by omega⟩
  else if h' : j.val < 2096 then Gm x0 x1 x2 i ⟨2560 + (j.val - 2048), by omega⟩ else 0

set_option maxHeartbeats 2000000 in
theorem ref_q (x0 : FVec Ideal S16x2048x2048 .f32) (x1 : FVec Ideal S1x2048 .f32) (x2 : FVec Ideal S1x2048x4656 .f32) (i : Fin 32768) (j : Fin 2560) :
    val_main_v20 (F := Ideal) x0 x1 x2 (ix2 i j) = Gm x0 x1 x2 i ⟨j.val, by omega⟩ := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

set_option maxHeartbeats 4000000 in
theorem ref_r (x0 : FVec Ideal S16x2048x2048 .f32) (x1 : FVec Ideal S1x2048 .f32) (x2 : FVec Ideal S1x2048x4656 .f32) (i : Fin 32768) (j : Fin 2176) :
    val_main_v22 (F := Ideal) x0 x1 x2 (ix2 i j) = Gr x0 x1 x2 i j := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_c, val_main_call0_v0]
  unfold Gr Gm Nx
  rw [show (FloatOps.sitofp FTy.f32 0#32 : Ideal FTy.f32) = 0 from sitofp_zero]
  by_cases h1 : j.val < 2048
  · rw [dif_pos (show j.val < 2096 by omega), dif_pos h1, dif_pos h1]
  · by_cases h2 : j.val < 2096
    · rw [dif_pos h2, dif_neg h1, dif_neg h1, dif_pos h2]
    · rw [dif_neg h2, dif_neg h1, dif_neg h2]

section blocks
variable (c : Dev nD) (t : Fin cfg0.N)

theorem b0 (r : Fin 512) (k : Fin 2048) : iblk m c 0 t (ix2 r k)
    = (show FVec Ideal S16x2048x2048 .f32 from m ((c.tc : Thread nD τ).loc main_arg0)) (ix3 ⟨(512 * t.val + r.val) / 2048, by have := lt_of_lt_of_eq t.isLt N_0; omega⟩ ⟨(512 * t.val + r.val) % 2048, by omega⟩ k) := by
  have ht := lt_of_lt_of_eq t.isLt N_0
  show iblk m c 0 t (ix2 r k) = _
  blk_ext! [iblk, V, idx t]

theorem b1 (k : Fin 2048) : iblk m c 1 t (ix2 0 k)
    = (show FVec Ideal S1x2048 .f32 from m ((c.tc : Thread nD τ).loc main_arg1)) (ix2 0 k) := by
  show iblk m c 1 t (ix2 0 k) = _
  blk_ext! [iblk, V, idx t]

/-- The rearranged weight, column by column. -/
def Wt (x2 : FVec Ideal S1x2048x4656 .f32) (k : Fin 2048) (j : Fin 4736) : EReal :=
  if h : j.val < 2560 then x2 (ix3 0 k ⟨j.val, by omega⟩)
  else if h' : j.val < 4608 then x2 (ix3 0 k ⟨2608 + (j.val - 2560), by omega⟩)
  else if h'' : j.val < 4656 then x2 (ix3 0 k ⟨2560 + (j.val - 4608), by omega⟩) else 0

/-- The rearranged weight is the four pieces side by side. -/
theorem V7 : (show FVec Ideal S2048x4736 .bf16 from V m c main_v7) = truncf .bf16 (show FVec Ideal S2048x4736 .f32 from V m c main_v6) bitsLt_bf16_f32 := by
  sl_kernel_rfl
set_option maxHeartbeats 4000000 in
theorem V6 : (show FVec Ideal S2048x4736 .f32 from V m c main_v6) = (concatenate S2048x4736 1 [⟨S2048x2560, (show FVec Ideal S2048x2560 .f32 from V m c main_v2)⟩, ⟨S2048x2048, (show FVec Ideal S2048x2048 .f32 from V m c main_v3)⟩, ⟨S2048x48, (show FVec Ideal S2048x48 .f32 from V m c main_v4)⟩, ⟨S2048x80, (show FVec Ideal S2048x80 .f32 from V m c main_v5)⟩] concatenates_S2048x2560_S2048x2048_S2048x48_S2048x80_S2048x4736_d1) := by
  sl_kernel_rfl

theorem V2 (k : Fin 2048) (j : Fin 2560) : (show FVec Ideal S2048x2560 .f32 from V m c main_v2) (ix2 k j) = (show FVec Ideal S1x2048x4656 .f32 from m ((c.tc : Thread nD τ).loc main_arg2)) (ix3 0 k ⟨j.val, by omega⟩) := by
  entry_read
  pointwise

theorem V3 (k : Fin 2048) (j : Fin 2048) : (show FVec Ideal S2048x2048 .f32 from V m c main_v3) (ix2 k j) = (show FVec Ideal S1x2048x4656 .f32 from m ((c.tc : Thread nD τ).loc main_arg2)) (ix3 0 k ⟨2608 + j.val, by omega⟩) := by
  entry_read
  pointwise

theorem V4 (k : Fin 2048) (j : Fin 48) : (show FVec Ideal S2048x48 .f32 from V m c main_v4) (ix2 k j) = (show FVec Ideal S1x2048x4656 .f32 from m ((c.tc : Thread nD τ).loc main_arg2)) (ix3 0 k ⟨2560 + j.val, by omega⟩) := by
  entry_read
  pointwise

theorem V5 (k : Fin 2048) (j : Fin 80) : (show FVec Ideal S2048x80 .f32 from V m c main_v5) (ix2 k j) = (0 : EReal) := by
  entry_read
  pointwise

set_option maxHeartbeats 4000000 in
theorem b2 (k : Fin 2048) (j : Fin 4736) : iblk m c 2 t (ix2 k j) = Wt (m ((c.tc : Thread nD τ).loc main_arg2)) k j := by
  show iblk m c 2 t (ix2 k j) = _
  have e : ((cfg0.win 2).blk t).view.emb (ix2 k j) = ix2 k j := by blk_ext [idx t]
  refine (congrArg (V m c main_v7) e).trans ?_
  refine (congrFun (V7 m c) (ix2 k j)).trans ?_
  rw [V6]
  pointwise [Wt]
  have hj := j.isLt
  by_cases h1 : j.val < 2560
  · rw [dif_pos h1, dif_pos h1]
    exact V2 m c k ⟨j.val, h1⟩
  · rw [dif_neg h1, dif_neg h1]
    by_cases h2 : j.val < 4608
    · rw [dif_pos (show j.val - 2560 < 2048 by omega), dif_pos h2]
      exact V3 m c k ⟨j.val - 2560, by omega⟩
    · rw [dif_neg (show ¬ j.val - 2560 < 2048 by omega), dif_neg h2]
      have e : j.val - 2560 - 2048 = j.val - 4608 := by omega
      by_cases h3 : j.val < 4656
      · rw [dif_pos (show j.val - 2560 - 2048 < 48 by omega), dif_pos h3]
        simp only [e]
        exact V4 m c k ⟨j.val - 4608, by omega⟩
      · rw [dif_neg (show ¬ j.val - 2560 - 2048 < 48 by omega), dif_neg h3]
        exact V5 m c k _

end blocks

set_option maxHeartbeats 2000000 in
theorem q_eq (c : Dev nD) : (dats m 0 c).arrAt 3 cfg0.N = val_main_v20 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold outsAt0
  frame_out
  have ht := lt_of_lt_of_eq t.isLt N_0
  obtain ⟨y0, y1, rfl⟩ : ∃ (a : Fin 512) (b : Fin 2560), y = ix2 a b := ⟨_, _, eq_ix2 y⟩
  rw [show ((View.whole main_v10_0).slice (win0_3.rect t)).emb (ix2 y0 y1) = ix2 (⟨512 * t.val + y0.val, by omega⟩ : Fin 32768) y1 by blk_ext [idx t], ref_q]
  canon_tiles x h
  · obtain ⟨x0, x1, rfl⟩ : ∃ (a b : Fin 512), x = ix2 a b := ⟨_, _, eq_ix2 x⟩
    obtain rfl : y0 = x0 := Fin.ext h0
    have w : 2048 + x1.val < 2560 := by have := x1.isLt; clear h1; omega
    obtain rfl : y1 = ⟨2048 + x1.val, w⟩ := Fin.ext h1
    pointwise [k0_pay7, k0_pay6, k0_pay5, k0_pay4, k0_pay3, k0_pay2]
    unfold Gm Nx
    simp only [b0, b1, b2, Wt]
    refine Finset.sum_congr rfl fun k _ => ?_
    rw [dif_pos w]
  · obtain ⟨x0, x1, rfl⟩ : ∃ (a b : Fin 512), x = ix2 a b := ⟨_, _, eq_ix2 x⟩
    obtain rfl : y0 = x0 := Fin.ext h0
    have w : 1536 + x1.val < 2560 := by have := x1.isLt; clear h1; omega
    obtain rfl : y1 = ⟨1536 + x1.val, w⟩ := Fin.ext h1
    pointwise [k0_pay7, k0_pay6, k0_pay5, k0_pay4, k0_pay3, k0_pay2]
    unfold Gm Nx
    simp only [b0, b1, b2, Wt]
    refine Finset.sum_congr rfl fun k _ => ?_
    rw [dif_pos w]
  · obtain ⟨x0, x1, rfl⟩ : ∃ (a b : Fin 512), x = ix2 a b := ⟨_, _, eq_ix2 x⟩
    obtain rfl : y0 = x0 := Fin.ext h0
    have w : 1024 + x1.val < 2560 := by have := x1.isLt; clear h1; omega
    obtain rfl : y1 = ⟨1024 + x1.val, w⟩ := Fin.ext h1
    pointwise [k0_pay7, k0_pay6, k0_pay5, k0_pay4, k0_pay3, k0_pay2]
    unfold Gm Nx
    simp only [b0, b1, b2, Wt]
    refine Finset.sum_congr rfl fun k _ => ?_
    rw [dif_pos w]
  · obtain ⟨x0, x1, rfl⟩ : ∃ (a b : Fin 512), x = ix2 a b := ⟨_, _, eq_ix2 x⟩
    obtain rfl : y0 = x0 := Fin.ext h0
    have w : 512 + x1.val < 2560 := by have := x1.isLt; clear h1; omega
    obtain rfl : y1 = ⟨512 + x1.val, w⟩ := Fin.ext h1
    pointwise [k0_pay7, k0_pay6, k0_pay5, k0_pay4, k0_pay3, k0_pay2]
    unfold Gm Nx
    simp only [b0, b1, b2, Wt]
    refine Finset.sum_congr rfl fun k _ => ?_
    rw [dif_pos w]
  · obtain ⟨x0, x1, rfl⟩ : ∃ (a b : Fin 512), x = ix2 a b := ⟨_, _, eq_ix2 x⟩
    obtain rfl : y0 = x0 := Fin.ext h0
    have w : x1.val < 2560 := by have := x1.isLt; clear h1; omega
    obtain rfl : y1 = ⟨x1.val, w⟩ := Fin.ext h1
    pointwise [k0_pay7, k0_pay6, k0_pay5, k0_pay4, k0_pay3, k0_pay2]
    unfold Gm Nx
    simp only [b0, b1, b2, Wt]
    refine Finset.sum_congr rfl fun k _ => ?_
    rw [dif_pos w]

end Cert.InProjIdeal.Hand
end
-- ==== Proof.InProjValue.lean ====
module

public import proofs.«01_k».proof.Proof.Gen.InProjIdeal.Value
public import proofs.«01_k».proof.Proof.Gen.InProjRefIdeal.Read
public import proofs.«01_k».proof.Proof.InProjPoint
public import Idealize.ShloMosaic.Lib.Pipeline.ValueKit
public import Idealize.ShloMosaic.Lib.Pointwise
public import Idealize.ShloMosaic.Lib.Claim
public import Idealize.ShloMosaic.Lib.KernelVsHost

@[expose] public section

set_option maxRecDepth 16384

noncomputable section

namespace Cert.InProjIdeal.Hand

open Cert.InProjIdeal Cert.InProjIdeal.Gen Idealize.ShloMosaic Idealize.ShloMosaic.TcCoe Idealize.SL.Sem
open Idealize.ShloMosaic.Pipeline (Dat)
open Cert.InProjRefIdeal.Read

variable (m : (ℓ : Loc nD τ sig) → Buf (Elt Ideal) ℓ) (ρ : Dev nD → PrngReg)

set_option maxHeartbeats 2000000 in
theorem r_eq (c : Dev nD) : (dats m 0 c).arrAt 4 cfg0.N = val_main_v22 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  unfold outsAt0
  frame_out
  have ht := lt_of_lt_of_eq t.isLt N_0
  obtain ⟨y0, y1, rfl⟩ : ∃ (a : Fin 512) (b : Fin 2176), y = ix2 a b := ⟨_, _, eq_ix2 y⟩
  rw [show ((View.whole main_v10_1).slice (win0_4.rect t)).emb (ix2 y0 y1) = ix2 (⟨512 * t.val + y0.val, by omega⟩ : Fin 32768) y1 by blk_ext [idx t], ref_r]
  canon_tiles x h using (View.cover_of_tiledBy _ ![512, 128] (by sl_kernel_rfl) (ix2 y0 y1))
  · obtain ⟨x0, x1, rfl⟩ : ∃ (a : Fin 512) (b : Fin 128), x = ix2 a b := ⟨_, _, eq_ix2 x⟩
    obtain rfl : y0 = x0 := Fin.ext h0
    have w : 2048 + x1.val < 2176 := by have := x1.isLt; clear h1; omega
    obtain rfl : y1 = ⟨2048 + x1.val, w⟩ := Fin.ext h1
    pointwise [k0_pay1, k0_pay2]
    unfold Gr Gm Nx
    simp only [b0, b1, b2]
    rw [dif_neg (show ¬ 2048 + x1.val < 2048 by omega)]
    by_cases h48 : 2048 + x1.val < 2096
    · rw [dif_pos h48]
      refine Finset.sum_congr rfl fun k _ => ?_
      refine congrArg _ ?_
      unfold Wt
      rw [dif_neg (by dsimp only; omega), dif_neg (by dsimp only; omega), dif_pos (by dsimp only; omega)]
      exact congrArg (m ((c.tc : Thread nD τ).loc main_arg2)) (congrArg (ix3 0 k) (Fin.ext (by dsimp only; omega)))
    · rw [dif_neg h48]
      refine Finset.sum_eq_zero fun k _ => ?_
      unfold Wt
      rw [dif_neg (by dsimp only; omega), dif_neg (by dsimp only; omega), dif_neg (by dsimp only; omega), mul_zero]
  · obtain ⟨x0, x1, rfl⟩ : ∃ (a b : Fin 512), x = ix2 a b := ⟨_, _, eq_ix2 x⟩
    obtain rfl : y0 = x0 := Fin.ext h0
    have w : 1536 + x1.val < 2048 := by have := x1.isLt; clear h1; omega
    obtain rfl : y1 = ⟨1536 + x1.val, lt_trans w (by decide)⟩ := Fin.ext h1
    pointwise [k0_pay8, k0_pay9, k0_pay10, k0_pay11, k0_pay2]
    unfold Gr Gm Nx
    simp only [b0, b1, b2]
    rw [dif_pos w]
    refine Finset.sum_congr rfl fun k _ => ?_
    refine congrArg _ ?_
    unfold Wt
    rw [dif_neg (by dsimp only; omega), dif_pos (by dsimp only; omega)]
    exact congrArg (m ((c.tc : Thread nD τ).loc main_arg2)) (congrArg (ix3 0 k) (Fin.ext (by dsimp only; omega)))
  · obtain ⟨x0, x1, rfl⟩ : ∃ (a b : Fin 512), x = ix2 a b := ⟨_, _, eq_ix2 x⟩
    obtain rfl : y0 = x0 := Fin.ext h0
    have w : 1024 + x1.val < 2048 := by have := x1.isLt; clear h1; omega
    obtain rfl : y1 = ⟨1024 + x1.val, lt_trans w (by decide)⟩ := Fin.ext h1
    pointwise [k0_pay8, k0_pay9, k0_pay10, k0_pay11, k0_pay2]
    unfold Gr Gm Nx
    simp only [b0, b1, b2]
    rw [dif_pos w]
    refine Finset.sum_congr rfl fun k _ => ?_
    refine congrArg _ ?_
    unfold Wt
    rw [dif_neg (by dsimp only; omega), dif_pos (by dsimp only; omega)]
    exact congrArg (m ((c.tc : Thread nD τ).loc main_arg2)) (congrArg (ix3 0 k) (Fin.ext (by dsimp only; omega)))
  · obtain ⟨x0, x1, rfl⟩ : ∃ (a b : Fin 512), x = ix2 a b := ⟨_, _, eq_ix2 x⟩
    obtain rfl : y0 = x0 := Fin.ext h0
    have w : 512 + x1.val < 2048 := by have := x1.isLt; clear h1; omega
    obtain rfl : y1 = ⟨512 + x1.val, lt_trans w (by decide)⟩ := Fin.ext h1
    pointwise [k0_pay8, k0_pay9, k0_pay10, k0_pay11, k0_pay2]
    unfold Gr Gm Nx
    simp only [b0, b1, b2]
    rw [dif_pos w]
    refine Finset.sum_congr rfl fun k _ => ?_
    refine congrArg _ ?_
    unfold Wt
    rw [dif_neg (by dsimp only; omega), dif_pos (by dsimp only; omega)]
    exact congrArg (m ((c.tc : Thread nD τ).loc main_arg2)) (congrArg (ix3 0 k) (Fin.ext (by dsimp only; omega)))
  · obtain ⟨x0, x1, rfl⟩ : ∃ (a b : Fin 512), x = ix2 a b := ⟨_, _, eq_ix2 x⟩
    obtain rfl : y0 = x0 := Fin.ext h0
    have w : x1.val < 2048 := by have := x1.isLt; clear h1; omega
    obtain rfl : y1 = ⟨x1.val, lt_trans w (by decide)⟩ := Fin.ext h1
    pointwise [k0_pay8, k0_pay9, k0_pay10, k0_pay11, k0_pay2]
    unfold Gr Gm Nx
    simp only [b0, b1, b2]
    rw [dif_pos w]
    refine Finset.sum_congr rfl fun k _ => ?_
    refine congrArg _ ?_
    unfold Wt
    rw [dif_neg (by dsimp only; omega), dif_pos (by dsimp only; omega)]
    exact congrArg (m ((c.tc : Thread nD τ).loc main_arg2)) (congrArg (ix3 0 k) (Fin.ext (by dsimp only; omega)))

end Cert.InProjIdeal.Hand
end
-- ==== Proof.ProjClaims.lean ====
/- The claims about the feed-forward, output-projection and input-projection calls. -/
module

public import proofs.«01_k».proof.Defs
public import proofs.«01_k».proof.Proof.FfnValue
public import proofs.«01_k».proof.Proof.OutProjValue
public import proofs.«01_k».proof.Proof.InProjValue
public import proofs.«01_k».proof.Proof.FfnBitsFrame
public import proofs.«01_k».proof.Proof.Gen.OutProj.Frame
public import proofs.«01_k».proof.Proof.Gen.InProj.Frame
public import proofs.«01_k».proof.Proof.Gen.FfnRefIdeal.Run
public import proofs.«01_k».proof.Proof.Gen.OutProjRefIdeal.Run
public import proofs.«01_k».proof.Proof.Gen.InProjRefIdeal.Run
public import Idealize.ShloMosaic.Lib.Claim

@[expose] public section

set_option maxRecDepth 16384

noncomputable section

namespace Cert.Proof

open Idealize.ShloMosaic Idealize.ShloMosaic.TcCoe Idealize.SL.Sem

theorem frame_Ffn : Cert.quiescent_Ffn := fun m ρ _ => Cert.Ffn.Hand.frame m ρ
theorem frame_FfnIdeal : Cert.quiescent_FfnIdeal := fun m ρ _ => Cert.FfnIdeal.Hand.frame m ρ
theorem frame_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem frame_OutProj : Cert.quiescent_OutProj := fun m ρ _ => Cert.OutProj.Gen.frame m ρ
theorem frame_OutProjIdeal : Cert.quiescent_OutProjIdeal := fun m ρ _ => Cert.OutProjIdeal.Gen.frame m ρ
theorem frame_OutProjRefIdeal : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

theorem frame_InProj : Cert.quiescent_InProj := fun m ρ _ => Cert.InProj.Gen.frame m ρ
theorem frame_InProjIdeal : Cert.quiescent_InProjIdeal := fun m ρ _ => Cert.InProjIdeal.Gen.frame m ρ
theorem frame_InProjRefIdeal : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The feed-forward call and its reference end with the same array. -/
theorem algebraic_Ffn : Cert.algebraic_FfnIdeal_FfnRefIdeal := by
  intro m ρ m' ρ' _ hag
  refine ⟨fun c => (Cert.FfnIdeal.Hand.dats m 0 c).arrAt 8 Cert.FfnIdeal.cfg0.N, ?_, ?_⟩
  · refine (θ_run _ _ _).mono (fun r h c => ?_) (θ_run_and (Cert.FfnIdeal.Hand.run_main m ρ) (Cert.FfnIdeal.Hand.unchanged m ρ))
    exact ⟨(h.1 c).1 8, h.2 c⟩
  · refine (θ_run _ _ _).mono (fun r h c => ⟨(h c).1.trans ?_, (h c).2⟩) (Cert.FfnRefIdeal.Value.run (F := Ideal) m' ρ')
    obtain ⟨e0, e1, e2, e3, e4, e5, e6, e7⟩ := hag c
    rw [Cert.FfnRefIdeal.Read.val_main_v63_eq]
    refine Eq.trans ?_ (Cert.FfnIdeal.Hand.out_val m c).symm
    congr 1

/-- Both results of the output projection and of its reference agree. -/
theorem algebraic_OutProj : Cert.algebraic_OutProjIdeal_OutProjRefIdeal := by
  intro m ρ m' ρ' _ hag
  refine ⟨fun c => (Cert.OutProjIdeal.Gen.dats m 0 c).arrAt 6 Cert.OutProjIdeal.cfg0.N, fun c => (Cert.OutProjIdeal.Gen.dats m 0 c).arrAt 7 Cert.OutProjIdeal.cfg0.N,
    Cert.OutProjIdeal.Value.run_blocks m ρ, ?_⟩
  refine (θ_run _ _ _).mono (fun r h c => ⟨(h c).1.trans ?_, (h c).2.1.trans ?_, (h c).2.2⟩) (Cert.OutProjRefIdeal.Value.run (F := Ideal) m' ρ')
  · obtain ⟨e0, e1, e2, e3, e4, e5⟩ := hag c
    refine Eq.trans ?_ (Cert.OutProjIdeal.Hand.h_eq m c).symm
    rw [Cert.OutProjRefIdeal.Read.val_main_v19_eq]
    congr 1
  · obtain ⟨e0, e1, e2, e3, e4, e5⟩ := hag c
    refine Eq.trans ?_ (Cert.OutProjIdeal.Hand.y_eq m c).symm
    rw [Cert.OutProjRefIdeal.Read.val_main_v34_eq]
    congr 1

/-- Both results of the input projection and of its reference agree. -/
theorem algebraic_InProj : Cert.algebraic_InProjIdeal_InProjRefIdeal := by
  intro m ρ m' ρ' _ hag
  refine ⟨fun c => (Cert.InProjIdeal.Gen.dats m 0 c).arrAt 3 Cert.InProjIdeal.cfg0.N, fun c => (Cert.InProjIdeal.Gen.dats m 0 c).arrAt 4 Cert.InProjIdeal.cfg0.N,
    Cert.InProjIdeal.Value.run_blocks m ρ, ?_⟩
  refine (θ_run _ _ _).mono (fun r h c => ⟨(h c).1.trans ?_, (h c).2.1.trans ?_, (h c).2.2⟩) (Cert.InProjRefIdeal.Value.run (F := Ideal) m' ρ')
  · obtain ⟨e0, e1, e2⟩ := hag c
    refine Eq.trans ?_ (Cert.InProjIdeal.Hand.q_eq m c).symm
    rw [Cert.InProjRefIdeal.Read.val_main_v20_eq]
    congr 1
  · obtain ⟨e0, e1, e2⟩ := hag c
    refine Eq.trans ?_ (Cert.InProjIdeal.Hand.r_eq m c).symm
    rw [Cert.InProjRefIdeal.Read.val_main_v22_eq]
    congr 1

end Cert.Proof

end
-- ==== Proof.lean ====
module

public import proofs.«01_k».proof.Defs
public import proofs.«01_k».proof.Proof.RglruClaims
public import proofs.«01_k».proof.Proof.RglruAlgebraic
public import proofs.«01_k».proof.Proof.ProjClaims

@[expose] public section

noncomputable section

namespace Cert.Proof

open Idealize.ShloMosaic Idealize.SL.Sem

theorem claim : Cert.Claim := ⟨Cert.Rglru.Gen.facts, Cert.RglruIdeal.Gen.facts, Cert.RglruRefIdeal.Gen.facts,
  Cert.Ffn.Gen.facts, Cert.FfnIdeal.Gen.facts, Cert.FfnRefIdeal.Gen.facts,
  Cert.OutProj.Gen.facts, Cert.OutProjIdeal.Gen.facts, Cert.OutProjRefIdeal.Gen.facts,
  Cert.InProj.Gen.facts, Cert.InProjIdeal.Gen.facts, Cert.InProjRefIdeal.Gen.facts,
  frame_Rglru, frame_RglruIdeal, frame_RglruRefIdeal,
  frame_Ffn, frame_FfnIdeal, frame_FfnRefIdeal,
  frame_OutProj, frame_OutProjIdeal, frame_OutProjRefIdeal,
  frame_InProj, frame_InProjIdeal, frame_InProjRefIdeal,
  trivial, algebraic_Rglru, trivial, algebraic_Ffn, trivial, algebraic_OutProj, trivial, algebraic_InProj⟩

end Cert.Proof

end
